-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v72) = v0 c
          ∧ r.2.mem ((c.tc : Thread Cert.Reference8Ideal.nD Cert.Reference8Ideal.τ).loc Cert.Reference8Ideal.main_v73) = v1 c
          ∧ r.2.mem ((c.tc : Thread Cert.Reference8Ideal.nD Cert.Reference8Ideal.τ).loc Cert.Reference8Ideal.main_v74) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v34) = v0 c
          ∧ r.2.mem ((c.tc : Thread Cert.Reference10Ideal.nD Cert.Reference10Ideal.τ).loc Cert.Reference10Ideal.main_v17) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x6144 : Shape := ⟨2, ![4096, 6144]⟩
abbrev S4096x2048 : Shape := ⟨2, ![4096, 2048]⟩
abbrev S_ : Shape := ⟨0, ![]⟩

class Facts : Prop where
  bcast_S_S4096x6144 : S_.BroadcastsInDim S4096x6144 (![] : Fin 0 → Fin S4096x6144.rank)
  bcast_S_S4096x2048 : S_.BroadcastsInDim S4096x2048 (![] : Fin 0 → Fin S4096x2048.rank)

variable [Facts]

def fn {F : FTy → Type} [FloatOps F] (main_arg0 : FVec F S4096x6144 .bf16) (main_arg1 : FVec F S4096x2048 .f32) : IVec S4096x6144 1 × IVec S4096x2048 1 :=
  let main_v0 : FVec F S4096x6144 .bf16 := Host.absf main_arg0
  let main_cst : FVec F S_ .bf16 := constant S_ .bf16 0x7F80#16
  let main_v1 : FVec F S4096x6144 .bf16 := broadcastInDim S4096x6144 ![] bcast_S_S4096x6144 main_cst
  let main_v2 : IVec S4096x6144 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  (main_v2, main_v5)
-- ==== Kernel.lean ====
abbrev S4096x6144 : Shape := ⟨2, ![4096, 6144]⟩
abbrev S4096x2048 : Shape := ⟨2, ![4096, 2048]⟩
abbrev S4096x3x16x128 : Shape := ⟨4, ![4096, 3, 16, 128]⟩
abbrev S4096x1x16x128 : Shape := ⟨4, ![4096, 1, 16, 128]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x4096 : Shape := ⟨2, ![16, 4096]⟩
abbrev S16x4096x1 : Shape := ⟨3, ![16, 4096, 1]⟩
abbrev S256x128 : Shape := ⟨2, ![256, 128]⟩
abbrev S4096x128 : Shape := ⟨2, ![4096, 128]⟩
abbrev S1x256x1 : Shape := ⟨3, ![1, 256, 1]⟩
abbrev S256x1 : Shape := ⟨2, ![256, 1]⟩
abbrev S256x256 : Shape := ⟨2, ![256, 256]⟩
abbrev S512x128 : Shape := ⟨2, ![512, 128]⟩
abbrev S256x512 : Shape := ⟨2, ![256, 512]⟩
abbrev S1536x256 : Shape := ⟨2, ![1536, 256]⟩
abbrev S256 : Shape := ⟨1, ![256]⟩
abbrev S1024x256 : Shape := ⟨2, ![1024, 256]⟩

abbrev nBuf : Space → Nat
  | .hbm => 48
  | .vmem => 16
  | .smem => 0
  | _ => 0

abbrev bufTy : (tb : Table) → Fin (tcTables nBuf tb) → BufTy
  | .hbm, ⟨0, _⟩ => ⟨S4096x6144, .bf16⟩
  | .hbm, ⟨1, _⟩ => ⟨S4096x2048, .f32⟩
  | .hbm, ⟨2, _⟩ => ⟨S4096x6144, .f32⟩
  | .hbm, ⟨3, _⟩ => ⟨S4096x3x16x128, .f32⟩
  | .hbm, ⟨4, _⟩ => ⟨S4096x1x16x128, .f32⟩
  | .hbm, ⟨5, _⟩ => ⟨S4096x16x128, .f32⟩
  | .hbm, ⟨6, _⟩ => ⟨S4096x1x16x128, .f32⟩
  | .hbm, ⟨7, _⟩ => ⟨S4096x16x128, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S1x4096, .i32⟩
  | .hbm, ⟨14, _⟩ => ⟨S4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x4096x4096, .i1⟩
  | .hbm, ⟨20, _⟩ => ⟨S16x4096x4096, .f32⟩
  | .hbm, ⟨21, _⟩ => ⟨S16x4096x4096, .f32⟩
  | .hbm, ⟨22, _⟩ => ⟨S_, .f32⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .i1⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x4096, .f32⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S_, .f32⟩
  | .hbm, ⟨39, _⟩ => ⟨S16x4096x4096, .i1⟩
  | .hbm, ⟨40, _⟩ => ⟨S16x4096x4096, .f32⟩
  | .hbm, ⟨41, _⟩ => ⟨S16x4096x4096, .f32⟩
  | .hbm, ⟨42, _⟩ => ⟨S_, .f32⟩
  | .hbm, ⟨43, _⟩ => ⟨S16x4096, .f32⟩
  | .hbm, ⟨44, _⟩ => ⟨S16x4096x1, .f32⟩
  | .hbm, ⟨45, _⟩ => ⟨S4096x2048, .bf16⟩
  | .hbm, ⟨46, _⟩ => ⟨S4096x2048, .f32⟩
  | .hbm, ⟨47, _⟩ => ⟨S4096x2048, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x256x1, .f32⟩
  | .local _ .vmem, ⟨7, _⟩ => ⟨S1x256x1, .f32⟩
  | .local _ .vmem, ⟨8, _⟩ => ⟨S256x128, .f32⟩
  | .local _ .vmem, ⟨9, _⟩ => ⟨S256x128, .f32⟩
  | .local _ .vmem, ⟨10, _⟩ => ⟨S256x128, .bf16⟩
  | .local _ .vmem, ⟨11, _⟩ => ⟨S256x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_cst_1 : Ref sig .tc := ⟨.hbm, 42, rfl⟩
abbrev main_v20 : Ref sig .tc := ⟨.hbm, 43, rfl⟩
abbrev main_v21 : Ref sig .tc := ⟨.hbm, 44, rfl⟩
abbrev main_v22_0 : Ref sig .tc := ⟨.hbm, 45, rfl⟩
abbrev main_v22_1 : Ref sig .tc := ⟨.hbm, 46, rfl⟩
abbrev main_v22_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_17 : BitVec 32 := 0#32
  let arg1 : BitVec 32 := BitVec.ofNat 32 (i 1).val
  let c256_i32 : BitVec 32 := 256#32
  let v20 : BitVec 32 := Scalar.muli arg1 c256_i32
  let c256_i32_7 : BitVec 32 := 256#32
  let v21 : BitVec 32 := Scalar.addi v20 c256_i32_7
  let c512_i32 : BitVec 32 := 512#32
  let v22 : BitVec 32 := Scalar.addi v21 c512_i32
  let c1_i32 : BitVec 32 := 1#32
  let v23 : BitVec 32 := Scalar.subi v22 c1_i32
  let c0_i32_9 : BitVec 32 := 0#32
  let v25 : BitVec 1 := Scalar.cmpi .sgt v23 c0_i32_9
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c512_i32_8 : BitVec 32 := 512#32
  let c0_i32_11 : BitVec 32 := 0#32
  let v30 : BitVec 1 := Scalar.cmpi .sgt c512_i32_8 c0_i32_11
  let v31 : BitVec 32 := Scalar.extui v30
  let c0_i32_12 : BitVec 32 := 0#32
  let v32 : BitVec 1 := Scalar.cmpi .slt c512_i32_8 c0_i32_12
  let v33 : BitVec 32 := Scalar.extui v32
  let v34 : BitVec 32 := Scalar.subi v31 v33
  let v35 : BitVec 1 := Scalar.cmpi .ne v29 v34
  let v36 : BitVec 32 := Scalar.remsi v23 c512_i32_8
  let c0_i32_13 : BitVec 32 := 0#32
  let v37 : BitVec 1 := Scalar.cmpi .ne v36 c0_i32_13
  let v38 : BitVec 1 := Scalar.andi v35 v37
  let v24 : BitVec 32 := Scalar.divsi v23 c512_i32_8
  let c1_i32_14 : BitVec 32 := 1#32
  let v39 : BitVec 32 := Scalar.subi v24 c1_i32_14
  let v40 : BitVec 32 := Scalar.select v38 v39 v24
  let c1_i32_15 : BitVec 32 := 1#32
  let v42 : BitVec 32 := Scalar.subi v40 c1_i32_15
  let v44 : BitVec 32 := Scalar.subi v42 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_19 : BitVec 32 := 1#32
  ⟨c0_i32_17, v48, c1_i32_19⟩
def k0_mult1 (i : grid0.Coords) (k0_t1 : Fin (k0_t1_loop i).trips) : BitVec 32 :=
  let c0_i32_17 : BitVec 32 := 0#32
  let c1_i32_19 : BitVec 32 := 1#32
  let arg10 : BitVec 32 := Scf.iv c0_i32_17 c1_i32_19 k0_t1
  let c512_i32_58 : BitVec 32 := 512#32
  let v198 : BitVec 32 := Scalar.muli arg10 c512_i32_58
  v198
def k0_off1 (i : grid0.Coords) (k0_t1 : Fin (k0_t1_loop i).trips) : Fin 2 → Nat :=
  let c0_i32_17 : BitVec 32 := 0#32
  let c1_i32_19 : BitVec 32 := 1#32
  let arg10 : BitVec 32 := Scf.iv c0_i32_17 c1_i32_19 k0_t1
  let c512_i32_58 : BitVec 32 := 512#32
  let v198 : BitVec 32 := Scalar.muli arg10 c512_i32_58
  let v199 : BitVec 32 := v198
  let v200 : Index := Scalar.indexCast v199
  let c0_59 : Index := 0#32
  ![v200.toNat, 0]
@[reducible] def k0_t2_loop (i : grid0.Coords) : Scf.Loop 32 :=
  let c0_i32_17 : BitVec 32 := 0#32
  let arg1 : BitVec 32 := BitVec.ofNat 32 (i 1).val
  let c256_i32 : BitVec 32 := 256#32
  let v20 : BitVec 32 := Scalar.muli arg1 c256_i32
  let c256_i32_7 : BitVec 32 := 256#32
  let v21 : BitVec 32 := Scalar.addi v20 c256_i32_7
  let c512_i32 : BitVec 32 := 512#32
  let v22 : BitVec 32 := Scalar.addi v21 c512_i32
  let c1_i32 : BitVec 32 := 1#32
  let v23 : BitVec 32 := Scalar.subi v22 c1_i32
  let c0_i32_9 : BitVec 32 := 0#32
  let v25 : BitVec 1 := Scalar.cmpi .sgt v23 c0_i32_9
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c512_i32_8 : BitVec 32 := 512#32
  let c0_i32_11 : BitVec 32 := 0#32
  let v30 : BitVec 1 := Scalar.cmpi .sgt c512_i32_8 c0_i32_11
  let v31 : BitVec 32 := Scalar.extui v30
  let c0_i32_12 : BitVec 32 := 0#32
  let v32 : BitVec 1 := Scalar.cmpi .slt c512_i32_8 c0_i32_12
  let v33 : BitVec 32 := Scalar.extui v32
  let v34 : BitVec 32 := Scalar.subi v31 v33
  let v35 : BitVec 1 := Scalar.cmpi .ne v29 v34
  let v36 : BitVec 32 := Scalar.remsi v23 c512_i32_8
  let c0_i32_13 : BitVec 32 := 0#32
  let v37 : BitVec 1 := Scalar.cmpi .ne v36 c0_i32_13
  let v38 : BitVec 1 := Scalar.andi v35 v37
  let v24 : BitVec 32 := Scalar.divsi v23 c512_i32_8
  let c1_i32_14 : BitVec 32 := 1#32
  let v39 : BitVec 32 := Scalar.subi v24 c1_i32_14
  let v40 : BitVec 32 := Scalar.select v38 v39 v24
  let c1_i32_15 : BitVec 32 := 1#32
  let v42 : BitVec 32 := Scalar.subi v40 c1_i32_15
  let v44 : BitVec 32 := Scalar.subi v42 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let v45 : BitVec 32 := Scalar.addi c0_i32_17 v44
  let c1_i32_20 : BitVec 32 := 1#32
  ⟨v48, v45, c1_i32_20⟩
def k0_mult2 (i : grid0.Coords) (k0_t2 : Fin (k0_t2_loop i).trips) : BitVec 32 :=
  let c0_i32_17 : BitVec 32 := 0#32
  let arg1 : BitVec 32 := BitVec.ofNat 32 (i 1).val
  let c256_i32 : BitVec 32 := 256#32
  let v20 : BitVec 32 := Scalar.muli arg1 c256_i32
  let c256_i32_7 : BitVec 32 := 256#32
  let v21 : BitVec 32 := Scalar.addi v20 c256_i32_7
  let c512_i32 : BitVec 32 := 512#32
  let v22 : BitVec 32 := Scalar.addi v21 c512_i32
  let c1_i32 : BitVec 32 := 1#32
  let v23 : BitVec 32 := Scalar.subi v22 c1_i32
  let c0_i32_9 : BitVec 32 := 0#32
  let v25 : BitVec 1 := Scalar.cmpi .sgt v23 c0_i32_9
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c512_i32_8 : BitVec 32 := 512#32
  let c0_i32_11 : BitVec 32 := 0#32
  let v30 : BitVec 1 := Scalar.cmpi .sgt c512_i32_8 c0_i32_11
  let v31 : BitVec 32 := Scalar.extui v30
  let c0_i32_12 : BitVec 32 := 0#32
  let v32 : BitVec 1 := Scalar.cmpi .slt c512_i32_8 c0_i32_12
  let v33 : BitVec 32 := Scalar.extui v32
  let v34 : BitVec 32 := Scalar.subi v31 v33
  let v35 : BitVec 1 := Scalar.cmpi .ne v29 v34
  let v36 : BitVec 32 := Scalar.remsi v23 c512_i32_8
  let c0_i32_13 : BitVec 32 := 0#32
  let v37 : BitVec 1 := Scalar.cmpi .ne v36 c0_i32_13
  let v38 : BitVec 1 := Scalar.andi v35 v37
  let v24 : BitVec 32 := Scalar.divsi v23 c512_i32_8
  let c1_i32_14 : BitVec 32 := 1#32
  let v39 : BitVec 32 := Scalar.subi v24 c1_i32_14
  let v40 : BitVec 32 := Scalar.select v38 v39 v24
  let c1_i32_15 : BitVec 32 := 1#32
  let v42 : BitVec 32 := Scalar.subi v40 c1_i32_15
  let v44 : BitVec 32 := Scalar.subi v42 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg10 : BitVec 32 := Scf.iv v48 c1_i32_20 k0_t2
  let c512_i32_58 : BitVec 32 := 512#32
  let v198 : BitVec 32 := Scalar.muli arg10 c512_i32_58
  v198
def k0_off2 (i : grid0.Coords) (k0_t2 : Fin (k0_t2_loop i).trips) : Fin 2 → Nat :=
  let c0_i32_17 : BitVec 32 := 0#32
  let arg1 : BitVec 32 := BitVec.ofNat 32 (i 1).val
  let c256_i32 : BitVec 32 := 256#32
  let v20 : BitVec 32 := Scalar.muli arg1 c256_i32
  let c256_i32_7 : BitVec 32 := 256#32
  let v21 : BitVec 32 := Scalar.addi v20 c256_i32_7
  let c512_i32 : BitVec 32 := 512#32
  let v22 : BitVec 32 := Scalar.addi v21 c512_i32
  let c1_i32 : BitVec 32 := 1#32
  let v23 : BitVec 32 := Scalar.subi v22 c1_i32
  let c0_i32_9 : BitVec 32 := 0#32
  let v25 : BitVec 1 := Scalar.cmpi .sgt v23 c0_i32_9
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c512_i32_8 : BitVec 32 := 512#32
  let c0_i32_11 : BitVec 32 := 0#32
  let v30 : BitVec 1 := Scalar.cmpi .sgt c512_i32_8 c0_i32_11
  let v31 : BitVec 32 := Scalar.extui v30
  let c0_i32_12 : BitVec 32 := 0#32
  let v32 : BitVec 1 := Scalar.cmpi .slt c512_i32_8 c0_i32_12
  let v33 : BitVec 32 := Scalar.extui v32
  let v34 : BitVec 32 := Scalar.subi v31 v33
  let v35 : BitVec 1 := Scalar.cmpi .ne v29 v34
  let v36 : BitVec 32 := Scalar.remsi v23 c512_i32_8
  let c0_i32_13 : BitVec 32 := 0#32
  let v37 : BitVec 1 := Scalar.cmpi .ne v36 c0_i32_13
  let v38 : BitVec 1 := Scalar.andi v35 v37
  let v24 : BitVec 32 := Scalar.divsi v23 c512_i32_8
  let c1_i32_14 : BitVec 32 := 1#32
  let v39 : BitVec 32 := Scalar.subi v24 c1_i32_14
  let v40 : BitVec 32 := Scalar.select v38 v39 v24
  let c1_i32_15 : BitVec 32 := 1#32
  let v42 : BitVec 32 := Scalar.subi v40 c1_i32_15
  let v44 : BitVec 32 := Scalar.subi v42 c0_i32_17
  let c1_i32_18 : BitVec 32 := 1#32
  let v46 : BitVec 32 := Scalar.divsi v44 c1_i32_18
  let v47 : BitVec 32 := Scalar.muli v46 c1_i32_18
  let v48 : BitVec 32 := Scalar.addi c0_i32_17 v47
  let c1_i32_20 : BitVec 32 := 1#32
  let arg10 : BitVec 32 := Scf.iv v48 c1_i32_20 k0_t2
  let c512_i32_58 : BitVec 32 := 512#32
  let v198 : BitVec 32 := Scalar.muli arg10 c512_i32_58
  let v199 : BitVec 32 := v198
  let v200 : Index := Scalar.indexCast v199
  let c0_59 : Index := 0#32
  ![v200.toNat, 0]
def k0_mult3 (i : grid0.Coords) : BitVec 32 :=
  let arg1 : BitVec 32 := BitVec.ofNat 32 (i 1).val
  let c256_i32 : BitVec 32 := 256#32
  let v20 : BitVec 32 := Scalar.muli arg1 c256_i32
  let c256_i32_7 : BitVec 32 := 256#32
  let v21 : BitVec 32 := Scalar.addi v20 c256_i32_7
  let c512_i32 : BitVec 32 := 512#32
  let v22 : BitVec 32 := Scalar.addi v21 c512_i32
  let c1_i32 : BitVec 32 := 1#32
  let v23 : BitVec 32 := Scalar.subi v22 c1_i32
  let c0_i32_9 : BitVec 32 := 0#32
  let v25 : BitVec 1 := Scalar.cmpi .sgt v23 c0_i32_9
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c512_i32_8 : BitVec 32 := 512#32
  let c0_i32_11 : BitVec 32 := 0#32
  let v30 : BitVec 1 := Scalar.cmpi .sgt c512_i32_8 c0_i32_11
  let v31 : BitVec 32 := Scalar.extui v30
  let c0_i32_12 : BitVec 32 := 0#32
  let v32 : BitVec 1 := Scalar.cmpi .slt c512_i32_8 c0_i32_12
  let v33 : BitVec 32 := Scalar.extui v32
  let v34 : BitVec 32 := Scalar.subi v31 v33
  let v35 : BitVec 1 := Scalar.cmpi .ne v29 v34
  let v36 : BitVec 32 := Scalar.remsi v23 c512_i32_8
  let c0_i32_13 : BitVec 32 := 0#32
  let v37 : BitVec 1 := Scalar.cmpi .ne v36 c0_i32_13
  let v38 : BitVec 1 := Scalar.andi v35 v37
  let v24 : BitVec 32 := Scalar.divsi v23 c512_i32_8
  let c1_i32_14 : BitVec 32 := 1#32
  let v39 : BitVec 32 := Scalar.subi v24 c1_i32_14
  let v40 : BitVec 32 := Scalar.select v38 v39 v24
  let c1_i32_21 : BitVec 32 := 1#32
  let v51 : BitVec 32 := Scalar.subi v40 c1_i32_21
  let c512_i32_22 : BitVec 32 := 512#32
  let v52 : BitVec 32 := Scalar.muli v51 c512_i32_22
  v52
def k0_off3 (i : grid0.Coords) : Fin 2 → Nat :=
  let arg1 : BitVec 32 := BitVec.ofNat 32 (i 1).val
  let c256_i32 : BitVec 32 := 256#32
  let v20 : BitVec 32 := Scalar.muli arg1 c256_i32
  let c256_i32_7 : BitVec 32 := 256#32
  let v21 : BitVec 32 := Scalar.addi v20 c256_i32_7
  let c512_i32 : BitVec 32 := 512#32
  let v22 : BitVec 32 := Scalar.addi v21 c512_i32
  let c1_i32 : BitVec 32 := 1#32
  let v23 : BitVec 32 := Scalar.subi v22 c1_i32
  let c0_i32_9 : BitVec 32 := 0#32
  let v25 : BitVec 1 := Scalar.cmpi .sgt v23 c0_i32_9
  let v26 : BitVec 32 := Scalar.extui v25
  let c0_i32_10 : BitVec 32 := 0#32
  let v27 : BitVec 1 := Scalar.cmpi .slt v23 c0_i32_10
  let v28 : BitVec 32 := Scalar.extui v27
  let v29 : BitVec 32 := Scalar.subi v26 v28
  let c512_i32_8 : BitVec 32 := 512#32
  let c0_i32_11 : BitVec 32 := 0#32
  let v30 : BitVec 1 := Scalar.cmpi .sgt c512_i32_8 c0_i32_11
  let v31 : BitVec 32 := Scalar.extui v30
  let c0_i32_12 : BitVec 32 := 0#32
  let v32 : BitVec 1 := Scalar.cmpi .slt c512_i32_8 c0_i32_12
  let v33 : BitVec 32 := Scalar.extui v32
  let v34 : BitVec 32 := Scalar.subi v31 v33
  let v35 : BitVec 1 := Scalar.cmpi .ne v29 v34
  let v36 : BitVec 32 := Scalar.remsi v23 c512_i32_8
  let c0_i32_13 : BitVec 32 := 0#32
  let v37 : BitVec 1 := Scalar.cmpi .ne v36 c0_i32_13
  let v38 : BitVec 1 := Scalar.andi v35 v37
  let v24 : BitVec 32 := Scalar.divsi v23 c512_i32_8
  let c1_i32_14 : BitVec 32 := 1#32
  let v39 : BitVec 32 := Scalar.subi v24 c1_i32_14
  let v40 : BitVec 32 := Scalar.select v38 v39 v24
  let c1_i32_21 : BitVec 32 := 1#32
  let v51 : BitVec 32 := Scalar.subi v40 c1_i32_21
  let c512_i32_22 : BitVec 32 := 512#32
  let v52 : BitVec 32 := Scalar.muli v51 c512_i32_22
  let v53 : BitVec 32 := v52
  let v54 : Index := Scalar.indexCast v53
  let c0_23 : Index := 0#32
  ![v54.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x6144 : Shape := ⟨2, ![4096, 6144]⟩
abbrev S4096x2048 : Shape := ⟨2, ![4096, 2048]⟩
abbrev S4096x3x16x128 : Shape := ⟨4, ![4096, 3, 16, 128]⟩
abbrev S4096x1x16x128 : Shape := ⟨4, ![4096, 1, 16, 128]⟩
abbrev S4096x16x128 : Shape := ⟨3, ![4096, 16, 128]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x4096 : Shape := ⟨3, ![1, 4096, 4096]⟩
abbrev S16x128x4096 : Shape := ⟨3, ![16, 128, 4096]⟩
abbrev S16x4096x128 : Shape := ⟨3, ![16, 4096, 128]⟩

abbrev nBuf : Space → Nat
  | .hbm => 190
  | .vmem => 0
  | .smem => 0
  | _ => 0

abbrev hbmTy0_0 (i : Nat) : BufTy := match i % 128 with
  | 0 => ⟨S4096x6144, .bf16⟩
  | 1 => ⟨S4096x2048, .f32⟩
  | 2 => ⟨S4096x6144, .f32⟩
  | 3 => ⟨S4096x3x16x128, .f32⟩
  | 4 => ⟨S4096x1x16x128, .f32⟩
  | 5 => ⟨S4096x16x128, .f32⟩
  | 6 => ⟨S4096x1x16x128, .f32⟩
  | 7 => ⟨S4096x16x128, .f32⟩
  | 8 => ⟨S4096x1x16x128, .f32⟩
  | 9 => ⟨S4096x16x128, .f32⟩
  | 10 => ⟨S16x4096x4096, .f32⟩
  | 11 => ⟨S_, .f32⟩
  | 12 => ⟨S16x4096x4096, .f32⟩
  | 13 => ⟨S16x4096x4096, .f32⟩
  | 14 => ⟨S4096, .i32⟩
  | 15 => ⟨S1x4096, .i32⟩
  | 16 => ⟨S4096, .i32⟩
  | 17 => ⟨S4096x1, .i32⟩
  | 18 => ⟨S4096x4096, .i32⟩
  | 19 => ⟨S4096x4096, .i32⟩
  | 20 => ⟨S4096x4096, .i1⟩
  | 21 => ⟨S1x4096x4096, .i1⟩
  | 22 => ⟨S16x4096x4096, .f32⟩
  | 23 => ⟨S_, .f32⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .i1⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S_, .f32⟩
  | 38 => ⟨S16x4096x4096, .f32⟩
  | 39 => ⟨S16x4096x4096, .i1⟩
  | 40 => ⟨S_, .f32⟩
  | 41 => ⟨S16x4096x4096, .f32⟩
  | 42 => ⟨S16x4096x4096, .f32⟩
  | 43 => ⟨S_, .f32⟩
  | 44 => ⟨S16x4096x4096, .f32⟩
  | 45 => ⟨S16x4096x4096, .i1⟩
  | 46 => ⟨S_, .f32⟩
  | 47 => ⟨S16x4096x4096, .f32⟩
  | 48 => ⟨S16x4096x4096, .f32⟩
  | 49 => ⟨S16x4096x4096, .f32⟩
  | 50 => ⟨S16x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S16x4096x4096, .f32⟩
  | 59 => ⟨S16x4096x4096, .i1⟩
  | 60 => ⟨S_, .f32⟩
  | 61 => ⟨S16x4096x4096, .f32⟩
  | 62 => ⟨S16x4096x4096, .f32⟩
  | 63 => ⟨S16x4096x4096, .f32⟩
  | 64 => ⟨S16x4096x4096, .f32⟩
  | 65 => ⟨S16x4096x4096, .f32⟩
  | 66 => ⟨S_, .f32⟩
  | 67 => ⟨S16x4096x4096, .f32⟩
  | 68 => ⟨S16x4096x4096, .f32⟩
  | 69 => ⟨S16x4096x4096, .f32⟩
  | 70 => ⟨S16x4096x4096, .f32⟩
  | 71 => ⟨S16x4096x4096, .f32⟩
  | 72 => ⟨S_, .f32⟩
  | 73 => ⟨S16x4096x4096, .f32⟩
  | 74 => ⟨S16x4096x4096, .f32⟩
  | 75 => ⟨S16x4096x4096, .f32⟩
  | 76 => ⟨S16x4096x4096, .f32⟩
  | 77 => ⟨S16x4096x4096, .i1⟩
  | 78 => ⟨S16x4096x4096, .f32⟩
  | 79 => ⟨S16x4096x4096, .f32⟩
  | 80 => ⟨S16x4096x4096, .f32⟩
  | 81 => ⟨S16x4096x4096, .f32⟩
  | 82 => ⟨S16x4096x4096, .f32⟩
  | 83 => ⟨S16x4096x4096, .f32⟩
  | 84 => ⟨S16x4096x4096, .f32⟩
  | 85 => ⟨S16x4096x4096, .f32⟩
  | 86 => ⟨S_, .f32⟩
  | 87 => ⟨S16x4096x4096, .f32⟩
  | 88 => ⟨S16x4096x4096, .i1⟩
  | 89 => ⟨S_, .f32⟩
  | 90 => ⟨S16x4096x4096, .f32⟩
  | 91 => ⟨S16x4096x4096, .f32⟩
  | 92 => ⟨S_, .f32⟩
  | 93 => ⟨S16x4096x4096, .f32⟩
  | 94 => ⟨S16x4096x4096, .i1⟩
  | 95 => ⟨S_, .f32⟩
  | 96 => ⟨S16x4096x4096, .f32⟩
  | 97 => ⟨S16x4096x4096, .f32⟩
  | 98 => ⟨S16x4096x4096, .f32⟩
  | 99 => ⟨S16x4096x4096, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S16x4096x4096, .f32⟩
  | 108 => ⟨S16x4096x4096, .i1⟩
  | 109 => ⟨S_, .f32⟩
  | 110 => ⟨S16x4096x4096, .f32⟩
  | 111 => ⟨S16x4096x4096, .f32⟩
  | 112 => ⟨S16x4096x4096, .f32⟩
  | 113 => ⟨S16x4096x4096, .f32⟩
  | 114 => ⟨S16x4096x4096, .f32⟩
  | 115 => ⟨S_, .f32⟩
  | 116 => ⟨S16x4096x4096, .f32⟩
  | 117 => ⟨S16x4096x4096, .f32⟩
  | 118 => ⟨S16x4096x4096, .f32⟩
  | 119 => ⟨S_, .f32⟩
  | 120 => ⟨S_, .f32⟩
  | 121 => ⟨S16x4096x4096, .i1⟩
  | 122 => ⟨S16x4096x4096, .f32⟩
  | 123 => ⟨S16x4096x4096, .f32⟩
  | 124 => ⟨S_, .f32⟩
  | 125 => ⟨S16x4096x4096, .f32⟩
  | 126 => ⟨S_, .f32⟩
  | 127 => ⟨S_, .f32⟩
  | _ => ⟨S4096x6144, .bf16⟩

abbrev hbmTy0_1 (i : Nat) : BufTy := match i % 128 with
  | 0 => ⟨S16x4096x4096, .f32⟩
  | 1 => ⟨S16x4096x4096, .f32⟩
  | 2 => ⟨S16x4096x4096, .f32⟩
  | 3 => ⟨S16x4096x4096, .f32⟩
  | 4 => ⟨S_, .f32⟩
  | 5 => ⟨S_, .f32⟩
  | 6 => ⟨S16x4096x4096, .i1⟩
  | 7 => ⟨S16x4096x4096, .f32⟩
  | 8 => ⟨S16x4096x4096, .f32⟩
  | 9 => ⟨S_, .f32⟩
  | 10 => ⟨S16x4096x4096, .f32⟩
  | 11 => ⟨S16x128x4096, .f32⟩
  | 12 => ⟨S4096x16x128, .f32⟩
  | 13 => ⟨S4096x2048, .f32⟩
  | 14 => ⟨S4096x16x128, .f32⟩
  | 15 => ⟨S16x128x4096, .f32⟩
  | 16 => ⟨S16x4096x4096, .f32⟩
  | 17 => ⟨S16x128x4096, .f32⟩
  | 18 => ⟨S4096x16x128, .f32⟩
  | 19 => ⟨S_, .f32⟩
  | 20 => ⟨S16x4096x4096, .f32⟩
  | 21 => ⟨S16x4096x4096, .f32⟩
  | 22 => ⟨S16x4096x4096, .f32⟩
  | 23 => ⟨S16x4096x4096, .f32⟩
  | 24 => ⟨S_, .f32⟩
  | 25 => ⟨S_, .f32⟩
  | 26 => ⟨S16x4096x4096, .f32⟩
  | 27 => ⟨S16x4096x4096, .f32⟩
  | 28 => ⟨S_, .f32⟩
  | 29 => ⟨S16x4096x4096, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S16x4096x4096, .f32⟩
  | 36 => ⟨S16x4096x4096, .f32⟩
  | 37 => ⟨S16x4096x4096, .f32⟩
  | 38 => ⟨S16x4096x4096, .f32⟩
  | 39 => ⟨S_, .f32⟩
  | 40 => ⟨S16x4096x4096, .f32⟩
  | 41 => ⟨S16x4096x4096, .f32⟩
  | 42 => ⟨S16x4096x128, .f32⟩
  | 43 => ⟨S4096x16x128, .f32⟩
  | 44 => ⟨S16x4096x128, .f32⟩
  | 45 => ⟨S4096x16x128, .f32⟩
  | 46 => ⟨S4096x1x16x128, .f32⟩
  | 47 => ⟨S_, .f32⟩
  | 48 => ⟨S4096x3x16x128, .f32⟩
  | 49 => ⟨S4096x1x16x128, .f32⟩
  | 50 => ⟨S_, .f32⟩
  | 51 => ⟨S4096x3x16x128, .f32⟩
  | 52 => ⟨S4096x3x16x128, .f32⟩
  | 53 => ⟨S4096x1x16x128, .f32⟩
  | 54 => ⟨S_, .f32⟩
  | 55 => ⟨S4096x3x16x128, .f32⟩
  | 56 => ⟨S4096x3x16x128, .f32⟩
  | 57 => ⟨S4096x6144, .f32⟩
  | 58 => ⟨S4096x2048, .f32⟩
  | 59 => ⟨S4096x2048, .bf16⟩
  | 60 => ⟨S4096x2048, .f32⟩
  | 61 => ⟨S4096x2048, .f32⟩
  | _ => ⟨S4096x6144, .bf16⟩

abbrev hbmTy (i : Nat) : BufTy := match i / 128 with
  | 0 => hbmTy0_0 i
  | 1 => hbmTy0_1 i
  | _ => ⟨S4096x6144, .bf16⟩

abbrev bufTy : (tb : Table) → Fin (tcTables nBuf tb) → BufTy
  | .hbm, ⟨i, _⟩ => hbmTy i
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v21_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v21_2 : Ref sig .tc := ⟨.hbm, 117, rfl⟩
abbrev main_v21_0 : Ref sig .tc := ⟨.hbm, 118, rfl⟩
abbrev main_cst_0 : Ref sig .tc := ⟨.hbm, 119, rfl⟩
abbrev main_call2_v0 : Ref sig .tc := ⟨.hbm, 120, rfl⟩
abbrev main_v22_1 : Ref sig .tc := ⟨.hbm, 121, rfl⟩
abbrev main_call2_v2 : Ref sig .tc := ⟨.hbm, 122, rfl⟩
abbrev main_v22_0 : Ref sig .tc := ⟨.hbm, 123, rfl⟩
abbrev main_call2_cst : Ref sig .tc := ⟨.hbm, 124, rfl⟩
abbrev main_v22_2 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_call5_cst : Ref sig .tc := ⟨.hbm, 147, rfl⟩
abbrev main_call5_v0 : Ref sig .tc := ⟨.hbm, 148, rfl⟩
abbrev main_v36 : Ref sig .tc := ⟨.hbm, 149, rfl⟩
abbrev main_v37 : Ref sig .tc := ⟨.hbm, 150, rfl⟩
abbrev main_v38 : Ref sig .tc := ⟨.hbm, 151, rfl⟩
abbrev main_call6_cst : Ref sig .tc := ⟨.hbm, 152, rfl⟩
abbrev main_call6_v0 : Ref sig .tc := ⟨.hbm, 153, rfl⟩
abbrev main_v39 : Ref sig .tc := ⟨.hbm, 154, rfl⟩
abbrev main_v40 : Ref sig .tc := ⟨.hbm, 155, rfl⟩
abbrev main_call7_cst : Ref sig .tc := ⟨.hbm, 156, rfl⟩
abbrev main_call7_v0 : Ref sig .tc := ⟨.hbm, 157, rfl⟩
abbrev main_v41 : Ref sig .tc := ⟨.hbm, 158, rfl⟩
abbrev main_call8_v0 : Ref sig .tc := ⟨.hbm, 159, rfl⟩
abbrev main_call8_v1 : Ref sig .tc := ⟨.hbm, 160, rfl⟩
abbrev main_v42 : Ref sig .tc := ⟨.hbm, 161, rfl⟩
abbrev main_v43 : Ref sig .tc := ⟨.hbm, 162, rfl⟩
abbrev main_call9_v0 : Ref sig .tc := ⟨.hbm, 163, rfl⟩
abbrev main_call9_v1 : Ref sig .tc := ⟨.hbm, 164, rfl⟩
abbrev main_v44 : Ref sig .tc := ⟨.hbm, 165, rfl⟩
abbrev main_v45 : Ref sig .tc := ⟨.hbm, 166, rfl⟩
abbrev main_cst_2 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_cst_3 : Ref sig .tc := ⟨.hbm, 175, rfl⟩
abbrev main_v53 : Ref sig .tc := ⟨.hbm, 176, rfl⟩
abbrev main_v54 : Ref sig .tc := ⟨.hbm, 177, rfl⟩
abbrev main_cst_4 : Ref sig .tc := ⟨.hbm, 178, rfl⟩
abbrev main_v55 : Ref sig .tc := ⟨.hbm, 179, rfl⟩
abbrev main_v56 : Ref sig .tc := ⟨.hbm, 180, rfl⟩
abbrev main_v57 : Ref sig .tc := ⟨.hbm, 181, rfl⟩
abbrev main_cst_5 : Ref sig .tc := ⟨.hbm, 182, rfl⟩
abbrev main_v58 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_v62 : Ref sig .tc := ⟨.hbm, 187, rfl⟩
abbrev main_v63 : Ref sig .tc := ⟨.hbm, 188, rfl⟩
abbrev main_v64 : Ref sig .tc := ⟨.hbm, 189, rfl⟩

abbrev nD : Nat := 1
abbrev τ : Topo := Topo.v7x

variable {F : FTy → Type} [FloatOps F]
-- ==== Kernel2.lean ====
abbrev S4096x2048 : Shape := ⟨2, ![4096, 2048]⟩
abbrev S4096x11264 : Shape := ⟨2, ![4096, 11264]⟩
abbrev S8x2048x1408 : Shape := ⟨3, ![8, 2048, 1408]⟩
abbrev S4096x512 : Shape := ⟨2, ![4096, 512]⟩
abbrev S4096x1408 : Shape := ⟨2, ![4096, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S8x2048x1408, .bf16⟩
  | .local _ .vmem, ⟨0, _⟩ => ⟨S4096x512, .bf16⟩
  | .local _ .vmem, ⟨1, _⟩ => ⟨S4096x512, .bf16⟩
  | .local _ .vmem, ⟨2, _⟩ => ⟨S4096x1408, .bf16⟩
  | .local _ .vmem, ⟨3, _⟩ => ⟨S4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 4, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference2Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | .hbm, ⟨10, _⟩ => ⟨S2048x8x1408, .bf16⟩
  | .hbm, ⟨11, _⟩ => ⟨S8x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S1x5632x2048 : Shape := ⟨3, ![1, 5632, 2048]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S1x5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S1x512x512, .bf16⟩
  | .local _ .vmem, ⟨5, _⟩ => ⟨S1x512x512, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 11, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg0 c4_i32
  let v1 : BitVec 32 := Scalar.addi v0 arg2
  let c0_i32 : BitVec 32 := 0#32
  ![arg3.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | .hbm, ⟨10, _⟩ => ⟨S1x5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S5632x2048 : Shape := ⟨2, ![5632, 2048]⟩
abbrev S4096x2048 : Shape := ⟨2, ![4096, 2048]⟩
abbrev S1x5632x2048 : Shape := ⟨3, ![1, 5632, 2048]⟩
abbrev S4096x5632 : Shape := ⟨2, ![4096, 5632]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S5632x2048, .bf16⟩
  | .hbm, ⟨1, _⟩ => ⟨S4096x2048, .bf16⟩
  | .hbm, ⟨2, _⟩ => ⟨S1x5632x2048, .bf16⟩
  | .hbm, ⟨3, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 11, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference4Ideal.lean ====
abbrev S5632x2048 : Shape := ⟨2, ![5632, 2048]⟩
abbrev S4096x2048 : Shape := ⟨2, ![4096, 2048]⟩
abbrev S_ : Shape := ⟨0, ![]⟩
abbrev S4096x5632 : Shape := ⟨2, ![4096, 5632]⟩

abbrev nBuf : Space → Nat
  | .hbm => 8
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S4096x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S4096x11264, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 8, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference5Ideal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S2048x11264 : Shape := ⟨2, ![2048, 11264]⟩
abbrev S4096x11264 : Shape := ⟨2, ![4096, 11264]⟩
abbrev S2048x8x1408 : Shape := ⟨3, ![2048, 8, 1408]⟩
abbrev S8x2048x1408 : Shape := ⟨3, ![8, 2048, 1408]⟩
abbrev S4096x2048 : Shape := ⟨2, ![4096, 2048]⟩
abbrev S1024x5632 : Shape := ⟨2, ![1024, 5632]⟩
abbrev S4x512x1408 : Shape := ⟨3, ![4, 512, 1408]⟩
abbrev S1024x512 : Shape := ⟨2, ![1024, 512]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S4096x11264, .bf16⟩
  | .hbm, ⟨2, _⟩ => ⟨S2048x8x1408, .bf16⟩
  | .hbm, ⟨3, _⟩ => ⟨S8x2048x1408, .bf16⟩
  | .hbm, ⟨4, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S4x512x1408, .bf16⟩
  | .local _ .vmem, ⟨3, _⟩ => ⟨S4x512x1408, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 4, 2, 1], ![false, false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let arg3 : BitVec 32 := BitVec.ofNat 32 (i 3).val
  let c0_i32_1 : BitVec 32 := 0#32
  let v4 : BitVec 1 := Scalar.cmpi .eq arg3 c0_i32_1
  let v5 : BitVec 1 := Scalar.andi v3 v4
  let v32 : BitVec 32 := Scalar.extui v5
  let c0_i32_23 : BitVec 32 := 0#32
  let v33 : BitVec 1 := Scalar.cmpi .ne v32 c0_i32_23
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg2 c1_i32
  let v1 : BitVec 32 := Scalar.addi v0 arg3
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true, true]

abbrev stage0_1 : Fin 2 → Memref sig .tc .vmem S4x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== Reference6Ideal.lean ====
abbrev S2048x11264 : Shape := ⟨2, ![2048, 11264]⟩
abbrev S4096x11264 : Shape := ⟨2, ![4096, 11264]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S4096x11264, .bf16⟩
  | .hbm, ⟨2, _⟩ => ⟨S_, .f32⟩
  | .hbm, ⟨3, _⟩ => ⟨S4096x2048, .f32⟩
  | .hbm, ⟨4, _⟩ => ⟨S2048x11264, .f32⟩
  | .hbm, ⟨5, _⟩ => ⟨S4096x11264, .f32⟩
  | .hbm, ⟨6, _⟩ => ⟨S4096x11264, .f32⟩
  | .hbm, ⟨7, _⟩ => ⟨S4096x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S1x5632x2048 : Shape := ⟨3, ![1, 5632, 2048]⟩
abbrev S4096x2048 : Shape := ⟨2, ![4096, 2048]⟩
abbrev S1024x2816 : Shape := ⟨2, ![1024, 2816]⟩
abbrev S1x2816x512 : Shape := ⟨3, ![1, 2816, 512]⟩
abbrev S1024x512 : Shape := ⟨2, ![1024, 512]⟩
abbrev S2816x512 : Shape := ⟨2, ![2816, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S1x5632x2048, .bf16⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x512, .bf16⟩
  | .local _ .vmem, ⟨3, _⟩ => ⟨S1x2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 1, 4, 2], ![false, false, false, false]⟩

def k0_cond2 (i : grid0.Coords) : BitVec 1 :=
  let arg3 : BitVec 32 := BitVec.ofNat 32 (i 3).val
  let c1_i32 : BitVec 32 := 1#32
  let v1 : BitVec 1 := Scalar.cmpi .eq arg3 c1_i32
  let v13 : BitVec 32 := Scalar.extui v1
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg2
  let c0_i32 : BitVec 32 := 0#32
  ![arg0.toNat, v1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x5632, .f32⟩
  | .hbm, ⟨3, _⟩ => ⟨S5632x2048, .f32⟩
  | .hbm, ⟨4, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x512 : Shape := ⟨2, ![4096, 512]⟩
abbrev S256x1024 : Shape := ⟨2, ![256, 1024]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x256 : Shape := ⟨2, ![128, 256]⟩

abbrev nBuf : Space → Nat
  | .hbm => 6
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .f32⟩
  | .hbm, ⟨3, _⟩ => ⟨S4096x512, .bf16⟩
  | .hbm, ⟨4, _⟩ => ⟨S256x512, .f32⟩
  | .hbm, ⟨5, _⟩ => ⟨S256x512, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference8Ideal.lean ====
abbrev S4096x512 : Shape := ⟨2, ![4096, 512]⟩
abbrev S256x1024 : Shape := ⟨2, ![256, 1024]⟩
abbrev S4096x4x128 : Shape := ⟨3, ![4096, 4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩
abbrev S256x512 : Shape := ⟨2, ![256, 512]⟩

abbrev nBuf : Space → Nat
  | .hbm => 94
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .f32⟩
  | .hbm, ⟨3, _⟩ => ⟨S4096x512, .f32⟩
  | .hbm, ⟨4, _⟩ => ⟨S256x1024, .f32⟩
  | .hbm, ⟨5, _⟩ => ⟨S4096x4x128, .f32⟩
  | .hbm, ⟨6, _⟩ => ⟨S256x2x4x128, .f32⟩
  | .hbm, ⟨7, _⟩ => ⟨S256x1x4x128, .f32⟩
  | .hbm, ⟨8, _⟩ => ⟨S256x4x128, .f32⟩
  | .hbm, ⟨9, _⟩ => ⟨S256x1x4x128, .f32⟩
  | .hbm, ⟨10, _⟩ => ⟨S256x4x128, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x128x4096, .f32⟩
  | .hbm, ⟨54, _⟩ => ⟨S4096x4x128, .f32⟩
  | .hbm, ⟨55, _⟩ => ⟨S4096x512, .f32⟩
  | .hbm, ⟨56, _⟩ => ⟨S4096x4x128, .f32⟩
  | .hbm, ⟨57, _⟩ => ⟨S4x128x4096, .f32⟩
  | .hbm, ⟨58, _⟩ => ⟨S4x4096x256, .f32⟩
  | .hbm, ⟨59, _⟩ => ⟨S4x128x256, .f32⟩
  | .hbm, ⟨60, _⟩ => ⟨S256x4x128, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x128, .f32⟩
  | .hbm, ⟨79, _⟩ => ⟨S256x4x128, .f32⟩
  | .hbm, ⟨80, _⟩ => ⟨S4x4096x128, .f32⟩
  | .hbm, ⟨81, _⟩ => ⟨S4096x4x128, .f32⟩
  | .hbm, ⟨82, _⟩ => ⟨S256x1x4x128, .f32⟩
  | .hbm, ⟨83, _⟩ => ⟨S_, .f32⟩
  | .hbm, ⟨84, _⟩ => ⟨S256x2x4x128, .f32⟩
  | .hbm, ⟨85, _⟩ => ⟨S256x1x4x128, .f32⟩
  | .hbm, ⟨86, _⟩ => ⟨S_, .f32⟩
  | .hbm, ⟨87, _⟩ => ⟨S256x2x4x128, .f32⟩
  | .hbm, ⟨88, _⟩ => ⟨S256x2x4x128, .f32⟩
  | .hbm, ⟨89, _⟩ => ⟨S256x1024, .f32⟩
  | .hbm, ⟨90, _⟩ => ⟨S4096x512, .f32⟩
  | .hbm, ⟨91, _⟩ => ⟨S4096x512, .bf16⟩
  | .hbm, ⟨92, _⟩ => ⟨S256x512, .f32⟩
  | .hbm, ⟨93, _⟩ => ⟨S256x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== Kernel9.lean ====
abbrev S4096x512 : Shape := ⟨2, ![4096, 512]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S4096x512 : Shape := ⟨2, ![4096, 512]⟩
abbrev S256x1024 : Shape := ⟨2, ![256, 1024]⟩
abbrev S4096x4x128 : Shape := ⟨3, ![4096, 4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .f32⟩
  | .hbm, ⟨3, _⟩ => ⟨S256x1024, .f32⟩
  | .hbm, ⟨4, _⟩ => ⟨S4096x4x128, .f32⟩
  | .hbm, ⟨5, _⟩ => ⟨S256x2x4x128, .f32⟩
  | .hbm, ⟨6, _⟩ => ⟨S256x1x4x128, .f32⟩
  | .hbm, ⟨7, _⟩ => ⟨S256x4x128, .f32⟩
  | .hbm, ⟨8, _⟩ => ⟨S256x1x4x128, .f32⟩
  | .hbm, ⟨9, _⟩ => ⟨S256x4x128, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S_, .f32⟩
  | .hbm, ⟨17, _⟩ => ⟨S4x4096, .f32⟩
  | .hbm, ⟨18, _⟩ => ⟨S4x4096, .f32⟩
  | .hbm, ⟨19, _⟩ => ⟨S4x4096x1, .f32⟩
  | .hbm, ⟨20, _⟩ => ⟨S4x4096x256, .f32⟩
  | .hbm, ⟨21, _⟩ => ⟨S4x4096x256, .f32⟩
  | .hbm, ⟨22, _⟩ => ⟨S4x4096x256, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S4x4096x256, .f32⟩
  | .hbm, ⟨27, _⟩ => ⟨S4x4096x256, .f32⟩
  | .hbm, ⟨28, _⟩ => ⟨S4x128x4096, .f32⟩
  | .hbm, ⟨29, _⟩ => ⟨S4096x4x128, .f32⟩
  | .hbm, ⟨30, _⟩ => ⟨S4096x512, .f32⟩
  | .hbm, ⟨31, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S256x2048 : Shape := ⟨2, ![256, 2048]⟩
abbrev S64x2048 : Shape := ⟨2, ![64, 2048]⟩
abbrev S64 : Shape := ⟨1, ![64]⟩
abbrev S64x1 : Shape := ⟨2, ![64, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_2 : BitVec 32 := 0#32
  let c4_i32 : BitVec 32 := 4#32
  let v5 : BitVec 32 := Scalar.addi c0_i32_2 c4_i32
  let c1_i32 : BitVec 32 := 1#32
  ⟨c0_i32_2, v5, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c64_i32 : BitVec 32 := 64#32
  let v11 : BitVec 32 := Scalar.muli arg7 c64_i32
  v11
def k0_off1 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c64_i32 : BitVec 32 := 64#32
  let v11 : BitVec 32 := Scalar.muli arg7 c64_i32
  let v12 : BitVec 32 := v11
  let v13 : Index := Scalar.indexCast v12
  let c0_8 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference10Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S_, .f32⟩
  | .hbm, ⟨41, _⟩ => ⟨S4096, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Spec.lean ====
/-
  The gradient of one head of stick-breaking attention, over the real numbers.

  A head has queries `q`, keys `k`, values `v` and the gradient `g` of its output, each a function of a row (a position
  of the sequence of `N` rows) and a lane (one of `D`). `score t s` is the scaled product of query `t` with key `s`, and
  `σ = 1 / (1 + exp (-score))` the share that `s` breaks off what is left of the stick when the keys are visited from
  the latest to the earliest: the weight of `s < t` is `σ (t,s)` times the product of `1 - σ (t,j)` over the later keys
  `j`. Here both factors are written through their logarithms, as the program computes them.
-/
module

public import Mathlib.Analysis.SpecialFunctions.Log.Basic
public import Mathlib.Algebra.BigOperators.Intervals

@[expose] public section

noncomputable section

namespace Cert.Stick

open Finset

/-- `log (1 + exp (-|z|))`, the part that the two logarithms have in common. -/
def softLog (z : ℝ) : ℝ := Real.log (1 + Real.exp (-|z|))

/-- The logarithm of `σ z`. -/
def logShare (z : ℝ) : ℝ := min z 0 - softLog z

/-- The logarithm of `1 - σ z`. -/
def logRest (z : ℝ) : ℝ := -max z 0 - softLog z

/-- The share `σ z`. -/
def share (z : ℝ) : ℝ := (1 + Real.exp (-z))⁻¹

/-- One head: the number of rows, of lanes, the scale of the scores, and the four matrices. -/
structure Head where
  N : ℕ
  D : ℕ
  c : ℝ
  q : ℕ → ℕ → ℝ
  k : ℕ → ℕ → ℝ
  v : ℕ → ℕ → ℝ
  g : ℕ → ℕ → ℝ

namespace Head

variable (H : Head)

/-- The scaled product of query `t` with key `s`. -/
def score (t s : ℕ) : ℝ := (∑ d ∈ range H.D, H.q t d * H.k s d) * H.c

/-- What key `s` leaves of query `t`'s stick, as a logarithm; a key that is not earlier takes nothing. -/
def rest (t s : ℕ) : ℝ := if s < t then logRest (H.score t s) else 0

/-- What all keys together leave of query `t`'s stick. -/
def total (t : ℕ) : ℝ := ∑ j ∈ range H.N, H.rest t j

/-- What the keys later than `s` leave. -/
def later (t s : ℕ) : ℝ := H.total t - ∑ j ∈ range (s + 1), H.rest t j

/-- The weight of key `s` for query `t`. -/
def weight (t s : ℕ) : ℝ := if s < t then Real.exp (logShare (H.score t s) + H.later t s) else 0

/-- The gradient of the weight, times the weight: the gradient of its logarithm. -/
def dLog (t s : ℕ) : ℝ := (∑ d ∈ range H.D, H.g t d * H.v s d) * H.weight t s

/-- The gradient of `rest t s`: the sum over the earlier keys, whose weights it enters. -/
def dRest (t s : ℕ) : ℝ := if s < t then ∑ j ∈ range s, H.dLog t j else 0

/-- The gradient of the product of query `t` with key `s`. -/
def dScore (t s : ℕ) : ℝ := (H.dLog t s * (1 - share (H.score t s)) - H.dRest t s * share (H.score t s)) * H.c

/-- The gradient of the queries. -/
def dq (t d : ℕ) : ℝ := ∑ s ∈ range H.N, H.dScore t s * H.k s d

/-- The gradient of the keys. -/
def dk (s d : ℕ) : ℝ := ∑ t ∈ range H.N, H.dScore t s * H.q t d

/-- The gradient of the values. -/
def dv (s d : ℕ) : ℝ := ∑ t ∈ range H.N, H.weight t s * H.g t d

variable {H}

theorem rest_of_le {t s : ℕ} (h : t ≤ s) : H.rest t s = 0 := if_neg (Nat.not_lt.mpr h)
theorem rest_of_lt {t s : ℕ} (h : s < t) : H.rest t s = logRest (H.score t s) := if_pos h
theorem weight_of_le {t s : ℕ} (h : t ≤ s) : H.weight t s = 0 := if_neg (Nat.not_lt.mpr h)
theorem weight_of_lt {t s : ℕ} (h : s < t) : H.weight t s = Real.exp (logShare (H.score t s) + H.later t s) := if_pos h
theorem dLog_of_le {t s : ℕ} (h : t ≤ s) : H.dLog t s = 0 := by rw [dLog, weight_of_le h, mul_zero]
theorem dRest_of_le {t s : ℕ} (h : t ≤ s) : H.dRest t s = 0 := if_neg (Nat.not_lt.mpr h)
theorem dRest_of_lt {t s : ℕ} (h : s < t) : H.dRest t s = ∑ j ∈ range s, H.dLog t j := if_pos h

/-- A key that is not earlier than the query gets no gradient from it. -/
theorem dScore_of_le {t s : ℕ} (h : t ≤ s) : H.dScore t s = 0 := by
  rw [dScore, dLog_of_le h, dRest_of_le h, zero_mul, zero_mul, sub_zero, zero_mul]

end Head

/-- A sum over the first `a + n` numbers is the sum over the first `a` and the sum over the next `n`. -/
theorem sum_range_next (f : ℕ → ℝ) (a n : ℕ) : ∑ j ∈ range (a + n), f j = ∑ j ∈ range a, f j + ∑ j ∈ range n, f (a + j) :=
  sum_range_add f a n

/-- What is later than `s` in a piece of `n` numbers from `a`, and the piece's end: taking the sum up to the end of the
    piece from the whole and adding the piece's own numbers later than `s` leaves what is later than `s`. -/
theorem later_in_piece (f : ℕ → ℝ) (T : ℝ) (a n s : ℕ) (hs : s < n) :
    (∑ j ∈ range n, f (a + j) * (if s < j then 1 else 0)) + (T - (∑ j ∈ range a, f j + ∑ j ∈ range n, f (a + j)))
      = T - ∑ j ∈ range (a + s + 1), f j := by
  have e : ∑ j ∈ range n, f (a + j) * (if s < j then 1 else 0) = ∑ j ∈ range n, f (a + j) - ∑ j ∈ range (s + 1), f (a + j) := by
    obtain ⟨m, rfl⟩ := Nat.exists_eq_add_of_lt hs
    rw [show s + m + 1 = s + 1 + m by omega, sum_range_add, sum_range_add (fun j => f (a + j)) (s + 1) m, add_sub_cancel_left]
    rw [sum_eq_zero (fun j hj => ?_), zero_add]
    · exact sum_congr rfl fun j _ => by rw [if_pos (by omega), mul_one]
    · rw [if_neg (by have := mem_range.mp hj; omega), mul_zero]
  rw [e, show a + s + 1 = a + (s + 1) by omega, sum_range_add f a (s + 1)]
  ring

/-- The numbers of a piece before `s`, on top of the sum up to the piece's start. -/
theorem before_in_piece (f : ℕ → ℝ) (a n s : ℕ) (hs : s < n) :
    (∑ j ∈ range n, f (a + j) * (if j < s then 1 else 0)) + ∑ j ∈ range a, f j = ∑ j ∈ range (a + s), f j := by
  have e : ∑ j ∈ range n, f (a + j) * (if j < s then 1 else 0) = ∑ j ∈ range s, f (a + j) := by
    obtain ⟨m, rfl⟩ := Nat.exists_eq_add_of_lt hs
    rw [show s + m + 1 = s + (m + 1) by omega, sum_range_add, sum_eq_zero (s := range (m + 1)) (fun j _ => ?_), add_zero]
    · exact sum_congr rfl fun j hj => by rw [if_pos (mem_range.mp hj), mul_one]
    · rw [if_neg (by omega), mul_zero]
  rw [e, sum_range_add f a s, add_comm]

end Cert.Stick

end
-- ==== Proof.Lift.lean ====
/-
  Arrays of extended reals whose entries are numbers.

  `IsReal v f` says that the matrix `v` holds the number `f r l` at row `r` and lane `l`. Finite arithmetic is that of
  the real numbers: sums, products, the exponential and the logarithm of such entries are the entries computed over `ℝ`.
-/
module

public import proofs.«01_k».proof.Proof.Spec
public import Idealize.ShloMosaic.Lib.Pointwise

@[expose] public section

noncomputable section

namespace Cert.Stick

open Idealize.ShloMosaic Finset

/-- The matrix `v` holds the number `f r l` at row `r`, lane `l`. -/
def IsReal {m n : ℕ} (v : (⟨2, ![m, n]⟩ : Shape).Idx → EReal) (f : ℕ → ℕ → ℝ) : Prop :=
  ∀ (r : Fin m) (l : Fin n), v (ix2 r l) = ((f r.val l.val : ℝ) : EReal)

/-- Only the entries of the matrix count. -/
theorem IsReal.congr {m n : ℕ} {v : (⟨2, ![m, n]⟩ : Shape).Idx → EReal} {f g : ℕ → ℕ → ℝ} (h : IsReal v f)
    (e : ∀ r < m, ∀ l < n, f r l = g r l) : IsReal v g :=
  fun r l => by rw [h r l, e r.val r.isLt l.val l.isLt]

/-- The sum of numbers, summed as extended reals. -/
theorem coe_sum_fin (n : ℕ) (f : ℕ → ℝ) : (∑ k : Fin n, ((f k.val : ℝ) : EReal)) = ((∑ k ∈ range n, f k : ℝ) : EReal) := by
  induction n with
  | zero => simp
  | succ n ih => rw [Fin.sum_univ_castSucc, Finset.sum_range_succ, EReal.coe_add, ← ih]; rfl

/-- A product of two rows of numbers, summed as extended reals. -/
theorem coe_dot_fin (n : ℕ) (f g : ℕ → ℝ) :
    (∑ k : Fin n, ((f k.val : ℝ) : EReal) * ((g k.val : ℝ) : EReal)) = ((∑ k ∈ range n, f k * g k : ℝ) : EReal) := by
  rw [← coe_sum_fin]
  exact Finset.sum_congr rfl fun k _ => (EReal.coe_mul _ _).symm

/-- The larger of two numbers. -/
theorem coe_max (a b : ℝ) : max (a : EReal) (b : EReal) = ((max a b : ℝ) : EReal) := (EReal.coe_strictMono.monotone.map_max).symm

/-- The smaller of two numbers. -/
theorem coe_min (a b : ℝ) : min (a : EReal) (b : EReal) = ((min a b : ℝ) : EReal) := (EReal.coe_strictMono.monotone.map_min).symm

/-- The scale of the scores, `1 / √128` rounded to a float. -/
def scale : ℝ := (Ideal.ofBits FTy.f32 0x3DB504F3#32).toReal

/-- The scale is a number. -/
theorem coe_scale : Ideal.ofBits FTy.f32 0x3DB504F3#32 = ((scale : ℝ) : EReal) := by
  rw [scale]; simp [Ideal.ofBits, Ideal.ieee, -EReal.coe_mul]

/-- The common part of the two logarithms, from the operations that compute it. -/
theorem log_one_add_exp (z : ℝ) : Ideal.log (1 + Ideal.exp (-(max (z : EReal) (-(z : EReal))))) = ((softLog z : ℝ) : EReal) := by
  rw [← EReal.coe_neg, coe_max, ← EReal.coe_neg, Ideal.exp_coe, ← EReal.coe_one, ← EReal.coe_add, Ideal.log_coe,
    if_neg (not_le.mpr (by positivity)), ← abs_eq_max_neg]
  rfl

/-- A difference of a number and itself vanishes. -/
theorem coe_sub_self (a : ℝ) : (a : EReal) - (a : EReal) = 0 := by rw [← EReal.coe_sub, sub_self, EReal.coe_zero]

end Cert.Stick

end
-- ==== Proof.Payload.lean ====
/-
  What one group of 512 keys computes for a block of 256 queries, when none of its keys is masked.

  Row `r` of the block is query `t0 + r`, row `s` of the group key `s0 + s`. The values of the loop's body are the
  quantities of `Head` at these rows: the scores, the weights, the gradients of the scores, and what the group adds to
  the three results. The sums over the later and over the earlier keys are taken in pieces of 256 keys, each a product
  with a triangular matrix of ones; the piece is split into a part of half precision and what that part leaves, and over
  the real numbers the part is all of it, so what it leaves vanishes.
-/
module

public import proofs.«01_k».proof.Proof.Lift
public import proofs.«01_k».proof.Proof.Gen.KernelIdeal.Skeleton
public import Idealize.ShloMosaic.Lib.IdealHost

@[expose] public section

set_option maxRecDepth 16384

noncomputable section

open Idealize.ShloMosaic Idealize.ShloMosaic.TcCoe Idealize.SL.Sem

namespace Cert.Stick

open Cert.KernelIdeal Cert.KernelIdeal.Gen
open Finset (range)

/-! ### Comparisons of small numbers -/

/-- The signed comparison of two small numbers held in words. -/
theorem slt_word {a b : ℕ} (ha : a < 2 ^ 31) (hb : b < 2 ^ 31) :
    IntOp.cmpi .slt (BitVec.ofNat 32 a) (BitVec.ofNat 32 b) = if a < b then 1#1 else 0#1 := by
  have val (n : ℕ) (h : n < 2 ^ 31) : (BitVec.ofNat 32 n).toInt = n := by
    rw [BitVec.toInt_eq_toNat_of_lt (by rw [BitVec.toNat_ofNat]; omega), BitVec.toNat_ofNat]
    omega
  simp only [IntOp.cmpi, BitVec.slt, val a ha, val b hb]
  by_cases h : a < b <;> simp [h]

/-- The comparison's word as a number: one where it holds, zero where not. -/
theorem mask_word {a b : ℕ} (ha : a < 2 ^ 31) (hb : b < 2 ^ 31) :
    FloatOps.sitofp (F := Ideal) FTy.f32 (BitVec.setWidth 32 (IntOp.cmpi .slt (BitVec.ofNat 32 a) (BitVec.ofNat 32 b)))
      = (((if a < b then 1 else 0 : ℝ)) : EReal) := by
  rw [slt_word ha hb]
  show (((BitVec.setWidth 32 _).toInt : ℝ) : EReal) = _
  split <;> simp

/-- The matrix whose product sums over the later lanes. -/
theorem isReal_laterOnes : IsReal (k0_pay44 (F := Ideal)) (fun r s => if s < r then 1 else 0) := by
  intro r s
  pointwise [k0_pay44]
  exact mask_word (b := r) (by omega) (by omega)

/-- The matrix whose product sums over the earlier lanes. -/
theorem isReal_earlierOnes : IsReal (k0_pay45 (F := Ideal)) (fun r s => if r < s then 1 else 0) := by
  intro r s
  pointwise [k0_pay45]
  exact mask_word (b := s) (by omega) (by omega)

/-! ### Pieces stacked on each other -/

/-- A stack of pieces of 256 rows: `x` on top, `y` from row `o`, and zeros between and below. -/
structure Stacked {N : ℕ} (o : ℕ) (v : (⟨2, ![N, 256]⟩ : Shape).Idx → EReal) (x y : ℕ → ℕ → ℝ) : Prop where
  first : ∀ (r l : Fin 256) (h : r.val < N), v (ix2 ⟨r.val, h⟩ l) = ((x r.val l.val : ℝ) : EReal)
  second : ∀ (r l : Fin 256) (h : o + r.val < N), v (ix2 ⟨o + r.val, h⟩ l) = ((y r.val l.val : ℝ) : EReal)
  zero : ∀ (r : Fin N) (l : Fin 256), 256 ≤ r.val ∧ r.val < o ∨ o + 256 ≤ r.val → v (ix2 r l) = 0

/-- The products of two pieces, and of what two roundings leave of each, with one matrix. -/
theorem stacked_six {x y : FVec Ideal S256x256 .f32} {m : FVec Ideal S256x256 .bf16} {p : FVec Ideal S1536x256 .bf16}
    {fx fy fm : ℕ → ℕ → ℝ} (hx : IsReal x fx) (hy : IsReal y fy) (hm : IsReal m fm)
    (hp : p = concatenate S1536x256 0 [⟨S256x256, x⟩, ⟨S256x256, subf x x⟩, ⟨S256x256, subf (subf x x) (subf x x)⟩,
      ⟨S256x256, y⟩, ⟨S256x256, subf y y⟩, ⟨S256x256, subf (subf y y) (subf y y)⟩]
      concatenates_S256x256_S256x256_S256x256_S256x256_S256x256_S256x256_S1536x256_d0) :
    Stacked 768 (matmul dot_S1536x256_S256x256_S1536x256_1_0_0_1_n_n none p m (constant S1536x256 .f32 0x00000000#32))
      (fun r l => ∑ j ∈ range 256, fx r j * fm j l) (fun r l => ∑ j ∈ range 256, fy r j * fm j l) := by
  subst hp
  refine ⟨fun r l h => ?_, fun r l h => ?_, fun r l h => ?_⟩
  · pointwise
    simp only [hx _ _, hy _ _, hm _ _, coe_sub_self]
    exact coe_dot_fin 256 (fx r) (fun j => fm j l)
  · pointwise
    simp only [hx _ _, hy _ _, hm _ _, coe_sub_self, Nat.sub_sub, Nat.reduceAdd, Nat.add_sub_cancel_left]
    rw [← coe_dot_fin 256 (fy r) (fun j => fm j l)]
    refine Finset.sum_congr rfl fun j _ => ?_
    rw [dif_neg (by omega), dif_neg (by omega), dif_neg (by omega), dif_pos (by omega)]
  · pointwise
    simp only [hx _ _, hy _ _, hm _ _, coe_sub_self, Nat.sub_sub, Nat.reduceAdd]
    refine Finset.sum_eq_zero fun j _ => ?_
    rw [dif_neg (by omega)]
    split
    · rw [zero_mul]
    split
    · rw [sub_zero, zero_mul]
    rw [dif_neg (by omega)]
    split
    · rw [zero_mul]
    rw [sub_zero, zero_mul]

/-- The products of two pieces, and of what one rounding leaves of each, with one matrix. -/
theorem stacked_four {x y : FVec Ideal S256x256 .f32} {m : FVec Ideal S256x256 .bf16} {p : FVec Ideal S1024x256 .bf16}
    {fx fy fm : ℕ → ℕ → ℝ} (hx : IsReal x fx) (hy : IsReal y fy) (hm : IsReal m fm)
    (hp : p = concatenate S1024x256 0 [⟨S256x256, x⟩, ⟨S256x256, subf x x⟩, ⟨S256x256, y⟩, ⟨S256x256, subf y y⟩]
      concatenates_S256x256_S256x256_S256x256_S256x256_S1024x256_d0) :
    Stacked 512 (matmul dot_S1024x256_S256x256_S1024x256_1_0_0_1_n_n none p m (constant S1024x256 .f32 0x00000000#32))
      (fun r l => ∑ j ∈ range 256, fx r j * fm j l) (fun r l => ∑ j ∈ range 256, fy r j * fm j l) := by
  subst hp
  refine ⟨fun r l h => ?_, fun r l h => ?_, fun r l h => ?_⟩
  · pointwise
    simp only [hx _ _, hy _ _, hm _ _, coe_sub_self]
    exact coe_dot_fin 256 (fx r) (fun j => fm j l)
  · pointwise
    simp only [hx _ _, hy _ _, hm _ _, coe_sub_self, Nat.sub_sub, Nat.reduceAdd, Nat.add_sub_cancel_left]
    rw [← coe_dot_fin 256 (fy r) (fun j => fm j l)]
    refine Finset.sum_congr rfl fun j _ => ?_
    rw [dif_neg (by omega), dif_neg (by omega), dif_pos (by omega)]
  · pointwise
    simp only [hx _ _, hy _ _, hm _ _, coe_sub_self, Nat.sub_sub, Nat.reduceAdd]
    refine Finset.sum_eq_zero fun j _ => ?_
    rw [dif_neg (by omega)]
    split
    · rw [zero_mul]
    rw [dif_neg (by omega), zero_mul]

/-! ### Products -/

/-- A block of rows against the rows of a group. -/
theorem isReal_nt {a : FVec Ideal S256x128 .bf16} {b : FVec Ideal S512x128 .bf16} {f g : ℕ → ℕ → ℝ} (ha : IsReal a f) (hb : IsReal b g) :
    IsReal (matmul dot_S256x128_S512x128_S256x512_1_1_0_0_n_n none a b (constant S256x512 .f32 0x00000000#32))
      (fun r s => ∑ d ∈ range 128, f r d * g s d) := by
  intro r s
  pointwise
  simp only [ha _ _, hb _ _]
  exact coe_dot_fin 128 (f r) (g s)

/-- A matrix of queries and keys against the rows of the group. -/
theorem isReal_nn {a : FVec Ideal S256x512 .bf16} {b : FVec Ideal S512x128 .bf16} {f g : ℕ → ℕ → ℝ} (ha : IsReal a f) (hb : IsReal b g) :
    IsReal (matmul dot_S256x512_S512x128_S256x128_1_0_0_1_n_n none a b (constant S256x128 .f32 0x00000000#32))
      (fun r d => ∑ s ∈ range 512, f r s * g s d) := by
  intro r d
  pointwise
  simp only [ha _ _, hb _ _]
  exact coe_dot_fin 512 (f r) (fun s => g s d)

/-- The transpose of a matrix of queries and keys against the rows of the block. -/
theorem isReal_tn {a : FVec Ideal S256x512 .bf16} {b : FVec Ideal S256x128 .bf16} {f g : ℕ → ℕ → ℝ} (ha : IsReal a f) (hb : IsReal b g) :
    IsReal (matmul dot_S256x512_S256x128_S512x128_0_0_1_1_n_n none a b (constant S512x128 .f32 0x00000000#32))
      (fun s d => ∑ r ∈ range 256, f r s * g r d) := by
  intro s d
  pointwise
  simp only [ha _ _, hb _ _]
  exact coe_dot_fin 256 (fun r => f r s) (fun r => g r d)

/-! ### The scores and their logarithms -/

/-- A scaled matrix of products. -/
theorem isReal_scores {v3 : FVec Ideal S256x128 .bf16} {v201 : FVec Ideal S512x128 .bf16} {q k : ℕ → ℕ → ℝ} (hq : IsReal v3 q)
    (hk : IsReal v201 k) : IsReal (k0_pay4 (F := Ideal) v3 v201) (fun r s => (∑ d ∈ range 128, q r d * k s d) * scale) := by
  intro r s
  pointwise [k0_pay4]
  simp only [hq _ _, hk _ _]
  rw [coe_dot_fin 128 (q r) (k s), EReal.coe_mul]
  exact congrArg _ coe_scale

/-- The logarithm of the share. -/
theorem isReal_logShare {v3 : FVec Ideal S256x128 .bf16} {v201 : FVec Ideal S512x128 .bf16} {z : ℕ → ℕ → ℝ}
    (hz : IsReal (k0_pay4 (F := Ideal) v3 v201) z) : IsReal (k0_pay6 (F := Ideal) v3 v201) (fun r s => logShare (z r s)) := by
  intro r s
  pointwise [k0_pay6, k0_pay5]
  rw [hz, zero_sub]
  refine (congrArg (_ - ·) (log_one_add_exp _)).trans ?_
  rw [← EReal.coe_zero, coe_min, ← EReal.coe_sub]
  rfl

/-- The logarithm of what the share leaves. -/
theorem isReal_logRest {v3 : FVec Ideal S256x128 .bf16} {v201 : FVec Ideal S512x128 .bf16} {z : ℕ → ℕ → ℝ}
    (hz : IsReal (k0_pay4 (F := Ideal) v3 v201) z) : IsReal (k0_pay7 (F := Ideal) v3 v201) (fun r s => logRest (z r s)) := by
  intro r s
  pointwise [k0_pay7, k0_pay5]
  rw [hz, zero_sub, zero_sub]
  refine (congrArg (_ - ·) (log_one_add_exp _)).trans ?_
  rw [← EReal.coe_zero, coe_max, ← EReal.coe_neg, ← EReal.coe_sub]
  rfl

/-! ### One group without a mask -/

section Group

variable {H : Head} {t0 s0 : ℕ}

/-- The scores of the group. -/
theorem group_score (hD : H.D = 128) (hc : H.c = scale) {v3 : FVec Ideal S256x128 .bf16} {v201 : FVec Ideal S512x128 .bf16}
    (hq : IsReal v3 (fun r d => H.q (t0 + r) d)) (hk : IsReal v201 (fun s d => H.k (s0 + s) d)) :
    IsReal (k0_pay4 (F := Ideal) v3 v201) (fun r s => H.score (t0 + r) (s0 + s)) :=
  (isReal_scores hq hk).congr fun r _ s _ => by rw [Head.score, hD, hc]

/-- The first 256 keys of the group: what they leave. -/
theorem group_rest_first (hs : s0 + 512 ≤ t0) {v3 : FVec Ideal S256x128 .bf16} {v201 : FVec Ideal S512x128 .bf16}
    (hz : IsReal (k0_pay4 (F := Ideal) v3 v201) (fun r s => H.score (t0 + r) (s0 + s))) :
    IsReal (k0_pay8 (F := Ideal) v3 v201) (fun r l => H.rest (t0 + r) (s0 + l)) := by
  intro r l
  pointwise [k0_pay8]
  rw [isReal_logRest hz, Head.rest_of_lt (by omega)]

/-- The last 256 keys of the group: what they leave. -/
theorem group_rest_second (hs : s0 + 512 ≤ t0) {v3 : FVec Ideal S256x128 .bf16} {v201 : FVec Ideal S512x128 .bf16}
    (hz : IsReal (k0_pay4 (F := Ideal) v3 v201) (fun r s => H.score (t0 + r) (s0 + s))) :
    IsReal (k0_pay9 (F := Ideal) v3 v201) (fun r l => H.rest (t0 + r) (s0 + 256 + l)) := by
  intro r l
  pointwise [k0_pay9]
  rw [isReal_logRest hz, Head.rest_of_lt (by omega), add_assoc]

/-- A column of sums, and the sums of 256 more numbers of each row. -/
theorem isReal_step {f : ℕ → ℕ → ℝ} {a : ℕ} {b : FVec Ideal S256x1 .f32} {x : FVec Ideal S256x256 .f32}
    (hb : IsReal b (fun r _ => ∑ j ∈ range a, f r j)) (hx : IsReal x (fun r l => f r (a + l))) :
    IsReal (k0_pay12 (F := Ideal) b x) (fun r _ => ∑ j ∈ range (a + 256), f r j) := by
  intro r l
  pointwise [k0_pay12]
  simp only [hb _ _, hx _ _]
  rw [coe_sum_fin 256 (fun l => f r (a + l)), ← EReal.coe_add, sum_range_next]

/-- Two such steps. -/
theorem isReal_step2 {f : ℕ → ℕ → ℝ} {a : ℕ} {b : FVec Ideal S256x1 .f32} {x y : FVec Ideal S256x256 .f32}
    (hb : IsReal b (fun r _ => ∑ j ∈ range a, f r j)) (hx : IsReal x (fun r l => f r (a + l)))
    (hy : IsReal y (fun r l => f r (a + 256 + l))) : IsReal (k0_pay13 (F := Ideal) b x y) (fun r _ => ∑ j ∈ range (a + 512), f r j) := by
  intro r l
  pointwise [k0_pay13]
  simp only [isReal_step hb hx _ _, hy _ _]
  rw [coe_sum_fin 256 (fun l => f r (a + 256 + l)), ← EReal.coe_add, ← sum_range_next]

/-- The weights of the group, from the logarithms of the shares, what the keys leave, and the total. -/
theorem group_weight (hs : s0 + 512 ≤ t0) {v7 b : FVec Ideal S256x1 .f32} {v216 : FVec Ideal S256x512 .f32}
    {x y : FVec Ideal S256x256 .f32} {v243 : FVec Ideal S1536x256 .f32} {v244 : FVec Ideal S256x256 .f32} {z : Ideal .f32}
    (h7 : IsReal v7 (fun r _ => H.total (t0 + r))) (hb : IsReal b (fun r _ => ∑ j ∈ range s0, H.rest (t0 + r) j))
    (h216 : IsReal v216 (fun r s => logShare (H.score (t0 + r) (s0 + s))))
    (hx : IsReal x (fun r l => H.rest (t0 + r) (s0 + l))) (hy : IsReal y (fun r l => H.rest (t0 + r) (s0 + 256 + l)))
    (h243 : Stacked 768 v243 (fun r l => ∑ j ∈ range 256, H.rest (t0 + r) (s0 + j) * (if l < j then 1 else 0))
      (fun r l => ∑ j ∈ range 256, H.rest (t0 + r) (s0 + 256 + j) * (if l < j then 1 else 0)))
    (h244 : IsReal v244 (fun _ _ => 0)) (h0 : z = 0) :
    IsReal (k0_pay14 (F := Ideal) v7 b v216 x y v243 v244 z) (fun r s => H.weight (t0 + r) (s0 + s)) := by
  intro r s
  pointwise [k0_pay14]
  have e12 := isReal_step (f := fun r j => H.rest (t0 + r) j) hb hx
  have e13 := isReal_step2 (f := fun r j => H.rest (t0 + r) j) hb hx hy
  rw [Head.weight_of_lt (by omega), h216, h0]
  by_cases h : s.val < 256
  · rw [dif_pos h, h244, h243.zero _ _ (by simp only []; omega), h243.first r ⟨s.val, h⟩ (by omega), h7, e12]
    simp only [EReal.coe_zero, zero_add]
    rw [← EReal.coe_sub, ← EReal.coe_add, ← EReal.coe_add, Ideal.exp_coe, Head.later,
      ← later_in_piece (fun j => H.rest (t0 + r) j) _ s0 256 s.val h, sum_range_next]
  · rw [dif_neg h, h243.zero _ _ (by simp only []; omega), h243.zero _ _ (by simp only []; omega), h243.second r ⟨s.val - 256, by omega⟩ (by omega), h7, e13]
    simp only [zero_add]
    rw [← EReal.coe_sub, ← EReal.coe_add, ← EReal.coe_add, Ideal.exp_coe, Head.later,
      show s0 + s.val + 1 = s0 + 256 + (s.val - 256) + 1 by omega,
      ← later_in_piece (fun j => H.rest (t0 + r) j) _ (s0 + 256) 256 (s.val - 256) (by omega), ← sum_range_next]

/-- The gradients of the logarithms of the weights. -/
theorem group_dLog (hD : H.D = 128) {v5 : FVec Ideal S256x128 .bf16} {v7 b : FVec Ideal S256x1 .f32} {v203 : FVec Ideal S512x128 .bf16}
    {v216 : FVec Ideal S256x512 .f32} {x y : FVec Ideal S256x256 .f32} {v243 : FVec Ideal S1536x256 .f32}
    {v244 : FVec Ideal S256x256 .f32} {z : Ideal .f32} (h5 : IsReal v5 (fun r d => H.g (t0 + r) d))
    (h203 : IsReal v203 (fun s d => H.v (s0 + s) d))
    (hw : IsReal (k0_pay14 (F := Ideal) v7 b v216 x y v243 v244 z) (fun r s => H.weight (t0 + r) (s0 + s))) :
    IsReal (k0_pay15 (F := Ideal) v5 v7 b v203 v216 x y v243 v244 z) (fun r s => H.dLog (t0 + r) (s0 + s)) := by
  intro r s
  show matmul dot_S256x128_S512x128_S256x512_1_1_0_0_n_n none v5 v203 _ (ix2 r s) * k0_pay14 v7 b v216 x y v243 v244 z (ix2 r s) = _
  rw [isReal_nt h5 h203, hw, ← EReal.coe_mul]
  simp only [Head.dLog, hD]

/-- The gradients of the scores of the group: `v274` holds the gradients of the logarithms of the weights, `v275` its
    first 256 columns, and the sums of the columns before each come from the stacked products. -/
theorem group_dScore (hs : s0 + 512 ≤ t0) (hc : H.c = scale) {b : FVec Ideal S256x1 .f32} {v206 v274 : FVec Ideal S256x512 .f32}
    {v275 v295 v296 v297 : FVec Ideal S256x256 .f32} {v290 : FVec Ideal S1024x256 .f32}
    (hb : IsReal b (fun r _ => ∑ j ∈ range s0, H.dLog (t0 + r) j))
    (h206 : IsReal v206 (fun r s => H.score (t0 + r) (s0 + s))) (h274 : IsReal v274 (fun r s => H.dLog (t0 + r) (s0 + s)))
    (h275 : IsReal v275 (fun r l => H.dLog (t0 + r) (s0 + l)))
    (h290 : Stacked 512 v290 (fun r l => ∑ j ∈ range 256, H.dLog (t0 + r) (s0 + j) * (if j < l then 1 else 0))
      (fun r l => ∑ j ∈ range 256, H.dLog (t0 + r) (s0 + 256 + j) * (if j < l then 1 else 0)))
    (h295 : IsReal v295 (fun r l => ∑ j ∈ range 256, H.dLog (t0 + r) (s0 + j) * (if j < l then 1 else 0)))
    (h296 : IsReal v296 (fun _ _ => 0)) (h297 : IsReal v297 (fun _ _ => 0)) :
    IsReal (k0_pay50 (F := Ideal) b v206 v274 v275 v290 v295 v296 v297) (fun r s => H.dScore (t0 + r) (s0 + s)) := by
  intro r s
  have e48 : IsReal (k0_pay48 (F := Ideal) b v275) (fun r _ => ∑ j ∈ range (s0 + 256), H.dLog (t0 + r) j) :=
    isReal_step (f := fun r j => H.dLog (t0 + r) j) hb h275
  pointwise [k0_pay50]
  rw [h206, h274, Ideal.logistic_coe, Head.dScore, Head.dRest_of_lt (by omega)]
  refine (congrArg (_ * ·) coe_scale).trans ?_
  rw [hc]
  by_cases h : s.val < 256
  · rw [dif_pos h, h295 r ⟨s.val, h⟩, hb, ← EReal.coe_one]
    simp only [← EReal.coe_sub, ← EReal.coe_add, ← EReal.coe_mul]
    rw [before_in_piece (fun j => H.dLog (t0 + r) j) s0 256 s.val h]
    rfl
  · rw [dif_neg h, h296, h297, h290.second r ⟨s.val - 256, by omega⟩ (by omega), e48, ← EReal.coe_one]
    simp only [← EReal.coe_sub, ← EReal.coe_add, ← EReal.coe_mul, add_zero, zero_add]
    rw [before_in_piece (fun j => H.dLog (t0 + r) j) (s0 + 256) 256 (s.val - 256) (by omega), show s0 + 256 + (s.val - 256) = s0 + s.val by omega]
    rfl

/-- What the group adds to the gradient of the queries, on top of the groups before it. -/
theorem group_dq {a : FVec Ideal S256x128 .f32} {dz : FVec Ideal S256x512 .bf16} {v201 : FVec Ideal S512x128 .bf16}
    (ha : IsReal a (fun r d => ∑ s ∈ range s0, H.dScore (t0 + r) s * H.k s d))
    (hdz : IsReal dz (fun r s => H.dScore (t0 + r) (s0 + s))) (hk : IsReal v201 (fun s d => H.k (s0 + s) d)) :
    IsReal (addf a (matmul dot_S256x512_S512x128_S256x128_1_0_0_1_n_n none dz v201 (constant S256x128 .f32 0x00000000#32)))
      (fun r d => ∑ s ∈ range (s0 + 512), H.dScore (t0 + r) s * H.k s d) := by
  intro r d
  refine (congrArg₂ (· + ·) (ha r d) (isReal_nn hdz hk r d)).trans ?_
  rw [← EReal.coe_add]
  simp only [sum_range_next]

/-- What the block adds to the rows of the gradient of the keys that the group holds. -/
theorem group_dk {a : FVec Ideal S512x128 .f32} {dz : FVec Ideal S256x512 .bf16} {v3 : FVec Ideal S256x128 .bf16}
    (ha : IsReal a (fun s d => ∑ t ∈ range t0, H.dScore t (s0 + s) * H.q t d))
    (hdz : IsReal dz (fun r s => H.dScore (t0 + r) (s0 + s))) (hq : IsReal v3 (fun r d => H.q (t0 + r) d)) :
    IsReal (addf (shapeCast S512x128 a shapeCasts_S512x128_S512x128)
        (matmul dot_S256x512_S256x128_S512x128_0_0_1_1_n_n none dz v3 (constant S512x128 .f32 0x00000000#32)))
      (fun s d => ∑ t ∈ range (t0 + 256), H.dScore t (s0 + s) * H.q t d) := by
  intro s d
  have e : shapeCast S512x128 a shapeCasts_S512x128_S512x128 (ix2 s d) = a (ix2 s d) := by pointwise
  refine (congrArg₂ (· + ·) (e.trans (ha s d)) (isReal_tn hdz hq s d)).trans ?_
  rw [← EReal.coe_add]
  simp only [sum_range_next]

/-- What the block adds to the rows of the gradient of the values that the group holds. -/
theorem group_dv {a : FVec Ideal S512x128 .f32} {w : FVec Ideal S256x512 .bf16} {v5 : FVec Ideal S256x128 .bf16}
    (ha : IsReal a (fun s d => ∑ t ∈ range t0, H.weight t (s0 + s) * H.g t d))
    (hw : IsReal w (fun r s => H.weight (t0 + r) (s0 + s))) (hg : IsReal v5 (fun r d => H.g (t0 + r) d)) :
    IsReal (addf (shapeCast S512x128 a shapeCasts_S512x128_S512x128)
        (matmul dot_S256x512_S256x128_S512x128_0_0_1_1_n_n none w v5 (constant S512x128 .f32 0x00000000#32)))
      (fun s d => ∑ t ∈ range (t0 + 256), H.weight t (s0 + s) * H.g t d) := by
  intro s d
  have e : shapeCast S512x128 a shapeCasts_S512x128_S512x128 (ix2 s d) = a (ix2 s d) := by pointwise
  refine (congrArg₂ (· + ·) (e.trans (ha s d)) (isReal_tn hw hg s d)).trans ?_
  rw [← EReal.coe_add]
  simp only [sum_range_next]

end Group

/-! ### The group at the diagonal, with its mask -/

section Diagonal

variable {H : Head} {t0 s0 : ℕ}

/-- The mask: the key is earlier than the query. -/
def IsMask (t0 s0 : ℕ) (v : IVec S256x512 1) : Prop :=
  ∀ (r : Fin 256) (s : Fin 512), v (ix2 r s) = if s0 + s.val < t0 + r.val then 1#1 else 0#1

/-- A select by the mask. -/
theorem select_mask {v84 : IVec S256x512 1} (hm : IsMask t0 s0 v84) {x : FVec Ideal S256x512 .f32} {f : ℕ → ℕ → ℝ} {z : Ideal .f32} (hz : z = 0)
    (hx : IsReal x f) : IsReal (select v84 x (broadcast S256x512 z)) (fun r s => if s0 + s < t0 + r then f r s else 0) := by
  intro r s
  show Scalar.select (v84 (ix2 r s)) (x (ix2 r s)) z = _
  show _ = (((if s0 + s.val < t0 + r.val then f r s else 0 : ℝ)) : EReal)
  rw [hm, hx, hz]
  by_cases h : s0 + s.val < t0 + r.val
  · rw [if_pos h, if_pos h]; rfl
  · rw [if_neg h, if_neg h]; rfl

/-- The first 256 columns of a matrix of 512. -/
theorem isReal_slice_first {x : FVec Ideal S256x512 .f32} {f : ℕ → ℕ → ℝ} (hx : IsReal x f) :
    IsReal (extractStridedSlice S256x256 ![0, 0] x slices_S256x512_o0_0_S256x256) f := by
  intro r l
  pointwise
  rw [hx]

/-- The last 256 columns of a matrix of 512. -/
theorem isReal_slice_second {x : FVec Ideal S256x512 .f32} {f : ℕ → ℕ → ℝ} (hx : IsReal x f) :
    IsReal (extractStridedSlice S256x256 ![0, 256] x slices_S256x512_o0_256_S256x256) (fun r l => f r (256 + l)) := by
  intro r l
  pointwise
  rw [hx]

/-- What the keys leave, masked. -/
theorem diag_rest {v51 v76 : BitVec 32} {v77 : IVec S256x512 32} (hm : IsMask t0 s0 (k0_pay64 v51 v76 v77))
    {v75 : FVec Ideal S256x512 .f32} (h75 : IsReal v75 (fun r s => logRest (H.score (t0 + r) (s0 + s)))) :
    IsReal (k0_pay65 (F := Ideal) v51 v75 v76 v77) (fun r s => H.rest (t0 + r) (s0 + s)) :=
  select_mask hm (Ideal.ofBits_zero .f32) h75

/-- The weights, from what is later than each key in its piece and the pieces after it. -/
theorem diag_weight {v51 v76 : BitVec 32} {v77 : IVec S256x512 32} (hm : IsMask t0 s0 (k0_pay64 v51 v76 v77))
    {v7 b : FVec Ideal S256x1 .f32} {v13 : FVec Ideal S256x256 .bf16} {v70 v75 : FVec Ideal S256x512 .f32}
    (h7 : IsReal v7 (fun r _ => H.total (t0 + r))) (hb : IsReal b (fun r _ => ∑ j ∈ range s0, H.rest (t0 + r) j))
    (h13 : IsReal v13 (fun r s => if s < r then 1 else 0))
    (h70 : IsReal v70 (fun r s => logShare (H.score (t0 + r) (s0 + s))))
    (h75 : IsReal v75 (fun r s => logRest (H.score (t0 + r) (s0 + s)))) :
    IsReal (k0_pay72 (F := Ideal) v70 (k0_pay64 v51 v76 v77) (k0_pay70 v7 v13 b v51 v75 v76 v77) (k0_pay71 v7 v13 b v51 v75 v76 v77))
      (fun r s => H.weight (t0 + r) (s0 + s)) := by
  have h65 := diag_rest hm h75
  have hx : IsReal (k0_pay66 (F := Ideal) v51 v75 v76 v77) (fun r l => H.rest (t0 + r) (s0 + l)) := isReal_slice_first h65
  have hy : IsReal (k0_pay67 (F := Ideal) v51 v75 v76 v77) (fun r l => H.rest (t0 + r) (s0 + 256 + l)) :=
    (isReal_slice_second h65).congr fun r _ l _ => by rw [add_assoc]
  have h68 : Stacked 768 (k0_pay68 (F := Ideal) v13 v51 v75 v76 v77) _ _ := stacked_six hx hy h13 rfl
  have e12 : IsReal (k0_pay69 (F := Ideal) b v51 v75 v76 v77) (fun r _ => ∑ j ∈ range (s0 + 256), H.rest (t0 + r) j) :=
    isReal_step (f := fun r j => H.rest (t0 + r) j) hb hx
  have e13 := isReal_step2 (f := fun r j => H.rest (t0 + r) j) hb hx hy
  refine (select_mask (f := fun r s => Real.exp (logShare (H.score (t0 + r) (s0 + s)) + H.later (t0 + r) (s0 + s))) hm (Ideal.ofBits_zero .f32) ?_).congr
    fun r _ s _ => rfl
  intro r s
  pointwise
  rw [h70]
  by_cases h : s.val < 256
  · rw [dif_pos h]
    pointwise [k0_pay70]
    rw [h68.zero _ _ (by simp only []; omega), h68.zero _ _ (by simp only []; omega), h68.first r ⟨s.val, h⟩ (by omega), h7, e12]
    simp only [zero_add]
    rw [← EReal.coe_sub, ← EReal.coe_add, ← EReal.coe_add, Ideal.exp_coe, Head.later,
      ← later_in_piece (fun j => H.rest (t0 + r) j) _ s0 256 s.val h, sum_range_next]
  · rw [dif_neg h]
    pointwise [k0_pay71]
    rw [h68.zero _ _ (by simp only []; omega), h68.zero _ _ (by simp only []; omega), h68.second r ⟨s.val - 256, by omega⟩ (by omega), h7]
    refine (congrArg (fun u => Ideal.exp (_ + (_ + (_ - u)))) ((Eq.symm (by pointwise [k0_pay13]; rfl)).trans (e13 r 0))).trans ?_
    simp only [zero_add]
    rw [← EReal.coe_sub, ← EReal.coe_add, ← EReal.coe_add, Ideal.exp_coe, Head.later,
      show s0 + s.val + 1 = s0 + 256 + (s.val - 256) + 1 by omega,
      ← later_in_piece (fun j => H.rest (t0 + r) j) _ (s0 + 256) 256 (s.val - 256) (by omega), ← sum_range_next]

/-- The two pieces of sums over earlier columns, joined: `m` holds the stacked products, `b` the sums before the first
    piece and `b'` those before the second. -/
def joinEarlier (m : FVec Ideal S1024x256 .f32) (b b' : FVec Ideal S256x1 .f32) : FVec Ideal S256x512 .f32 :=
  let z : FVec Ideal S256x256 .f32 := broadcast S256x256 (Scalar.ofBits .f32 0x00000000#32)
  let m0 := addf (addf z (extractStridedSlice S256x256 ![256, 0] m slices_S1024x256_o256_0_S256x256))
    (extractStridedSlice S256x256 ![0, 0] m slices_S1024x256_o0_0_S256x256)
  let m1 := addf (addf z (extractStridedSlice S256x256 ![768, 0] m slices_S1024x256_o768_0_S256x256))
    (extractStridedSlice S256x256 ![512, 0] m slices_S1024x256_o512_0_S256x256)
  concatenate S256x512 1 [⟨S256x256, addf m0 (broadcastTo S256x256 b broadcasts_S256x1_S256x256)⟩,
    ⟨S256x256, addf m1 (broadcastTo S256x256 b' broadcasts_S256x1_S256x256)⟩] concatenates_S256x256_S256x256_S256x512_d1

/-- Joined, they are the sums of the numbers before each. -/
theorem isReal_joinEarlier {f : ℕ → ℕ → ℝ} {m : FVec Ideal S1024x256 .f32} {b b' : FVec Ideal S256x1 .f32}
    (hm : Stacked 512 m (fun r l => ∑ j ∈ range 256, f r (s0 + j) * (if j < l then 1 else 0))
      (fun r l => ∑ j ∈ range 256, f r (s0 + 256 + j) * (if j < l then 1 else 0)))
    (hb : IsReal b (fun r _ => ∑ j ∈ range s0, f r j)) (hb' : IsReal b' (fun r _ => ∑ j ∈ range (s0 + 256), f r j)) :
    IsReal (joinEarlier m b b') (fun r s => ∑ j ∈ range (s0 + s), f r j) := by
  intro r s
  pointwise [joinEarlier]
  by_cases h : s.val < 256
  · rw [dif_pos h, hm.zero _ _ (by simp only []; omega), hm.first r ⟨s.val, h⟩ (by omega), hb, zero_add, ← EReal.coe_add,
      before_in_piece (f r) s0 256 s.val h]
  · rw [dif_neg h, hm.zero _ _ (by simp only []; omega), hm.second r ⟨s.val - 256, by omega⟩ (by omega), hb', zero_add, ← EReal.coe_add,
      before_in_piece (f r) (s0 + 256) 256 (s.val - 256) (by omega), show s0 + 256 + (s.val - 256) = s0 + s.val by omega]

/-- The sums of the columns before each, as the masked group computes them: two pieces of 256 columns, each the product
    with the matrix of ones, on top of the sums before the piece. -/
def earlierSums (v19 : FVec Ideal S256x256 .bf16) (b : FVec Ideal S256x1 .f32) (x : FVec Ideal S256x512 .f32) : FVec Ideal S256x512 .f32 :=
  let x0 := extractStridedSlice S256x256 ![0, 0] x slices_S256x512_o0_0_S256x256
  let x1 := extractStridedSlice S256x256 ![0, 256] x slices_S256x512_o0_256_S256x256
  let p : FVec Ideal S1024x256 .bf16 := concatenate S1024x256 0 [⟨S256x256, x0⟩, ⟨S256x256, subf x0 x0⟩, ⟨S256x256, x1⟩, ⟨S256x256, subf x1 x1⟩]
    concatenates_S256x256_S256x256_S256x256_S256x256_S1024x256_d0
  joinEarlier (matmul dot_S1024x256_S256x256_S1024x256_1_0_0_1_n_n none p v19 (constant S1024x256 .f32 0x00000000#32)) b (k0_pay12 b x0)

/-- They are the sums of the numbers before each. -/
theorem isReal_earlierSums {f : ℕ → ℕ → ℝ} {v19 : FVec Ideal S256x256 .bf16} {b : FVec Ideal S256x1 .f32} {x : FVec Ideal S256x512 .f32}
    (h19 : IsReal v19 (fun r s => if r < s then 1 else 0)) (hb : IsReal b (fun r _ => ∑ j ∈ range s0, f r j))
    (hx : IsReal x (fun r s => f r (s0 + s))) : IsReal (earlierSums v19 b x) (fun r s => ∑ j ∈ range (s0 + s), f r j) := by
  have h0 := isReal_slice_first hx
  have h1 : IsReal (extractStridedSlice S256x256 ![0, 256] x slices_S256x512_o0_256_S256x256) (fun r l => f r (s0 + 256 + l)) :=
    (isReal_slice_second hx).congr fun r _ l _ => by rw [add_assoc]
  exact isReal_joinEarlier (stacked_four h0 h1 h19 rfl) hb (isReal_step (f := f) hb h0)

/-- The gradients of the scores. -/
theorem diag_dScore (hD : H.D = 128) (hc : H.c = scale) {v84 : IVec S256x512 1} (hm : IsMask t0 s0 v84)
    {v5 : FVec Ideal S256x128 .bf16} {v19 : FVec Ideal S256x256 .bf16} {b : FVec Ideal S256x1 .f32} {v57 : FVec Ideal S512x128 .bf16}
    {v60 v70 : FVec Ideal S256x512 .f32} {v124 v130 : FVec Ideal S256x256 .f32}
    (h5 : IsReal v5 (fun r d => H.g (t0 + r) d)) (h19 : IsReal v19 (fun r s => if r < s then 1 else 0))
    (hb : IsReal b (fun r _ => ∑ j ∈ range s0, H.dLog (t0 + r) j)) (h57 : IsReal v57 (fun s d => H.v (s0 + s) d))
    (h60 : IsReal v60 (fun r s => H.score (t0 + r) (s0 + s)))
    (hw : IsReal (k0_pay72 (F := Ideal) v70 v84 v124 v130) (fun r s => H.weight (t0 + r) (s0 + s))) :
    IsReal (k0_pay73 (F := Ideal) v5 v19 b v57 v60 v70 v84 v124 v130) (fun r s => H.dScore (t0 + r) (s0 + s)) := by
  have h137 : IsReal (mulf (matmul dot_S256x128_S512x128_S256x512_1_1_0_0_n_n none v5 v57 (constant S256x512 .f32 0x00000000#32))
      (k0_pay72 (F := Ideal) v70 v84 v124 v130)) (fun r s => H.dLog (t0 + r) (s0 + s)) := fun r s => by
    refine (congrArg₂ (· * ·) (isReal_nt h5 h57 r s) (hw r s)).trans ?_
    rw [← EReal.coe_mul]
    simp only [Head.dLog, hD]
  have h169 := select_mask hm (Ideal.ofBits_zero .f32) (isReal_earlierSums h19 (f := fun r j => H.dLog (t0 + r) j) hb h137)
  intro r s
  have e : k0_pay73 (F := Ideal) v5 v19 b v57 v60 v70 v84 v124 v130 (ix2 r s) =
      (mulf (matmul dot_S256x128_S512x128_S256x512_1_1_0_0_n_n none v5 v57 (constant S256x512 .f32 0x00000000#32))
          (k0_pay72 (F := Ideal) v70 v84 v124 v130) (ix2 r s) * (Ideal.ofBits .f32 0x3F800000#32 - Ideal.logistic (v60 (ix2 r s)))
        - select v84 (earlierSums v19 b (mulf (matmul dot_S256x128_S512x128_S256x512_1_1_0_0_n_n none v5 v57 (constant S256x512 .f32 0x00000000#32))
          (k0_pay72 (F := Ideal) v70 v84 v124 v130))) (broadcast S256x512 (Ideal.ofBits .f32 0x00000000#32)) (ix2 r s) * Ideal.logistic (v60 (ix2 r s)))
        * Ideal.ofBits .f32 0x3DB504F3#32 := rfl
  rw [e, h137, h169, h60, Ideal.logistic_coe, Ideal.ofBits_one_f32, coe_scale, ← EReal.coe_one]
  simp only [← EReal.coe_sub, ← EReal.coe_mul]
  rw [Head.dScore, hc]
  rfl

end Diagonal

end Cert.Stick

end
-- ==== Proof.Trip.lean ====
/-
  One trip of the loop over the groups of keys earlier than the block of queries, and all the trips.

  The loop carries the block's gradient of the queries, the sum of what the keys so far leave, and the sum of the
  gradients of the logarithms of their weights; each trip adds the block's share to the 512 rows of the gradients of
  the keys and the values that its group holds. After the groups below key `S` the rows below `S` hold the sums over the
  queries up to the block's end, and the others still the sums over the queries before it.
-/
module

public import proofs.«01_k».proof.Proof.Payload
public import proofs.«01_k».proof.Proof.Gen.KernelIdeal.Value

@[expose] public section

set_option maxRecDepth 16384

noncomputable section

open Idealize.ShloMosaic Idealize.ShloMosaic.TcCoe Idealize.SL.Sem

namespace Cert.Stick

open Cert.KernelIdeal Cert.KernelIdeal.Gen
open Finset (range)

/-! ### The words of the loop -/

/-- The number of trips: one for each group of 512 keys that lies wholly before the block. -/
theorem trips_eq (i : grid0.Coords) : (k0_t1_loop i).trips = (i 1).val / 2 := by
  revert i; decide +kernel

/-- The loop behind it makes no trip. -/
theorem trips2_eq (i : grid0.Coords) : (k0_t2_loop i).trips = 0 := by
  revert i; decide +kernel

/-- Where trip `k` finds its group. -/
theorem off1_eq (i : grid0.Coords) (k : Fin (k0_t1_loop i).trips) : k0_off1 i k = ![512 * k.val, 0] := by
  revert i; decide +kernel

/-- Where the group at the diagonal lies. -/
theorem off3_eq (i : grid0.Coords) : k0_off3 i = ![512 * ((i 1).val / 2), 0] := by
  revert i; decide +kernel

/-! ### Loads and stores of 512 rows -/

section Rows

variable {sig : RefSig} {κ : Kind} {sp : Space} {e : EltTy} {Val : EltTy → Type}

/-- A load of 512 rows reads the array at these rows. -/
theorem load_rows (v : View sig κ sp S4096x128 e) (f : v.ty.Contents Val) {off : Fin 2 → ℕ} {o : ℕ} (h : off = ![o, 0])
    (inb : ∀ a, off a + S512x128.size a ≤ S4096x128.size a) (s : Fin 512) (d : Fin 128) (ho : o + s.val < 4096) :
    v.readAt Val (Rect.unit (s := S4096x128) off S512x128.size inb).toLoadRect f (ix2 s d) = v.read Val f (ix2 ⟨o + s.val, ho⟩ d) := by
  subst h
  rw [View.readAt_apply]
  congr 1
  funext a
  apply Fin.ext
  match a with
  | ⟨0, _⟩ => show o + 1 * s.val = o + s.val; omega
  | ⟨1, _⟩ => show 0 + 1 * d.val = d.val; omega

/-- 512 rows that lie in the array. -/
theorem rows_inb {off : Fin 2 → ℕ} {o : ℕ} (h : off = ![o, 0]) (ho : o + 512 ≤ 4096) (a : Fin 2) : off a + S512x128.size a ≤ S4096x128.size a := by
  subst h
  match a with
  | ⟨0, _⟩ => exact ho
  | ⟨1, _⟩ => exact le_refl 128

/-- Where a store of 512 rows puts its rows. -/
theorem rows_emb {off : Fin 2 → ℕ} {o : ℕ} (h : off = ![o, 0]) (inb : ∀ a, off a + S512x128.size a ≤ S4096x128.size a) (s : Fin 512)
    (d : Fin 128) (ho : o + s.val < 4096) : (Rect.unit (s := S4096x128) off S512x128.size inb).emb (ix2 s d) = ix2 ⟨o + s.val, ho⟩ d := by
  subst h
  funext a
  apply Fin.ext
  rw [Rect.emb_apply]
  match a with
  | ⟨0, _⟩ => show o + 1 * s.val = o + s.val; omega
  | ⟨1, _⟩ => show 0 + 1 * d.val = d.val; omega

/-- The rows that a store of 512 rows does not touch. -/
theorem not_mem_rows {off : Fin 2 → ℕ} {o : ℕ} (h : off = ![o, 0]) (inb : ∀ a, off a + S512x128.size a ≤ S4096x128.size a) (s : Fin 4096)
    (d : Fin 128) (hs : ¬ (o ≤ s.val ∧ s.val < o + 512)) : ix2 s d ∉ (Rect.unit (s := S4096x128) off S512x128.size inb).set := by
  subst h
  rw [Rect.mem_set_unit]
  exact fun hy => hs (hy 0)

/-- After a store of 512 rows the array holds the payload at these rows. -/
theorem store_rows_hit (v : View sig κ sp S4096x128 e) (f : v.ty.Contents Val) {off : Fin 2 → ℕ} {o : ℕ} (h : off = ![o, 0])
    (inb : ∀ a, off a + S512x128.size a ≤ S4096x128.size a) (w : (Rect.unit (s := S4096x128) off S512x128.size inb).shape.Idx → Val e)
    (L : List (View.Piece Val S4096x128 e)) (s : Fin 512) (d : Fin 128) (ho : o + s.val < 4096) :
    v.read Val (v.writes Val f (⟨Rect.unit (s := S4096x128) off S512x128.size inb, w⟩ :: L)) (ix2 ⟨o + s.val, ho⟩ d) = w (ix2 s d) :=
  View.read_writes_cons_hit v f _ w L _ _ (rows_emb h inb s d ho)

/-- The other rows hold what they held. -/
theorem store_rows_miss (v : View sig κ sp S4096x128 e) (f : v.ty.Contents Val) {off : Fin 2 → ℕ} {o : ℕ} (h : off = ![o, 0])
    (inb : ∀ a, off a + S512x128.size a ≤ S4096x128.size a) (w : (Rect.unit (s := S4096x128) off S512x128.size inb).shape.Idx → Val e)
    (L : List (View.Piece Val S4096x128 e)) (s : Fin 4096) (d : Fin 128) (hs : ¬ (o ≤ s.val ∧ s.val < o + 512)) :
    v.read Val (v.writes Val f (⟨Rect.unit (s := S4096x128) off S512x128.size inb, w⟩ :: L)) (ix2 s d) = v.read Val (v.writes Val f L) (ix2 s d) :=
  View.read_writes_cons_miss v f _ L _ (not_mem_rows h inb s d hs)

end Rows

/-- A load of 512 rows of an array of numbers of half precision. -/
theorem IsReal.load_half {sig : RefSig} {κ : Kind} {sp : Space} {v : View sig κ sp S4096x128 .bf16} {f : v.ty.Contents (Elt Ideal)} {g : ℕ → ℕ → ℝ}
    (hf : IsReal (v.read (Elt Ideal) f) g) {off : Fin 2 → ℕ} {o : ℕ} (h : off = ![o, 0]) (ho : o + 512 ≤ 4096)
    (inb : ∀ a, off a + S512x128.size a ≤ S4096x128.size a) :
    IsReal (m := 512) (n := 128) (v.readAt (Elt Ideal) (Rect.unit (s := S4096x128) off S512x128.size inb).toLoadRect f) (fun s d => g (o + s) d) :=
  fun s d => (load_rows v f h inb s d (by omega)).trans (hf _ _)

/-- A load of 512 rows of an array of numbers. -/
theorem IsReal.load {sig : RefSig} {κ : Kind} {sp : Space} {v : View sig κ sp S4096x128 .f32} {f : v.ty.Contents (Elt Ideal)} {g : ℕ → ℕ → ℝ}
    (hf : IsReal (v.read (Elt Ideal) f) g) {off : Fin 2 → ℕ} {o : ℕ} (h : off = ![o, 0]) (ho : o + 512 ≤ 4096)
    (inb : ∀ a, off a + S512x128.size a ≤ S4096x128.size a) :
    IsReal (m := 512) (n := 128) (v.readAt (Elt Ideal) (Rect.unit (s := S4096x128) off S512x128.size inb).toLoadRect f) (fun s d => g (o + s) d) :=
  fun s d => (load_rows v f h inb s d (by omega)).trans (hf _ _)

/-- A store of 512 rows of numbers into an array of numbers. -/
theorem IsReal.store {sig : RefSig} {κ : Kind} {sp : Space} {v : View sig κ sp S4096x128 .f32} {f : v.ty.Contents (Elt Ideal)} {g g' : ℕ → ℕ → ℝ}
    {L : List (View.Piece (Elt Ideal) S4096x128 .f32)} (hf : IsReal (v.read (Elt Ideal) (v.writes (Elt Ideal) f L)) g)
    {off : Fin 2 → ℕ} {o : ℕ} (h : off = ![o, 0]) (inb : ∀ a, off a + S512x128.size a ≤ S4096x128.size a) (ho : o + 512 ≤ 4096)
    {w : (Rect.unit (s := S4096x128) off S512x128.size inb).shape.Idx → Elt Ideal .f32} (hw : IsReal (m := 512) (n := 128) w (fun s d => g' (o + s) d)) :
    IsReal (v.read (Elt Ideal) (v.writes (Elt Ideal) f (⟨Rect.unit (s := S4096x128) off S512x128.size inb, w⟩ :: L)))
      (fun s d => if o ≤ s ∧ s < o + 512 then g' s d else g s d) := by
  intro s d
  by_cases hs : o ≤ s.val ∧ s.val < o + 512
  · refine Eq.trans ?_ (congrArg _ (if_pos hs).symm)
    obtain ⟨n, hn⟩ := Nat.exists_eq_add_of_le hs.1
    have hn' : n < 512 := by omega
    have e : s = ⟨o + (⟨n, hn'⟩ : Fin 512).val, by show o + n < 4096; omega⟩ := Fin.ext hn
    rw [e]
    exact (store_rows_hit v f h inb w L ⟨n, hn'⟩ d _).trans (hw _ _)
  · refine Eq.trans ?_ (congrArg _ (if_neg hs).symm)
    exact (store_rows_miss v f h inb w L s d hs).trans (hf _ _)

/-! ### One trip's values -/

/-- The first piece's product, taken out of the stacked ones together with what a rounding leaves. -/
theorem isReal_stacked_first {m : FVec Ideal S1024x256 .f32} {x y : ℕ → ℕ → ℝ} (hm : Stacked 512 m x y) :
    IsReal (addf (addf (broadcast S256x256 (Scalar.ofBits .f32 0x00000000#32)) (extractStridedSlice S256x256 ![256, 0] m slices_S1024x256_o256_0_S256x256))
      (extractStridedSlice S256x256 ![0, 0] m slices_S1024x256_o0_0_S256x256)) x := by
  intro r l
  have h1 := hm.zero ⟨256 + r.val, by omega⟩ l (by simp only []; omega)
  have h2 := hm.first r l (by omega)
  pointwise
  rw [h1]
  first | rw [h2] | (simp only [zero_add]; exact h2)
  simp only [zero_add]

/-- What a rounding leaves of the second piece has no product. -/
theorem isReal_stacked_rest {m : FVec Ideal S1024x256 .f32} {x y : ℕ → ℕ → ℝ} (hm : Stacked 512 m x y) :
    IsReal (extractStridedSlice S256x256 ![768, 0] m slices_S1024x256_o768_0_S256x256) (fun _ _ => 0) := by
  intro r l
  have h1 := hm.zero ⟨768 + r.val, by omega⟩ l (by simp only []; omega)
  pointwise
  exact h1

/-- What a block of 256 queries brings: its queries, the gradient of its output, its totals, and the two matrices of
    ones, for head `H` and the block that starts at query `t0`. -/
structure Block (H : Head) (t0 : ℕ) (v3 v5 : FVec Ideal S256x128 .bf16) (v7 : FVec Ideal S256x1 .f32) (v13 v19 : FVec Ideal S256x256 .bf16) : Prop where
  lanes : H.D = 128
  scaled : H.c = scale
  q : IsReal v3 (fun r d => H.q (t0 + r) d)
  g : IsReal v5 (fun r d => H.g (t0 + r) d)
  total : IsReal v7 (fun r _ => H.total (t0 + r))
  later : IsReal v13 (fun r s => if s < r then 1 else 0)
  earlier : IsReal v19 (fun r s => if r < s then 1 else 0)

/-- The weights of a group, as the trip computes them. -/
def tripWeight (v3 : FVec Ideal S256x128 .bf16) (v7 : FVec Ideal S256x1 .f32) (v13 : FVec Ideal S256x256 .bf16) (b : FVec Ideal S256x1 .f32)
    (k : FVec Ideal S512x128 .bf16) : FVec Ideal S256x512 .f32 :=
  k0_pay14 v7 b (k0_pay6 v3 k) (k0_pay8 v3 k) (k0_pay9 v3 k) (k0_pay10 v3 v13 k) (k0_pay11 v3 v13 k) (FloatOps.ofBits .f32 0x00000000#32)

/-- The gradients of the logarithms of the weights. -/
def tripDLog (v3 v5 : FVec Ideal S256x128 .bf16) (v7 : FVec Ideal S256x1 .f32) (v13 : FVec Ideal S256x256 .bf16) (b : FVec Ideal S256x1 .f32)
    (k v : FVec Ideal S512x128 .bf16) : FVec Ideal S256x512 .f32 :=
  k0_pay15 v5 v7 b v (k0_pay6 v3 k) (k0_pay8 v3 k) (k0_pay9 v3 k) (k0_pay10 v3 v13 k) (k0_pay11 v3 v13 k) (FloatOps.ofBits .f32 0x00000000#32)

/-- The sums of these over the earlier columns, in stacked pieces. -/
def tripSums (v3 v5 : FVec Ideal S256x128 .bf16) (v7 : FVec Ideal S256x1 .f32) (v13 v19 : FVec Ideal S256x256 .bf16) (b : FVec Ideal S256x1 .f32)
    (k v : FVec Ideal S512x128 .bf16) : FVec Ideal S1024x256 .f32 :=
  k0_pay18 v5 v7 v19 b v (k0_pay6 v3 k) (k0_pay8 v3 k) (k0_pay9 v3 k) (k0_pay10 v3 v13 k) (k0_pay11 v3 v13 k) (FloatOps.ofBits .f32 0x00000000#32)

/-- The gradients of the scores. -/
def tripDScore (v3 v5 : FVec Ideal S256x128 .bf16) (v7 : FVec Ideal S256x1 .f32) (v13 v19 : FVec Ideal S256x256 .bf16) (b e : FVec Ideal S256x1 .f32)
    (k v : FVec Ideal S512x128 .bf16) : FVec Ideal S256x512 .bf16 :=
  k0_pay50 e (k0_pay4 v3 k) (tripDLog v3 v5 v7 v13 b k v)
    (k0_pay16 v5 v7 b v (k0_pay6 v3 k) (k0_pay8 v3 k) (k0_pay9 v3 k) (k0_pay10 v3 v13 k) (k0_pay11 v3 v13 k) (FloatOps.ofBits .f32 0x00000000#32))
    (tripSums v3 v5 v7 v13 v19 b k v)
    (k0_pay19 v5 v7 v19 b v (k0_pay6 v3 k) (k0_pay8 v3 k) (k0_pay9 v3 k) (k0_pay10 v3 v13 k) (k0_pay11 v3 v13 k) (FloatOps.ofBits .f32 0x00000000#32))
    (k0_pay20 v5 v7 v19 b v (k0_pay6 v3 k) (k0_pay8 v3 k) (k0_pay9 v3 k) (k0_pay10 v3 v13 k) (k0_pay11 v3 v13 k) (FloatOps.ofBits .f32 0x00000000#32))
    k0_pay21

section Values

variable {H : Head} {t0 s0 : ℕ} {v3 v5 : FVec Ideal S256x128 .bf16} {v7 : FVec Ideal S256x1 .f32} {v13 v19 : FVec Ideal S256x256 .bf16}
  {b e : FVec Ideal S256x1 .f32} {k v : FVec Ideal S512x128 .bf16}

/-- The trip's weights. -/
theorem Block.weight (B : Block H t0 v3 v5 v7 v13 v19) (hs : s0 + 512 ≤ t0) (hk : IsReal k (fun s d => H.k (s0 + s) d))
    (hb : IsReal b (fun r _ => ∑ j ∈ range s0, H.rest (t0 + r) j)) :
    IsReal (tripWeight v3 v7 v13 b k) (fun r s => H.weight (t0 + r) (s0 + s)) := by
  have hz := group_score B.lanes B.scaled B.q hk
  have hx := group_rest_first hs hz
  have hy := group_rest_second hs hz
  have h10 : Stacked 768 (k0_pay10 (F := Ideal) v3 v13 k) _ _ := stacked_six hx hy B.later rfl
  refine group_weight hs B.total hb (isReal_logShare hz) hx hy h10 (fun r l => ?_) (Ideal.ofBits_zero .f32)
  pointwise [k0_pay11]
  rw [h10.zero _ _ (by simp only []; omega)]
  rfl

/-- The trip's gradients of the logarithms of the weights. -/
theorem Block.dLog (B : Block H t0 v3 v5 v7 v13 v19) (hs : s0 + 512 ≤ t0) (hk : IsReal k (fun s d => H.k (s0 + s) d))
    (hv : IsReal v (fun s d => H.v (s0 + s) d)) (hb : IsReal b (fun r _ => ∑ j ∈ range s0, H.rest (t0 + r) j)) :
    IsReal (tripDLog v3 v5 v7 v13 b k v) (fun r s => H.dLog (t0 + r) (s0 + s)) :=
  group_dLog B.lanes B.g hv (B.weight hs hk hb)

/-- The trip's stacked sums. -/
theorem Block.sums (B : Block H t0 v3 v5 v7 v13 v19) (hs : s0 + 512 ≤ t0) (hk : IsReal k (fun s d => H.k (s0 + s) d))
    (hv : IsReal v (fun s d => H.v (s0 + s) d)) (hb : IsReal b (fun r _ => ∑ j ∈ range s0, H.rest (t0 + r) j)) :
    Stacked 512 (tripSums v3 v5 v7 v13 v19 b k v) (fun r l => ∑ j ∈ range 256, H.dLog (t0 + r) (s0 + j) * (if j < l then 1 else 0))
      (fun r l => ∑ j ∈ range 256, H.dLog (t0 + r) (s0 + 256 + j) * (if j < l then 1 else 0)) := by
  have h := B.dLog hs hk hv hb
  exact stacked_four (isReal_slice_first h) ((isReal_slice_second h).congr fun r _ l _ => by rw [add_assoc]) B.earlier rfl

/-- The trip's gradients of the scores. -/
theorem Block.dScore (B : Block H t0 v3 v5 v7 v13 v19) (hs : s0 + 512 ≤ t0) (hk : IsReal k (fun s d => H.k (s0 + s) d))
    (hv : IsReal v (fun s d => H.v (s0 + s) d)) (hb : IsReal b (fun r _ => ∑ j ∈ range s0, H.rest (t0 + r) j))
    (he : IsReal e (fun r _ => ∑ j ∈ range s0, H.dLog (t0 + r) j)) :
    IsReal (tripDScore v3 v5 v7 v13 v19 b e k v) (fun r s => H.dScore (t0 + r) (s0 + s)) := by
  have hz := group_score B.lanes B.scaled B.q hk
  have hd := B.dLog hs hk hv hb
  have hm := B.sums hs hk hv hb
  exact group_dScore hs B.scaled he hz hd (isReal_slice_first hd) hm (isReal_stacked_first hm) (isReal_stacked_rest hm)
    (fun r l => Ideal.ofBits_zero .f32)

end Values

end Cert.Stick

end
-- ==== Proof.Loop.lean ====
/-
  The loop over the groups of keys earlier than the block of queries: what its state holds before each trip.
-/
module

public import proofs.«01_k».proof.Proof.Trip
public import Idealize.ShloMosaic.Lib.Writes

@[expose] public section

set_option maxRecDepth 16384

noncomputable section

open Idealize.ShloMosaic Idealize.ShloMosaic.TcCoe Idealize.SL.Sem

namespace Cert.Stick

open Cert.KernelIdeal Cert.KernelIdeal.Gen
open Finset (range)

/-- The state of the loop of head `H` at the block of queries from `t0`, when the groups below key `S` are done: what is
    carried, and the two arrays that gather the gradients of the keys and of the values. -/
structure LoopInv (H : Head) (t0 S : ℕ) (acc : FVec Ideal S256x128 .f32 × FVec Ideal S256x1 .f32 × FVec Ideal S256x1 .f32)
    (b8 b9 : FVec Ideal S4096x128 .f32) : Prop where
  dq : IsReal acc.1 (fun r d => ∑ s ∈ range S, H.dScore (t0 + r) s * H.k s d)
  rest : IsReal acc.2.1 (fun r _ => ∑ j ∈ range S, H.rest (t0 + r) j)
  dLog : IsReal acc.2.2 (fun r _ => ∑ j ∈ range S, H.dLog (t0 + r) j)
  dk : IsReal b8 (fun s d => ∑ t ∈ range (if s < S then t0 + 256 else t0), H.dScore t s * H.q t d)
  dv : IsReal b9 (fun s d => ∑ t ∈ range (if s < S then t0 + 256 else t0), H.weight t s * H.g t d)

section Loop

variable {H : Head} {t0 : ℕ} (c : Dev nD) (i : grid0.Coords)
  (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1x256x1 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .f32) (harg8 : arg8.IsWhole) (arg9 : Memref sig .tc .vmem S4096x128 .f32) (harg9 : arg9.IsWhole)
  (arg1 v24 : BitVec 32) (v35 v37 : BitVec 1)
  {v3 v5 : FVec Ideal S256x128 .bf16} {v7 : FVec Ideal S256x1 .f32} {v13 v19 : FVec Ideal S256x256 .bf16}
  {X3 : BufTy.Contents (Elt Ideal) arg3.view.ty} {X4 : BufTy.Contents (Elt Ideal) arg4.view.ty}

include harg2 harg3 harg4 harg5 harg6 harg7 harg8 harg9

/-- One trip takes the state one group further. -/
theorem trip_inv (B : Block H t0 v3 v5 v7 v13 v19) (hk : IsReal (arg3.view.read (Elt Ideal) X3) H.k)
    (hv : IsReal (arg4.view.read (Elt Ideal) X4) H.v) (k : Fin (k0_t1_loop i).trips) (hs : 512 * k.val + 512 ≤ t0) (ht : t0 ≤ 4096)
    {acc : FVec Ideal S256x128 .f32 × FVec Ideal S256x1 .f32 × FVec Ideal S256x1 .f32}
    {f8 : BufTy.Contents (Elt Ideal) arg8.view.ty} {f9 : BufTy.Contents (Elt Ideal) arg9.view.ty}
    (I : LoopInv H t0 (512 * k.val) acc (arg8.view.read (Elt Ideal) f8) (arg9.view.read (Elt Ideal) f9)) :
    LoopInv H t0 (512 * (k.val + 1))
      (tripR_k0_t1 (F := Ideal) Variants.none c none i arg2 harg2 arg3 harg3 arg4 harg4 arg5 harg5 arg6 harg6 arg7 harg7 arg8 harg8 arg9 harg9
        arg1 v3 v5 v7 v13 v19 v24 v35 v37 X3 X4 k acc f8 f9)
      (arg8.view.read (Elt Ideal) (arg8.view.writes (Elt Ideal) f8
        (tripL_k0_t1 (F := Ideal) Variants.none c none i arg2 harg2 arg3 harg3 arg4 harg4 arg5 harg5 arg6 harg6 arg7 harg7 arg8 harg8 arg9 harg9
          arg1 v3 v5 v7 v13 v19 v24 v35 v37 X3 X4 k acc f8 f9).1))
      (arg9.view.read (Elt Ideal) (arg9.view.writes (Elt Ideal) f9
        (tripL_k0_t1 (F := Ideal) Variants.none c none i arg2 harg2 arg3 harg3 arg4 harg4 arg5 harg5 arg6 harg6 arg7 harg7 arg8 harg8 arg9 harg9
          arg1 v3 v5 v7 v13 v19 v24 v35 v37 X3 X4 k acc f8 f9).2)) := by
  have ho := off1_eq i k
  have h4 : 512 * k.val + 512 ≤ 4096 := hs.trans ht
  have inb : ∀ a, k0_off1 i k a + S512x128.size a ≤ S4096x128.size a := rows_inb ho h4
  have hkk := hk.load_half ho h4 inb
  have hvv := hv.load_half ho h4 inb
  have hD := B.dScore hs hkk hvv I.rest I.dLog
  have hW := B.weight hs hkk I.rest
  have hL := B.dLog hs hkk hvv I.rest
  have hz := group_score B.lanes B.scaled B.q hkk
  have h8 : IsReal (m := 512) (n := 128) (arg8.view.readAt (Elt Ideal) (Rect.unit (s := S4096x128) (k0_off1 i k) S512x128.size inb).toLoadRect f8)
      (fun s d => ∑ t ∈ range t0, H.dScore t (512 * k.val + s) * H.q t d) :=
    (I.dk.load ho h4 inb).congr fun s _ d _ => by rw [if_neg (by omega)]
  have h9 : IsReal (m := 512) (n := 128) (arg9.view.readAt (Elt Ideal) (Rect.unit (s := S4096x128) (k0_off1 i k) S512x128.size inb).toLoadRect f9)
      (fun s d => ∑ t ∈ range t0, H.weight t (512 * k.val + s) * H.g t d) :=
    (I.dv.load ho h4 inb).congr fun s _ d _ => by rw [if_neg (by omega)]
  unfold tripR_k0_t1 tripL_k0_t1 trip_k0_t1
  dsimp only
  refine ⟨?_, ?_, ?_, ?_, ?_⟩
  · exact group_dq I.dq hD hkk
  · exact isReal_step2 (f := fun r j => H.rest (t0 + r) j) I.rest (group_rest_first hs hz) (group_rest_second hs hz)
  · exact isReal_step2 (f := fun r j => H.dLog (t0 + r) j) I.dLog (isReal_slice_first hL)
      ((isReal_slice_second hL).congr fun r _ l _ => by rw [add_assoc]; rfl)
  · refine (IsReal.store (L := []) (g' := fun s d => ∑ t ∈ range (t0 + 256), H.dScore t s * H.q t d) I.dk ho inb h4 (group_dk h8 hD B.q)).congr ?_
    intro s _ d _
    by_cases h : 512 * k.val ≤ s ∧ s < 512 * k.val + 512
    · rw [if_pos h, if_pos (by omega)]
    · rw [if_neg h]
      by_cases h' : s < 512 * k.val
      · rw [if_pos h', if_pos (by omega)]
      · rw [if_neg h', if_neg (by omega)]
  · refine (IsReal.store (L := []) (g' := fun s d => ∑ t ∈ range (t0 + 256), H.weight t s * H.g t d) I.dv ho inb h4 (group_dv h9 hW B.g)).congr ?_
    intro s _ d _
    by_cases h : 512 * k.val ≤ s ∧ s < 512 * k.val + 512
    · rw [if_pos h, if_pos (by omega)]
    · rw [if_neg h]
      by_cases h' : s < 512 * k.val
      · rw [if_pos h', if_pos (by omega)]
      · rw [if_neg h', if_neg (by omega)]

/-- The state before trip `k`: the groups below `512 * k` are done. -/
theorem state_inv (B : Block H t0 v3 v5 v7 v13 v19) (hk : IsReal (arg3.view.read (Elt Ideal) X3) H.k)
    (hv : IsReal (arg4.view.read (Elt Ideal) X4) H.v) (ht : t0 = 256 * (i 1).val)
    {init : FVec Ideal S256x128 .f32 × FVec Ideal S256x1 .f32 × FVec Ideal S256x1 .f32}
    {G8 : BufTy.Contents (Elt Ideal) arg8.view.ty} {G9 : BufTy.Contents (Elt Ideal) arg9.view.ty}
    (I : LoopInv H t0 0 init (arg8.view.read (Elt Ideal) G8) (arg9.view.read (Elt Ideal) G9)) (k : ℕ) (hk' : k ≤ (k0_t1_loop i).trips) :
    LoopInv H t0 (512 * k)
      (st_k0_t1 (F := Ideal) Variants.none c none i arg2 harg2 arg3 harg3 arg4 harg4 arg5 harg5 arg6 harg6 arg7 harg7 arg8 harg8 arg9 harg9
        arg1 v3 v5 v7 v13 v19 v24 v35 v37 X3 X4 G8 G9 init k).1
      (arg8.view.read (Elt Ideal) (arg8.view.writes (Elt Ideal) G8
        (st_k0_t1 (F := Ideal) Variants.none c none i arg2 harg2 arg3 harg3 arg4 harg4 arg5 harg5 arg6 harg6 arg7 harg7 arg8 harg8 arg9 harg9
          arg1 v3 v5 v7 v13 v19 v24 v35 v37 X3 X4 G8 G9 init k).2.1))
      (arg9.view.read (Elt Ideal) (arg9.view.writes (Elt Ideal) G9
        (st_k0_t1 (F := Ideal) Variants.none c none i arg2 harg2 arg3 harg3 arg4 harg4 arg5 harg5 arg6 harg6 arg7 harg7 arg8 harg8 arg9 harg9
          arg1 v3 v5 v7 v13 v19 v24 v35 v37 X3 X4 G8 G9 init k).2.2)) := by
  have hT := trips_eq i
  have hi := (i 1).isLt
  have hi : (i 1).val < 16 := hi
  induction k with
  | zero => exact I
  | succ k ih =>
    rw [st_k0_t1_succ (F := Ideal) Variants.none c none i arg2 harg2 arg3 harg3 arg4 harg4 arg5 harg5 arg6 harg6 arg7 harg7 arg8 harg8 arg9 harg9
      arg1 v3 v5 v7 v13 v19 v24 v35 v37 X3 X4 G8 G9 init ⟨k, hk'⟩]
    simp only [View.writes_append]
    exact trip_inv c i arg2 harg2 arg3 harg3 arg4 harg4 arg5 harg5 arg6 harg6 arg7 harg7 arg8 harg8 arg9 harg9 arg1 v24 v35 v37 B hk hv ⟨k, hk'⟩
      (by simp only []; omega) (by omega) (ih (by omega))

/-- The state after the last trip: all groups wholly before the block are done. -/
theorem state_end (B : Block H t0 v3 v5 v7 v13 v19) (hk : IsReal (arg3.view.read (Elt Ideal) X3) H.k)
    (hv : IsReal (arg4.view.read (Elt Ideal) X4) H.v) (ht : t0 = 256 * (i 1).val)
    {init : FVec Ideal S256x128 .f32 × FVec Ideal S256x1 .f32 × FVec Ideal S256x1 .f32}
    {G8 : BufTy.Contents (Elt Ideal) arg8.view.ty} {G9 : BufTy.Contents (Elt Ideal) arg9.view.ty}
    (I : LoopInv H t0 0 init (arg8.view.read (Elt Ideal) G8) (arg9.view.read (Elt Ideal) G9)) :
    LoopInv H t0 (512 * ((i 1).val / 2))
      (st_k0_t1 (F := Ideal) Variants.none c none i arg2 harg2 arg3 harg3 arg4 harg4 arg5 harg5 arg6 harg6 arg7 harg7 arg8 harg8 arg9 harg9
        arg1 v3 v5 v7 v13 v19 v24 v35 v37 X3 X4 G8 G9 init (Scf.trips (k0_t1_loop i).lb (k0_t1_loop i).ub (k0_t1_loop i).st)).1
      (arg8.view.read (Elt Ideal) (arg8.view.writes (Elt Ideal) G8
        (st_k0_t1 (F := Ideal) Variants.none c none i arg2 harg2 arg3 harg3 arg4 harg4 arg5 harg5 arg6 harg6 arg7 harg7 arg8 harg8 arg9 harg9
          arg1 v3 v5 v7 v13 v19 v24 v35 v37 X3 X4 G8 G9 init (Scf.trips (k0_t1_loop i).lb (k0_t1_loop i).ub (k0_t1_loop i).st)).2.1))
      (arg9.view.read (Elt Ideal) (arg9.view.writes (Elt Ideal) G9
        (st_k0_t1 (F := Ideal) Variants.none c none i arg2 harg2 arg3 harg3 arg4 harg4 arg5 harg5 arg6 harg6 arg7 harg7 arg8 harg8 arg9 harg9
          arg1 v3 v5 v7 v13 v19 v24 v35 v37 X3 X4 G8 G9 init (Scf.trips (k0_t1_loop i).lb (k0_t1_loop i).ub (k0_t1_loop i).st)).2.2)) := by
  have h := state_inv c i arg2 harg2 arg3 harg3 arg4 harg4 arg5 harg5 arg6 harg6 arg7 harg7 arg8 harg8 arg9 harg9 arg1 v24 v35 v37 B hk hv ht I
    (k0_t1_loop i).trips le_rfl
  rw [show 512 * ((i 1).val / 2) = 512 * (k0_t1_loop i).trips by rw [trips_eq i]]
  exact h

end Loop

end Cert.Stick

end
-- ==== Proof.Diag.lean ====
/-
  What a grid point leaves, once the groups of keys wholly before its block are done: the last group holds the
  diagonal, and its mask leaves out the keys that are not earlier than the query.
-/
module

public import proofs.«01_k».proof.Proof.Loop

@[expose] public section

set_option maxRecDepth 16384

noncomputable section

open Idealize.ShloMosaic Idealize.ShloMosaic.TcCoe Idealize.SL.Sem

namespace Cert.Stick

open Cert.KernelIdeal Cert.KernelIdeal.Gen
open Finset (range)

/-- What a point leaves for head `H` and the block of queries from `t0`: the gradients of the block's queries, and those
    of all keys and values from the queries up to the block's end. -/
structure PointOut (H : Head) (t0 : ℕ) (o5 : FVec Ideal S256x128 .bf16) (b8 b9 : FVec Ideal S4096x128 .f32) : Prop where
  dq : IsReal o5 (fun r d => ∑ s ∈ range 4096, H.dScore (t0 + r) s * H.k s d)
  dk : IsReal b8 (fun s d => ∑ t ∈ range (t0 + 256), H.dScore t s * H.q t d)
  dv : IsReal b9 (fun s d => ∑ t ∈ range (t0 + 256), H.weight t s * H.g t d)

/-- Terms that are zero from `a` on may be left out. -/
theorem sum_range_of_zero {f : ℕ → ℝ} {a b : ℕ} (h : a ≤ b) (hf : ∀ j, a ≤ j → f j = 0) : ∑ j ∈ range a, f j = ∑ j ∈ range b, f j := by
  obtain ⟨n, rfl⟩ := Nat.exists_eq_add_of_le h
  rw [sum_range_next, Finset.sum_eq_zero (s := range n) fun j _ => hf _ (Nat.le_add_right a j), add_zero]

/-- The mask of the group that starts at key `512 * j`, for the block that starts at query `256 * i`. -/
theorem isMask_words {i j : ℕ} (hi : i < 16) (hj : j < 8) :
    IsMask (256 * i) (512 * j) (k0_pay64 (BitVec.ofNat 32 j) (Scalar.muli (BitVec.ofNat 32 i) 256#32) (iota .tc S256x512 32 [0] iota_S256x512_d0_w32)) := by
  intro r s
  have e1 : BitVec.ofNat 32 j * 512#32 + BitVec.ofNat 32 s.val = BitVec.ofNat 32 (512 * j + s.val) := by
    rw [BitVec.ofNat_add, mul_comm 512 j, BitVec.ofNat_mul]
  have e2 : BitVec.ofNat 32 i * 256#32 + BitVec.ofNat 32 r.val = BitVec.ofNat 32 (256 * i + r.val) := by
    rw [BitVec.ofNat_add, mul_comm 256 i, BitVec.ofNat_mul]
  refine Eq.trans ?_ (slt_word (a := 512 * j + s.val) (b := 256 * i + r.val) (by omega) (by omega))
  rw [← e1, ← e2]
  pointwise [k0_pay64]
  rfl

section Diag

variable {H : Head} {t0 : ℕ} {i : grid0.Coords}
  {arg3 : Memref sig .tc .vmem S4096x128 .bf16} {arg4 : Memref sig .tc .vmem S4096x128 .bf16}
  {arg8 : Memref sig .tc .vmem S4096x128 .f32} {arg9 : Memref sig .tc .vmem S4096x128 .f32}
  {v3 v5 : FVec Ideal S256x128 .bf16} {v7 : FVec Ideal S256x1 .f32}
  {X3 : BufTy.Contents (Elt Ideal) arg3.view.ty} {X4 : BufTy.Contents (Elt Ideal) arg4.view.ty}

/-- The mask's word for the group at the diagonal. -/
abbrev diagWord (i : grid0.Coords) : BitVec 32 := BitVec.ofNat 32 ((i 1).val / 2)

/-- The word for the block's first query. -/
abbrev blockWord (i : grid0.Coords) : BitVec 32 := Scalar.muli (BitVec.ofNat 32 (i 1).val) 256#32

/-- The row numbers. -/
abbrev rowWords : IVec S256x512 32 := iota .tc S256x512 32 [0] iota_S256x512_d0_w32

/-- The weights at the diagonal. -/
def diagWeight (i : grid0.Coords) (w : BitVec 32) (v3 : FVec Ideal S256x128 .bf16) (v7 b : FVec Ideal S256x1 .f32) (k : FVec Ideal S512x128 .bf16) : FVec Ideal S256x512 .f32 :=
  k0_pay72 (k0_pay62 v3 k) (k0_pay64 w (blockWord i) rowWords) (k0_pay70 v7 k0_pay44 b w (k0_pay63 v3 k) (blockWord i) rowWords)
    (k0_pay71 v7 k0_pay44 b w (k0_pay63 v3 k) (blockWord i) rowWords)

/-- The gradients of the scores at the diagonal. -/
def diagDScore (i : grid0.Coords) (w : BitVec 32) (v3 v5 : FVec Ideal S256x128 .bf16) (v7 b e : FVec Ideal S256x1 .f32) (k v : FVec Ideal S512x128 .bf16) : FVec Ideal S256x512 .bf16 :=
  k0_pay73 v5 k0_pay45 e v (k0_pay60 v3 k) (k0_pay62 v3 k) (k0_pay64 w (blockWord i) rowWords)
    (k0_pay70 v7 k0_pay44 b w (k0_pay63 v3 k) (blockWord i) rowWords) (k0_pay71 v7 k0_pay44 b w (k0_pay63 v3 k) (blockWord i) rowWords)

/-- The 512 rows of an array at the diagonal. -/
abbrev diagRows (i : grid0.Coords) (inb : ∀ a, k0_off3 i a + S512x128.size a ≤ S4096x128.size a) : Rect S4096x128 :=
  Rect.unit (s := S4096x128) (k0_off3 i) S512x128.size inb

/-- The group at the diagonal closes the point. -/
theorem diagonal (B : Block H t0 v3 v5 v7 k0_pay44 k0_pay45) (hk : IsReal (arg3.view.read (Elt Ideal) X3) H.k)
    (hv : IsReal (arg4.view.read (Elt Ideal) X4) H.v) (ht : t0 = 256 * (i 1).val) (inb : ∀ a, k0_off3 i a + S512x128.size a ≤ S4096x128.size a)
    {acc : FVec Ideal S256x128 .f32 × FVec Ideal S256x1 .f32 × FVec Ideal S256x1 .f32}
    {f8 : BufTy.Contents (Elt Ideal) arg8.view.ty} {f9 : BufTy.Contents (Elt Ideal) arg9.view.ty}
    {L8 L9 : List (View.Piece (Elt Ideal) S4096x128 .f32)}
    (I : LoopInv H t0 (512 * ((i 1).val / 2)) acc (arg8.view.read (Elt Ideal) (arg8.view.writes (Elt Ideal) f8 L8))
      (arg9.view.read (Elt Ideal) (arg9.view.writes (Elt Ideal) f9 L9))) :
    PointOut H t0
      (k0_pay3 acc.1 (arg3.view.readAt (Elt Ideal) (diagRows i inb).toLoadRect X3)
        (diagDScore i (diagWord i) v3 v5 v7 acc.2.1 acc.2.2 (arg3.view.readAt (Elt Ideal) (diagRows i inb).toLoadRect X3)
          (arg4.view.readAt (Elt Ideal) (diagRows i inb).toLoadRect X4)))
      (arg8.view.read (Elt Ideal) (arg8.view.writes (Elt Ideal) f8 (⟨diagRows i inb,
        k0_pay1 v3 (diagDScore i (diagWord i) v3 v5 v7 acc.2.1 acc.2.2 (arg3.view.readAt (Elt Ideal) (diagRows i inb).toLoadRect X3)
          (arg4.view.readAt (Elt Ideal) (diagRows i inb).toLoadRect X4))
          (arg8.view.readAt (Elt Ideal) (diagRows i inb).toLoadRect (arg8.view.writes (Elt Ideal) f8 L8))⟩ :: L8)))
      (arg9.view.read (Elt Ideal) (arg9.view.writes (Elt Ideal) f9 (⟨diagRows i inb,
        k0_pay2 v5 (diagWeight i (diagWord i) v3 v7 acc.2.1 (arg3.view.readAt (Elt Ideal) (diagRows i inb).toLoadRect X3))
          (arg9.view.readAt (Elt Ideal) (diagRows i inb).toLoadRect (arg9.view.writes (Elt Ideal) f9 L9))⟩ :: L9))) := by
  have hi : (i 1).val < 16 := (i 1).isLt
  have ho := off3_eq i
  have h4 : 512 * ((i 1).val / 2) + 512 ≤ 4096 := by omega
  have hm : IsMask t0 (512 * ((i 1).val / 2)) (k0_pay64 (diagWord i) (blockWord i) rowWords) := ht ▸ isMask_words hi (by omega)
  have hkk := hk.load_half ho h4 inb
  have hvv := hv.load_half ho h4 inb
  have hz := group_score B.lanes B.scaled B.q hkk
  have hW := diag_weight hm B.total I.rest B.later (isReal_logShare hz) (isReal_logRest hz)
  have hD := diag_dScore B.lanes B.scaled hm B.g B.earlier I.dLog hvv hz hW
  have h8 : IsReal (m := 512) (n := 128) (arg8.view.readAt (Elt Ideal) (diagRows i inb).toLoadRect (arg8.view.writes (Elt Ideal) f8 L8))
      (fun s d => ∑ t ∈ range t0, H.dScore t (512 * ((i 1).val / 2) + s) * H.q t d) :=
    (I.dk.load ho h4 inb).congr fun s _ d _ => by rw [if_neg (by omega)]
  have h9 : IsReal (m := 512) (n := 128) (arg9.view.readAt (Elt Ideal) (diagRows i inb).toLoadRect (arg9.view.writes (Elt Ideal) f9 L9))
      (fun s d => ∑ t ∈ range t0, H.weight t (512 * ((i 1).val / 2) + s) * H.g t d) :=
    (I.dv.load ho h4 inb).congr fun s _ d _ => by rw [if_neg (by omega)]
  refine ⟨?_, ?_, ?_⟩
  · refine IsReal.congr (group_dq I.dq hD hkk) ?_
    intro r hr d _
    exact sum_range_of_zero (by omega) fun s hs => by rw [Head.dScore_of_le (by omega), zero_mul]
  · refine (IsReal.store (g' := fun s d => ∑ t ∈ range (t0 + 256), H.dScore t s * H.q t d) I.dk ho inb h4 (group_dk h8 hD B.q)).congr ?_
    intro s _ d _
    by_cases h : 512 * ((i 1).val / 2) ≤ s ∧ s < 512 * ((i 1).val / 2) + 512
    · rw [if_pos h]
    · rw [if_neg h]
      by_cases h' : s < 512 * ((i 1).val / 2)
      · rw [if_pos h']
      · rw [if_neg h', sum_range_next, Finset.sum_eq_zero (s := range 256), add_zero]
        intro t ht'
        have := Finset.mem_range.mp ht'
        rw [Head.dScore_of_le (by omega), zero_mul]
  · refine (IsReal.store (g' := fun s d => ∑ t ∈ range (t0 + 256), H.weight t s * H.g t d) I.dv ho inb h4 (group_dv h9 hW B.g)).congr ?_
    intro s _ d _
    by_cases h : 512 * ((i 1).val / 2) ≤ s ∧ s < 512 * ((i 1).val / 2) + 512
    · rw [if_pos h]
    · rw [if_neg h]
      by_cases h' : s < 512 * ((i 1).val / 2)
      · rw [if_pos h']
      · rw [if_neg h', sum_range_next, Finset.sum_eq_zero (s := range 256), add_zero]
        intro t ht'
        have := Finset.mem_range.mp ht'
        rw [Head.weight_of_le (by omega), zero_mul]

/-- The same behind a loop that makes no trip, whose state is `st`. -/
theorem diagonal_after (B : Block H t0 v3 v5 v7 k0_pay44 k0_pay45) (hk : IsReal (arg3.view.read (Elt Ideal) X3) H.k)
    (hv : IsReal (arg4.view.read (Elt Ideal) X4) H.v) (ht : t0 = 256 * (i 1).val) (inb : ∀ a, k0_off3 i a + S512x128.size a ≤ S4096x128.size a)
    {w : BitVec 32} (hw : w = diagWord i)
    {acc : FVec Ideal S256x128 .f32 × FVec Ideal S256x1 .f32 × FVec Ideal S256x1 .f32}
    {st : (FVec Ideal S256x128 .f32 × FVec Ideal S256x1 .f32 × FVec Ideal S256x1 .f32) × List (View.Piece (Elt Ideal) S4096x128 .f32)
      × List (View.Piece (Elt Ideal) S4096x128 .f32)}
    (hst : st = (acc, [], []))
    {f8 : BufTy.Contents (Elt Ideal) arg8.view.ty} {f9 : BufTy.Contents (Elt Ideal) arg9.view.ty}
    {L8 L9 : List (View.Piece (Elt Ideal) S4096x128 .f32)}
    (I : LoopInv H t0 (512 * ((i 1).val / 2)) acc (arg8.view.read (Elt Ideal) (arg8.view.writes (Elt Ideal) f8 L8))
      (arg9.view.read (Elt Ideal) (arg9.view.writes (Elt Ideal) f9 L9))) :
    PointOut H t0
      (k0_pay3 st.1.1 (arg3.view.readAt (Elt Ideal) (diagRows i inb).toLoadRect X3)
        (diagDScore i w v3 v5 v7 st.1.2.1 st.1.2.2 (arg3.view.readAt (Elt Ideal) (diagRows i inb).toLoadRect X3)
          (arg4.view.readAt (Elt Ideal) (diagRows i inb).toLoadRect X4)))
      (arg8.view.read (Elt Ideal) (arg8.view.writes (Elt Ideal) f8 (⟨diagRows i inb,
        k0_pay1 v3 (diagDScore i w v3 v5 v7 st.1.2.1 st.1.2.2 (arg3.view.readAt (Elt Ideal) (diagRows i inb).toLoadRect X3)
          (arg4.view.readAt (Elt Ideal) (diagRows i inb).toLoadRect X4))
          (arg8.view.readAt (Elt Ideal) (diagRows i inb).toLoadRect (arg8.view.writes (Elt Ideal) f8 (st.2.1 ++ L8)))⟩ :: (st.2.1 ++ L8))))
      (arg9.view.read (Elt Ideal) (arg9.view.writes (Elt Ideal) f9 (⟨diagRows i inb,
        k0_pay2 v5 (diagWeight i w v3 v7 st.1.2.1 (arg3.view.readAt (Elt Ideal) (diagRows i inb).toLoadRect X3))
          (arg9.view.readAt (Elt Ideal) (diagRows i inb).toLoadRect (arg9.view.writes (Elt Ideal) f9 (st.2.2 ++ L9)))⟩ :: (st.2.2 ++ L9)))) := by
  subst hw hst
  exact diagonal B hk hv ht inb I

end Diag

end Cert.Stick

end
-- ==== Proof.Point.lean ====
/-
  What each grid point leaves: at a head's first block over zeros, at the others over what the point before left.
-/
module

public import proofs.«01_k».proof.Proof.Diag
public import Idealize.ShloMosaic.Lib.WholeRead
public import Idealize.ShloMosaic.Lib.VecWindow

@[expose] public section

set_option maxRecDepth 16384

noncomputable section

open Idealize.ShloMosaic Idealize.ShloMosaic.TcCoe Idealize.SL.Sem

namespace Cert.Stick

open Cert.KernelIdeal Cert.KernelIdeal.Gen
open Finset (range)

/-- The mask's word, at a point that is not a head's first. -/
theorem word_B (i : grid0.Coords) : kernelRun0_B.sl.v51 i = diagWord i := by
  revert i; decide +kernel

/-- The mask's word, at a head's first point. -/
theorem word_A (i : grid0.Coords) : kernelRun0_A.sl.v51 i = diagWord i := by
  revert i; decide +kernel

/-- The loop that makes no trip leaves its state as it was. -/
theorem st2_zero {F : FTy → Type} [FloatOps F] (𝒱 : Variants) (c : Dev nD) (bd : Option 𝒱.V) (i : grid0.Coords) (arg2 : Memref sig .tc .vmem S256x128
    .bf16) (harg2 : arg2.IsWhole) (arg3 : Memref sig .tc .vmem S4096x128 .bf16) (harg3 : arg3.IsWhole) (arg4 : Memref sig .tc .vmem S4096x128 .bf16)
    (harg4 : arg4.IsWhole) (arg5 : Memref sig .tc .vmem S1x256x1 .f32) (harg5 : arg5.IsWhole) (arg6 : Memref sig .tc .vmem S256x128 .f32) (harg6 :
    arg6.IsWhole) (arg7 : Memref sig .tc .vmem S256x128 .bf16) (harg7 : arg7.IsWhole) (arg8 : Memref sig .tc .vmem S4096x128 .f32) (harg8 : arg8.IsWhole)
    (arg9 : Memref sig .tc .vmem S4096x128 .f32) (harg9 : arg9.IsWhole) (arg1 : BitVec 32) (v3 : Vec F S256x128 .bf16) (v5 : FVec F S256x128 .bf16) (v7 :
    FVec F S256x1 .f32) (v13 : FVec F S256x256 .bf16) (v19 : FVec F S256x256 .bf16) (v24 : BitVec 32) (v35 : BitVec 1) (v37 : BitVec 1) (v48 : BitVec 32)
    (X_arg3 : BufTy.Contents (Elt F) arg3.view.ty) (X_arg4 : BufTy.Contents (Elt F) arg4.view.ty) (G_arg8 : BufTy.Contents (Elt F) arg8.view.ty) (G_arg9 :
    BufTy.Contents (Elt F) arg9.view.ty) (init : FVec F S256x128 .f32 × FVec F S256x1 .f32 × FVec F S256x1 .f32) :
    st_k0_t2 (F := F) 𝒱 c bd i arg2 harg2 arg3 harg3 arg4 harg4 arg5 harg5 arg6 harg6 arg7 harg7 arg8 harg8 arg9 harg9 arg1 v3 v5 v7 v13 v19 v24 v35
    v37 v48 X_arg3 X_arg4 G_arg8 G_arg9 init (Scf.trips (k0_t2_loop i).lb (k0_t2_loop i).ub (k0_t2_loop i).st) = (init, [], []) := by
  have e : Scf.trips (k0_t2_loop i).lb (k0_t2_loop i).ub (k0_t2_loop i).st = 0 := trips2_eq i
  rw [e]
  rfl

/-- The blocks of head `H` from query `t0`, as a point finds them. -/
structure Blocks (H : Head) (t0 : ℕ) (x0 : FVec Ideal S256x128 .bf16) (x1 x2 : FVec Ideal S4096x128 .bf16) (x3 : FVec Ideal S1x256x1 .f32)
    (x4 : FVec Ideal S256x128 .f32) : Prop where
  lanes : H.D = 128
  scaled : H.c = scale
  q : IsReal x0 (fun r d => H.q (t0 + r) d)
  k : IsReal x1 H.k
  v : IsReal x2 H.v
  total : ∀ r : Fin 256, x3 (ix3 0 r 0) = ((H.total (t0 + r.val) : ℝ) : EReal)
  g : IsReal x4 (fun r d => H.g (t0 + r) d)

/-- Nothing in front of a list leaves it as it is. -/
theorem append_of_nil {α : Type} {P L : List α} (h : P = []) : L = P ++ L := by rw [h, List.nil_append]

section Point

variable {H : Head} {t0 : ℕ} (c : Dev nD) (i : grid0.Coords)
  (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1x256x1 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .f32) (harg8 : arg8.IsWhole) (arg9 : Memref sig .tc .vmem S4096x128 .f32) (harg9 : arg9.IsWhole)
  {x0 : FVec Ideal S256x128 .bf16} {x1 x2 : FVec Ideal S4096x128 .bf16} {x3 : FVec Ideal S1x256x1 .f32}
  {x4 : FVec Ideal S256x128 .f32} {xo6 xo7 : FVec Ideal S4096x128 .f32}

/-- What the body loads of its blocks. -/
theorem Blocks.block (X : Blocks H t0 x0 x1 x2 x3 x4) :
    Block H t0 (View.readAt (Elt Ideal) arg2.view (Rect.unit (s := S256x128) ![0, 0] S256x128.size inb_S256x128_S256x128_0_0).toLoadRect (harg2.unread x0))
      (k0_pay42 (View.readAt (Elt Ideal) arg6.view (Rect.unit (s := S256x128) ![0, 0] S256x128.size inb_S256x128_S256x128_0_0).toLoadRect (harg6.unread x4)))
      (k0_pay43 (View.readAt (Elt Ideal) arg5.view (Rect.unit (s := S1x256x1) ![0, 0, 0] S1x256x1.size inb_S1x256x1_S1x256x1_0_0_0).toLoadRect (harg5.unread x3)))
      k0_pay44 k0_pay45 := by
  rw [View.readAt_full, View.readAt_full, View.readAt_full, harg2.read_unread, harg5.read_unread, harg6.read_unread]
  have ht : ∀ r l, k0_pay43 (F := Ideal) x3 (ix2 r l) = ((H.total (t0 + r.val) : ℝ) : EReal) := fun r l => ?_
  · exact ⟨X.lanes, X.scaled, X.q, X.g, ht, isReal_laterOnes, isReal_earlierOnes⟩
  obtain rfl : l = 0 := Subsingleton.elim _ _
  refine Eq.trans ?_ (X.total r)
  pointwise [k0_pay43]

set_option maxHeartbeats 2000000 in
/-- A point that is not a head's first adds its block to what the point before left. -/
theorem point_B (X : Blocks H t0 x0 x1 x2 x3 x4) (ht : t0 = 256 * (i 1).val) (hc0 : _)
    (h6 : IsReal xo6 (fun s d => ∑ t ∈ range t0, H.dScore t s * H.q t d)) (h7 : IsReal xo7 (fun s d => ∑ t ∈ range t0, H.weight t s * H.g t d)) :
    PointOut H t0
      (out0_B_5 (F := Ideal) c i arg2 harg2 arg3 harg3 arg4 harg4 arg5 harg5 arg6 harg6 arg7 harg7 arg8 harg8 arg9 harg9 hc0 x0 x1 x2 x3 x4 xo6 xo7)
      (out0_B_6 (F := Ideal) c i arg2 harg2 arg3 harg3 arg4 harg4 arg5 harg5 arg6 harg6 arg7 harg7 arg8 harg8 arg9 harg9 hc0 x0 x1 x2 x3 x4 xo6 xo7)
      (out0_B_7 (F := Ideal) c i arg2 harg2 arg3 harg3 arg4 harg4 arg5 harg5 arg6 harg6 arg7 harg7 arg8 harg8 arg9 harg9 hc0 x0 x1 x2 x3 x4 xo6 xo7) := by
  have B : Block H t0 (kernelRun0_B.sl.r (F := Ideal) c arg2 harg2 x0) (kernelRun0_B.sl.r_1 (F := Ideal) c arg6 harg6 x4) (kernelRun0_B.sl.r_2 (F := Ideal) c arg5 harg5 x3) k0_pay44 k0_pay45 :=
    X.block arg2 harg2 arg5 harg5 arg6 harg6
  have hk : IsReal (arg3.view.read (Elt Ideal) (harg3.unread x1)) H.k := by rw [harg3.read_unread]; exact X.k
  have hv : IsReal (arg4.view.read (Elt Ideal) (harg4.unread x2)) H.v := by rw [harg4.read_unread]; exact X.v
  have I0 : LoopInv H t0 0 (k0_pay47, k0_pay46, k0_pay46) (arg8.view.read (Elt Ideal) (harg8.unread xo6)) (arg9.view.read (Elt Ideal) (harg9.unread xo7)) := by
    rw [harg8.read_unread, harg9.read_unread]
    exact ⟨fun r d => Ideal.ofBits_zero .f32, fun r d => Ideal.ofBits_zero .f32, fun r d => Ideal.ofBits_zero .f32, h6, h7⟩
  have I := state_end c i arg2 harg2 arg3 harg3 arg4 harg4 arg5 harg5 arg6 harg6 arg7 harg7 arg8 harg8 arg9 harg9
    (BitVec.ofNat 32 (i 1).val) (kernelRun0_B.sl.v24 i) (kernelRun0_B.sl.v35 i) (kernelRun0_B.sl.v37 i) B hk hv ht I0
  have inb := rows_inb (off3_eq i) (by have : (i 1).val < 16 := (i 1).isLt; omega)
  have D := diagonal B hk hv ht inb I
  refine ⟨?_, ?_, ?_⟩
  · unfold out0_B_5 kernelRun0_B
    refine (congrArg (fun w => IsReal (m := 256) (n := 128) w _) (View.read_writes_full ..)).mpr ?_
    unfold kernelRun0_B.sl.r_15 kernelRun0_B.sl.r_13 kernelRun0_B.sl.r_12 kernelRun0_B.sl.r_11 kernelRun0_B.sl.r_3 kernelRun0_B.sl.r_4 kernelRun0_B.sl.r_5
    rw [st2_zero, word_B]
    exact D.dq
  · unfold out0_B_6 kernelRun0_B
    refine Eq.mp (congrArg (fun L => IsReal (m := 4096) (n := 128) (arg8.view.read (Elt Ideal) (arg8.view.writes (Elt Ideal) (harg8.unread xo6) L)) _)
      (congrArg₂ List.cons ?_ ?_)) D.dk
    · refine congrArg (fun p : FVec Ideal S512x128 .f32 => (⟨diagRows i inb, p⟩ : View.Piece (Elt Ideal) S4096x128 .f32)) ?_
      refine congrArg₂ (k0_pay1 (F := Ideal) _) ?_ ?_
      · unfold kernelRun0_B.sl.r_15 kernelRun0_B.sl.r_13 kernelRun0_B.sl.r_12 kernelRun0_B.sl.r_11 kernelRun0_B.sl.r_4 kernelRun0_B.sl.r_5
        rw [st2_zero, word_B]
        rfl
      · unfold kernelRun0_B.sl.v180
        rw [st2_zero, List.nil_append]
    · refine append_of_nil ?_
      rw [st2_zero]
  · unfold out0_B_7 kernelRun0_B
    refine Eq.mp (congrArg (fun L => IsReal (m := 4096) (n := 128) (arg9.view.read (Elt Ideal) (arg9.view.writes (Elt Ideal) (harg9.unread xo7) L)) _)
      (congrArg₂ List.cons ?_ ?_)) D.dv
    · refine congrArg (fun p : FVec Ideal S512x128 .f32 => (⟨diagRows i inb, p⟩ : View.Piece (Elt Ideal) S4096x128 .f32)) ?_
      refine congrArg₂ (k0_pay2 (F := Ideal) _) ?_ ?_
      · unfold kernelRun0_B.sl.r_14 kernelRun0_B.sl.r_13 kernelRun0_B.sl.r_12 kernelRun0_B.sl.r_11 kernelRun0_B.sl.r_4
        rw [st2_zero, word_B]
        rfl
      · unfold kernelRun0_B.sl.v187
        rw [st2_zero, List.nil_append]
    · refine append_of_nil ?_
      rw [st2_zero]

end Point

end Cert.Stick

end
-- ==== Proof.PointFirst.lean ====
/-
  What a head's first grid point leaves: its block over zeros.
-/
module

public import proofs.«01_k».proof.Proof.Point
public import Idealize.ShloMosaic.Lib.WholeRead
public import Idealize.ShloMosaic.Lib.VecWindow

@[expose] public section

set_option maxRecDepth 16384

noncomputable section

open Idealize.ShloMosaic Idealize.ShloMosaic.TcCoe Idealize.SL.Sem

namespace Cert.Stick

open Cert.KernelIdeal Cert.KernelIdeal.Gen
open Finset (range)

section First

variable {H : Head} {t0 : ℕ} (c : Dev nD) (i : grid0.Coords)
  (arg2 : Memref sig .tc .vmem S256x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S1x256x1 .f32) (harg5 : arg5.IsWhole)
  (arg6 : Memref sig .tc .vmem S256x128 .f32) (harg6 : arg6.IsWhole) (arg7 : Memref sig .tc .vmem S256x128 .bf16) (harg7 : arg7.IsWhole)
  (arg8 : Memref sig .tc .vmem S4096x128 .f32) (harg8 : arg8.IsWhole) (arg9 : Memref sig .tc .vmem S4096x128 .f32) (harg9 : arg9.IsWhole)
  {x0 : FVec Ideal S256x128 .bf16} {x1 x2 : FVec Ideal S4096x128 .bf16} {x3 : FVec Ideal S1x256x1 .f32}
  {x4 : FVec Ideal S256x128 .f32}

/-- A list of stores that covers the array reads the same through any view of it. -/
theorem read_switch {κ κ' : Kind} {sp sp' : Space} {s : Shape} {e : EltTy} (v : View sig κ sp s e) (w : View sig κ' sp' s e) (f : v.ty.Contents (Elt Ideal))
    (g : w.ty.Contents (Elt Ideal)) (L : List (View.Piece (Elt Ideal) s e)) (h : ∀ y, ∃ p ∈ L, y ∈ p.1.set) :
    v.read (Elt Ideal) (v.writes (Elt Ideal) f L) = w.read (Elt Ideal) (w.writes (Elt Ideal) g L) := by
  rw [View.read_writes_eq_canon v f L h, View.read_writes_eq_canon w g L h]

/-- The first point's array 6, read through the buffer that it was stored in. -/
theorem out6_A (hc0 : _) : out0_A_6 (F := Ideal) c i arg2 harg2 arg3 harg3 arg4 harg4 arg5 harg5 arg6 harg6 arg7 harg7 arg8 harg8 arg9 harg9 hc0 x0 x1 x2 x3 x4 =
    arg8.view.read (Elt Ideal) (arg8.view.writes (Elt Ideal) arg8.view.junk (kernelRun0_A (F := Ideal) c i arg2 harg2 arg3 harg3 arg4 harg4 arg5 harg5 arg6 harg6 arg7 harg7 arg8 harg8 arg9 harg9 hc0 x0 x1 x2 x3 x4).2.1) := by
  unfold out0_A_6
  exact read_switch _ _ _ _ _ (cover0_A_6 (F := Ideal) c i arg2 harg2 arg3 harg3 arg4 harg4 arg5 harg5 arg6 harg6 arg7 harg7 arg8 harg8 arg9 harg9 hc0 x0 x1 x2 x3 x4)

/-- The first point's array 7, read through the buffer that it was stored in. -/
theorem out7_A (hc0 : _) : out0_A_7 (F := Ideal) c i arg2 harg2 arg3 harg3 arg4 harg4 arg5 harg5 arg6 harg6 arg7 harg7 arg8 harg8 arg9 harg9 hc0 x0 x1 x2 x3 x4 =
    arg9.view.read (Elt Ideal) (arg9.view.writes (Elt Ideal) arg9.view.junk (kernelRun0_A (F := Ideal) c i arg2 harg2 arg3 harg3 arg4 harg4 arg5 harg5 arg6 harg6 arg7 harg7 arg8 harg8 arg9 harg9 hc0 x0 x1 x2 x3 x4).2.2.1) := by
  unfold out0_A_7
  exact read_switch _ _ _ _ _ (cover0_A_7 (F := Ideal) c i arg2 harg2 arg3 harg3 arg4 harg4 arg5 harg5 arg6 harg6 arg7 harg7 arg8 harg8 arg9 harg9 hc0 x0 x1 x2 x3 x4)

set_option maxHeartbeats 400000 in
/-- A head's first point starts from zeros. -/
theorem point_A (X : Blocks H t0 x0 x1 x2 x3 x4) (ht : t0 = 256 * (i 1).val) (hc0 : _)
    (h0 : (i 1).val = 0) :
    PointOut H t0
      (out0_A_5 (F := Ideal) c i arg2 harg2 arg3 harg3 arg4 harg4 arg5 harg5 arg6 harg6 arg7 harg7 arg8 harg8 arg9 harg9 hc0 x0 x1 x2 x3 x4)
      (out0_A_6 (F := Ideal) c i arg2 harg2 arg3 harg3 arg4 harg4 arg5 harg5 arg6 harg6 arg7 harg7 arg8 harg8 arg9 harg9 hc0 x0 x1 x2 x3 x4)
      (out0_A_7 (F := Ideal) c i arg2 harg2 arg3 harg3 arg4 harg4 arg5 harg5 arg6 harg6 arg7 harg7 arg8 harg8 arg9 harg9 hc0 x0 x1 x2 x3 x4) := by
  have B : Block H t0 (kernelRun0_A.sl.r (F := Ideal) c arg2 harg2 x0) (kernelRun0_A.sl.r_1 (F := Ideal) c arg6 harg6 x4) (kernelRun0_A.sl.r_2 (F := Ideal) c arg5 harg5 x3) k0_pay44 k0_pay45 :=
    X.block arg2 harg2 arg5 harg5 arg6 harg6
  have hk : IsReal (arg3.view.read (Elt Ideal) (harg3.unread x1)) H.k := by rw [harg3.read_unread]; exact X.k
  have hv : IsReal (arg4.view.read (Elt Ideal) (harg4.unread x2)) H.v := by rw [harg4.read_unread]; exact X.v
  have hz : ∀ a b : ℕ → ℕ → ℝ, (fun s d => ∑ t ∈ range t0, a t s * b t d) = fun _ _ => (0 : ℝ) := by
    intro a b
    rw [ht, h0]
    rfl
  have I0 : LoopInv H t0 0 (k0_pay47, k0_pay46, k0_pay46)
      (arg8.view.read (Elt Ideal) (arg8.view.writes (Elt Ideal) arg8.view.junk kernelRun0_A.sl.H6_1))
      (arg9.view.read (Elt Ideal) (arg9.view.writes (Elt Ideal) arg9.view.junk kernelRun0_A.sl.H7_1)) := by
    refine ⟨fun r d => Ideal.ofBits_zero .f32, fun r d => Ideal.ofBits_zero .f32, fun r d => Ideal.ofBits_zero .f32, ?_, ?_⟩
    · refine (congrArg (fun w => IsReal (m := 4096) (n := 128) w _) (View.read_writes_full ..)).mpr ?_
      exact (hz _ _).symm ▸ fun r d => Ideal.ofBits_zero .f32
    · refine (congrArg (fun w => IsReal (m := 4096) (n := 128) w _) (View.read_writes_full ..)).mpr ?_
      exact (hz _ _).symm ▸ fun r d => Ideal.ofBits_zero .f32
  have I := state_end c i arg2 harg2 arg3 harg3 arg4 harg4 arg5 harg5 arg6 harg6 arg7 harg7 arg8 harg8 arg9 harg9
    (BitVec.ofNat 32 (i 1).val) (kernelRun0_A.sl.v24 i) (kernelRun0_A.sl.v35 i) (kernelRun0_A.sl.v37 i) B hk hv ht I0
  rw [← View.writes_append, ← View.writes_append] at I
  have inb := rows_inb (off3_eq i) (by have : (i 1).val < 16 := (i 1).isLt; omega)
  have D := diagonal B hk hv ht inb I
  refine ⟨?_, ?_, ?_⟩
  · unfold out0_A_5 kernelRun0_A
    refine (congrArg (fun w => IsReal (m := 256) (n := 128) w _) (View.read_writes_full ..)).mpr ?_
    unfold kernelRun0_A.sl.r_15 kernelRun0_A.sl.r_13 kernelRun0_A.sl.r_12 kernelRun0_A.sl.r_11 kernelRun0_A.sl.r_3 kernelRun0_A.sl.r_4 kernelRun0_A.sl.r_5
    rw [st2_zero, word_A]
    exact D.dq
  · rw [out6_A]
    unfold kernelRun0_A
    refine Eq.mp (congrArg (fun L => IsReal (m := 4096) (n := 128) (arg8.view.read (Elt Ideal) (arg8.view.writes (Elt Ideal) arg8.view.junk L)) _)
      (congrArg₂ List.cons ?_ ?_)) D.dk
    · refine congrArg (fun p : FVec Ideal S512x128 .f32 => (⟨diagRows i inb, p⟩ : View.Piece (Elt Ideal) S4096x128 .f32)) ?_
      refine congrArg₂ (k0_pay1 (F := Ideal) _) ?_ ?_
      · unfold kernelRun0_A.sl.r_15 kernelRun0_A.sl.r_13 kernelRun0_A.sl.r_12 kernelRun0_A.sl.r_11 kernelRun0_A.sl.r_4 kernelRun0_A.sl.r_5
        rw [st2_zero, word_A]
        rfl
      · unfold kernelRun0_A.sl.v180
        rw [st2_zero, List.nil_append]
    · refine append_of_nil ?_
      rw [st2_zero]
  · rw [out7_A]
    unfold kernelRun0_A
    refine Eq.mp (congrArg (fun L => IsReal (m := 4096) (n := 128) (arg9.view.read (Elt Ideal) (arg9.view.writes (Elt Ideal) arg9.view.junk L)) _)
      (congrArg₂ List.cons ?_ ?_)) D.dv
    · refine congrArg (fun p : FVec Ideal S512x128 .f32 => (⟨diagRows i inb, p⟩ : View.Piece (Elt Ideal) S4096x128 .f32)) ?_
      refine congrArg₂ (k0_pay2 (F := Ideal) _) ?_ ?_
      · unfold kernelRun0_A.sl.r_14 kernelRun0_A.sl.r_13 kernelRun0_A.sl.r_12 kernelRun0_A.sl.r_11 kernelRun0_A.sl.r_4
        rw [st2_zero, word_A]
        rfl
      · unfold kernelRun0_A.sl.v187
        rw [st2_zero, List.nil_append]
    · refine append_of_nil ?_
      rw [st2_zero]

end First

end Cert.Stick

end
-- ==== Proof.Arrays.lean ====
/-
  The heads that the two arguments hold, and the blocks that the grid points read of them.

  `qkv` holds, for each row, the 16 heads' queries, then their keys, then their values, 128 lanes each; `do` the gradient
  of the 16 heads' outputs.
-/
module

public import proofs.«01_k».proof.Proof.PointFirst
public import proofs.«01_k».proof.Proof.Gen.KernelIdeal.Value
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Stick

open Cert.KernelIdeal Cert.KernelIdeal.Gen
open Finset (range)

/-- The number at row `a`, column `b` of a matrix. -/
def entry {m n : ℕ} [NeZero m] [NeZero n] (x : (⟨2, ![m, n]⟩ : Shape).Idx → EReal) (a b : ℕ) : ℝ :=
  (x (ix2 (Fin.ofNat m a) (Fin.ofNat n b))).toReal

/-- Every entry of a matrix is a number. -/
def Finite {m n : ℕ} (x : (⟨2, ![m, n]⟩ : Shape).Idx → EReal) : Prop := ∀ j, x j ≠ ⊤ ∧ x j ≠ ⊥

/-- An entry of a matrix of numbers. -/
theorem Finite.entry {m n : ℕ} [NeZero m] [NeZero n] {x : (⟨2, ![m, n]⟩ : Shape).Idx → EReal} (h : Finite x) (a : Fin m) (b : Fin n) :
    x (ix2 a b) = ((entry x a.val b.val : ℝ) : EReal) := by
  unfold Stick.entry
  rw [show Fin.ofNat m a.val = a from Fin.ext (Nat.mod_eq_of_lt a.isLt), show Fin.ofNat n b.val = b from Fin.ext (Nat.mod_eq_of_lt b.isLt),
    EReal.coe_toReal (h _).1 (h _).2]

/-- Head `h` of the arguments. -/
def headOf (x : (⟨2, ![4096, 6144]⟩ : Shape).Idx → EReal) (g : (⟨2, ![4096, 2048]⟩ : Shape).Idx → EReal) (h : ℕ) : Head where
  N := 4096
  D := 128
  c := scale
  q t d := entry x t (h * 128 + d)
  k s d := entry x s (2048 + h * 128 + d)
  v s d := entry x s (4096 + h * 128 + d)
  g t d := entry g t (h * 128 + d)

section Grid

variable (m : (ℓ : Loc nD τ sig) → Buf (Elt Ideal) ℓ) (c : Dev nD)

/-- The first argument. -/
abbrev argX : (⟨2, ![4096, 6144]⟩ : Shape).Idx → EReal := m ((c : Thread nD τ).loc main_arg0)
/-- The second argument. -/
abbrev argG : (⟨2, ![4096, 2048]⟩ : Shape).Idx → EReal := m ((c : Thread nD τ).loc main_arg1)

/-- The coordinates of a point: its head and its block of queries. -/
theorem coords_t (t : Fin cfg0.N) : (grid0.coords t 0).val = t.val / 16 ∧ (grid0.coords t 1).val = t.val % 16 := by
  have hN : t.val < 256 := lt_of_lt_of_eq t.isLt (show cfg0.N = 256 from N_0)
  have e0 : (grid0.coords t 0).val = t.val / 16 % 16 := Pipeline.Grid.coords_val t 0 (by decide) rfl
  have e1 : (grid0.coords t 1).val = t.val / 1 % 16 := Pipeline.Grid.coords_val t 1 (by decide) rfl
  omega

/-- The blocks that a point's windows are on. -/
theorem index_t : ∀ t : Fin cfg0.N, win0_0.index t = ![t.val % 16, t.val / 16] ∧ win0_1.index t = ![0, 16 + t.val / 16] ∧ win0_2.index t = ![0, 32 + t.val / 16] ∧
    win0_3.index t = ![t.val / 16, t.val % 16, 0] ∧ win0_4.index t = ![t.val % 16, t.val / 16] ∧ win0_5.index t = ![t.val % 16, t.val / 16] ∧
    win0_6.index t = ![0, t.val / 16] ∧ win0_7.index t = ![0, t.val / 16] :=
  (by decide +kernel : ∀ t : Fin grid0.N, win0_0.index t = ![t.val % 16, t.val / 16] ∧ win0_1.index t = ![0, 16 + t.val / 16] ∧ win0_2.index t = ![0, 32 + t.val / 16] ∧
    win0_3.index t = ![t.val / 16, t.val % 16, 0] ∧ win0_4.index t = ![t.val % 16, t.val / 16] ∧ win0_5.index t = ![t.val % 16, t.val / 16] ∧
    win0_6.index t = ![0, t.val / 16] ∧ win0_7.index t = ![0, t.val / 16])

/-- The queries that a point reads. -/
theorem iblk_q (t : Fin cfg0.N) (h : Finite (argX m c)) :
    IsReal (m := 256) (n := 128) (iblk m c 0 t) (fun r d => (headOf (argX m c) (argG m c) (t.val / 16)).q (256 * (t.val % 16) + r) d) := by
  have hN : t.val < 256 := lt_of_lt_of_eq t.isLt (show cfg0.N = 256 from N_0)
  intro r d
  refine Eq.trans ?_ (h.entry ⟨256 * (t.val % 16) + r.val, by omega⟩ ⟨t.val / 16 * 128 + d.val, by omega⟩)
  blk_ext [iblk, V_main_arg0, index_t t]

/-- The keys that a point reads: all of its head's. -/
theorem iblk_k (t : Fin cfg0.N) (h : Finite (argX m c)) :
    IsReal (m := 4096) (n := 128) (iblk m c 1 t) (headOf (argX m c) (argG m c) (t.val / 16)).k := by
  have hN : t.val < 256 := lt_of_lt_of_eq t.isLt (show cfg0.N = 256 from N_0)
  intro r d
  refine Eq.trans ?_ (h.entry ⟨r.val, r.isLt⟩ ⟨2048 + t.val / 16 * 128 + d.val, by omega⟩)
  blk_ext [iblk, V_main_arg0, index_t t]

/-- The values that a point reads: all of its head's. -/
theorem iblk_v (t : Fin cfg0.N) (h : Finite (argX m c)) :
    IsReal (m := 4096) (n := 128) (iblk m c 2 t) (headOf (argX m c) (argG m c) (t.val / 16)).v := by
  have hN : t.val < 256 := lt_of_lt_of_eq t.isLt (show cfg0.N = 256 from N_0)
  intro r d
  refine Eq.trans ?_ (h.entry ⟨r.val, r.isLt⟩ ⟨4096 + t.val / 16 * 128 + d.val, by omega⟩)
  blk_ext [iblk, V_main_arg0, index_t t]

/-- The gradients of the output that a point reads. -/
theorem iblk_g (t : Fin cfg0.N) (h : Finite (argG m c)) :
    IsReal (m := 256) (n := 128) (iblk m c 4 t) (fun r d => (headOf (argX m c) (argG m c) (t.val / 16)).g (256 * (t.val % 16) + r) d) := by
  have hN : t.val < 256 := lt_of_lt_of_eq t.isLt (show cfg0.N = 256 from N_0)
  intro r d
  refine Eq.trans ?_ (h.entry ⟨256 * (t.val % 16) + r.val, by omega⟩ ⟨t.val / 16 * 128 + d.val, by omega⟩)
  blk_ext [iblk, V_main_arg1, index_t t]

/-- The totals are those of the heads. -/
def Totals : Prop := ∀ (h : Fin 16) (r : Fin 4096),
  (V m c main_v21 : (⟨3, ![16, 4096, 1]⟩ : Shape).Idx → EReal) (ix3 h r 0) = (((headOf (argX m c) (argG m c) h.val).total r.val : ℝ) : EReal)

/-- The totals that a point reads. -/
theorem iblk_total (t : Fin cfg0.N) (hT : Totals m c) (r : Fin 256) :
    (iblk m c 3 t : (⟨3, ![1, 256, 1]⟩ : Shape).Idx → EReal) (ix3 0 r 0)
      = (((headOf (argX m c) (argG m c) (t.val / 16)).total (256 * (t.val % 16) + r.val) : ℝ) : EReal) := by
  have hN : t.val < 256 := lt_of_lt_of_eq t.isLt (show cfg0.N = 256 from N_0)
  refine Eq.trans ?_ (hT ⟨t.val / 16, by omega⟩ ⟨256 * (t.val % 16) + r.val, by omega⟩)
  blk_ext [iblk, index_t t]

/-- The blocks of a point are those of its head and its queries. -/
theorem blocks_t (t : Fin cfg0.N) (hX : Finite (argX m c)) (hG : Finite (argG m c)) (hT : Totals m c) :
    Blocks (headOf (argX m c) (argG m c) (t.val / 16)) (256 * (t.val % 16)) (iblk m c 0 t) (iblk m c 1 t) (iblk m c 2 t) (iblk m c 3 t) (iblk m c 4 t) :=
  ⟨rfl, rfl, iblk_q m c t hX, iblk_k m c t hX, iblk_v m c t hX, iblk_total m c t hT, iblk_g m c t hG⟩

/-- What a point leaves, read off a triple. -/
theorem PointOut.of_eq {H : Head} {t0 : ℕ} {o : Vec Ideal S256x128 .bf16 × Vec Ideal S4096x128 .f32 × Vec Ideal S4096x128 .f32}
    {a : Vec Ideal S256x128 .bf16} {b d : Vec Ideal S4096x128 .f32} (e : o = (a, b, d)) (P : PointOut H t0 a b d) : PointOut H t0 o.1 o.2.1 o.2.2 := by
  subst e
  exact P

/-- What a head's first point leaves. -/
theorem outs_first (t : Fin cfg0.N) (h0 : t.val % 16 = 0) (hX : Finite (argX m c)) (hG : Finite (argG m c)) (hT : Totals m c) :
    PointOut (headOf (argX m c) (argG m c) (t.val / 16)) (256 * (t.val % 16)) (outsAt0 m c t.val t.isLt).1 (outsAt0 m c t.val t.isLt).2.1 (outsAt0 m c t.val t.isLt).2.2 := by
  have P := point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (blocks_t m c t hX hG hT) (by rw [(coords_t t).2]) ((hcond0_0 t).mpr h0) ((coords_t t).2.trans h0)
  exact PointOut.of_eq (outsAt0_A m c t h0) P

/-- What another point leaves, over what the point before left. -/
theorem outs_next (t : Fin cfg0.N) (h0 : ¬t.val % 16 = 0) (hX : Finite (argX m c)) (hG : Finite (argG m c)) (hT : Totals m c)
    (I : PointOut (headOf (argX m c) (argG m c) ((t.val - 1) / 16)) (256 * ((t.val - 1) % 16))
      (outsAt0 m c (t.val - 1) (Nat.lt_of_le_of_lt (Nat.sub_le _ _) t.isLt)).1 (outsAt0 m c (t.val - 1) (Nat.lt_of_le_of_lt (Nat.sub_le _ _) t.isLt)).2.1
      (outsAt0 m c (t.val - 1) (Nat.lt_of_le_of_lt (Nat.sub_le _ _) t.isLt)).2.2) :
    PointOut (headOf (argX m c) (argG m c) (t.val / 16)) (256 * (t.val % 16)) (outsAt0 m c t.val t.isLt).1 (outsAt0 m c t.val t.isLt).2.1 (outsAt0 m c t.val t.isLt).2.2 := by
  obtain ⟨-, Ik, Iv⟩ := I
  rw [show (t.val - 1) / 16 = t.val / 16 by omega, show 256 * ((t.val - 1) % 16) + 256 = 256 * (t.val % 16) by omega] at Ik Iv
  have P := point_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (blocks_t m c t hX hG hT) (by rw [(coords_t t).2]) (fun h => h0 ((hcond0_0 t).mp h)) Ik Iv
  exact PointOut.of_eq (outsAt0_B m c t h0) P

/-- What each point leaves: its block of the queries' gradient, and of the keys' and the values' gradients the sums over
    the queries so far. -/
theorem outs_t (hX : Finite (argX m c)) (hG : Finite (argG m c)) (hT : Totals m c) (n : ℕ) : ∀ hn : n < cfg0.N,
    PointOut (headOf (argX m c) (argG m c) (n / 16)) (256 * (n % 16)) (outsAt0 m c n hn).1 (outsAt0 m c n hn).2.1 (outsAt0 m c n hn).2.2 := by
  induction n with
  | zero => exact fun hn => outs_first m c ⟨0, hn⟩ rfl hX hG hT
  | succ n ih =>
    intro hn
    by_cases h0 : (n + 1) % 16 = 0
    · exact outs_first m c ⟨n + 1, hn⟩ h0 hX hG hT
    · exact outs_next m c ⟨n + 1, hn⟩ h0 hX hG hT (ih (Nat.lt_of_succ_lt hn))

/-- An array of 16 heads' matrices, 128 lanes each, side by side. -/
def heads (f : ℕ → ℕ → ℕ → ℝ) : (⟨2, ![4096, 2048]⟩ : Shape).Idx → EReal := fun j => ((f ((j 1).val / 128) (j 0).val ((j 1).val % 128) : ℝ) : EReal)

/-- A coordinate as a word is itself. -/
theorem word_coord {n : ℕ} (h : n < 16) : (BitVec.ofNat 32 n).toNat = n := by rw [BitVec.toNat_ofNat]; omega

/-- Every block of the queries' gradient is some point's. -/
theorem covers_dq : (cfg0.win 5).Covers :=
  (cfg0.win 5).covers_of_indexMap_surj rfl (by decide) fun β => by
    have h0 : (β (0 : Fin 2)).val < 16 := lt_of_lt_of_eq (β (0 : Fin 2)).isLt (by decide : (cfg0.win 5).nblk (0 : Fin 2) = 16)
    have h1 : (β (1 : Fin 2)).val < 16 := lt_of_lt_of_eq (β (1 : Fin 2)).isLt (by decide : (cfg0.win 5).nblk (1 : Fin 2) = 16)
    refine ⟨fun a => match a with
      | ⟨0, _⟩ => ⟨(β (1 : Fin 2)).val, h1⟩
      | ⟨1, _⟩ => ⟨(β (0 : Fin 2)).val, h0⟩, fun a => ?_⟩
    match a with
    | ⟨0, _⟩ => exact word_coord h0
    | ⟨1, _⟩ => exact word_coord h1

/-- An array of heads, at a lane of head `h`. -/
theorem heads_at (f : ℕ → ℕ → ℕ → ℝ) (r : Fin 4096) (h : ℕ) (d : Fin 128) (hb : h * 128 + d.val < 2048) :
    heads f (ix2 r ⟨h * 128 + d.val, hb⟩) = ((f h r.val d.val : ℝ) : EReal) := by
  show ((f ((h * 128 + d.val) / 128) r.val ((h * 128 + d.val) % 128) : ℝ) : EReal) = _
  rw [show (h * 128 + d.val) / 128 = h by omega, show (h * 128 + d.val) % 128 = d.val by omega]

/-- The queries' gradient, as the grid leaves it. -/
theorem final_dq (hX : Finite (argX m c)) (hG : Finite (argG m c)) (hT : Totals m c) :
    (dats m 0 c).arrAt 5 cfg0.N = heads fun h => (headOf (argX m c) (argG m c) h).dq := by
  refine (dats m 0 c).arrAt_eq_of_covers 5 _ covers_dq fun t hf y => ?_
  rw [after0_5]
  have O := (outs_t m c hX hG hT t.val t.isLt).dq
  blk_simp
  have hN : t.val < 256 := lt_of_lt_of_eq t.isLt (show cfg0.N = 256 from N_0)
  obtain ⟨r, d, rfl⟩ : ∃ (r : Fin 256) (d : Fin 128), y = ix2 r d := ⟨y 0, y 1, by blk_ext⟩
  have e : (win0_5.blk t).view.emb (ix2 r d) = ix2 (⟨256 * (t.val % 16) + r.val, by omega⟩ : Fin 4096) (⟨t.val / 16 * 128 + d.val, by omega⟩ : Fin 2048) := by
    blk_ext [index_t t]
  rw [e]
  exact Eq.trans (O r d) (heads_at (fun h => (headOf (argX m c) (argG m c) h).dq) ⟨256 * (t.val % 16) + r.val, by omega⟩ (t.val / 16) d (by omega)).symm

/-- Every block of the keys' gradient is some point's. -/
theorem covers_dk : (cfg0.win 6).Covers :=
  (cfg0.win 6).covers_of_indexMap_surj rfl (by decide) fun β => by
    have h0 : (β (0 : Fin 2)).val < 1 := lt_of_lt_of_eq (β (0 : Fin 2)).isLt (by decide : (cfg0.win 6).nblk (0 : Fin 2) = 1)
    have h1 : (β (1 : Fin 2)).val < 16 := lt_of_lt_of_eq (β (1 : Fin 2)).isLt (by decide : (cfg0.win 6).nblk (1 : Fin 2) = 16)
    refine ⟨fun a => match a with
      | ⟨0, _⟩ => ⟨(β (1 : Fin 2)).val, h1⟩
      | ⟨1, _⟩ => ⟨0, show 0 < 16 by decide⟩, fun a => ?_⟩
    match a with
    | ⟨0, _⟩ => exact (Nat.lt_one_iff.mp h0).symm
    | ⟨1, _⟩ => exact word_coord h1

/-- The keys' gradient, as the grid leaves it. -/
theorem final_dk (hX : Finite (argX m c)) (hG : Finite (argG m c)) (hT : Totals m c) :
    (dats m 0 c).arrAt 6 cfg0.N = heads fun h => (headOf (argX m c) (argG m c) h).dk := by
  refine (dats m 0 c).arrAt_eq_of_covers 6 _ covers_dk fun t hf y => ?_
  rw [after0_6]
  have O := (outs_t m c hX hG hT t.val t.isLt).dk
  rw [(flush0_6 t).mp hf] at O
  blk_simp
  have hN : t.val < 256 := lt_of_lt_of_eq t.isLt (show cfg0.N = 256 from N_0)
  obtain ⟨r, d, rfl⟩ : ∃ (r : Fin 4096) (d : Fin 128), y = ix2 r d := ⟨y 0, y 1, by blk_ext⟩
  have e : (win0_6.blk t).view.emb (ix2 r d) = ix2 r (⟨t.val / 16 * 128 + d.val, by omega⟩ : Fin 2048) := by
    blk_ext [index_t t]
  rw [e]
  exact Eq.trans (O r d) (heads_at (fun h => (headOf (argX m c) (argG m c) h).dk) r (t.val / 16) d (by omega)).symm

/-- Every block of the values' gradient is some point's. -/
theorem covers_dv : (cfg0.win 7).Covers :=
  (cfg0.win 7).covers_of_indexMap_surj rfl (by decide) fun β => by
    have h0 : (β (0 : Fin 2)).val < 1 := lt_of_lt_of_eq (β (0 : Fin 2)).isLt (by decide : (cfg0.win 7).nblk (0 : Fin 2) = 1)
    have h1 : (β (1 : Fin 2)).val < 16 := lt_of_lt_of_eq (β (1 : Fin 2)).isLt (by decide : (cfg0.win 7).nblk (1 : Fin 2) = 16)
    refine ⟨fun a => match a with
      | ⟨0, _⟩ => ⟨(β (1 : Fin 2)).val, h1⟩
      | ⟨1, _⟩ => ⟨0, show 0 < 16 by decide⟩, fun a => ?_⟩
    match a with
    | ⟨0, _⟩ => exact (Nat.lt_one_iff.mp h0).symm
    | ⟨1, _⟩ => exact word_coord h1

/-- The values' gradient, as the grid leaves it. -/
theorem final_dv (hX : Finite (argX m c)) (hG : Finite (argG m c)) (hT : Totals m c) :
    (dats m 0 c).arrAt 7 cfg0.N = heads fun h => (headOf (argX m c) (argG m c) h).dv := by
  refine (dats m 0 c).arrAt_eq_of_covers 7 _ covers_dv fun t hf y => ?_
  rw [after0_7]
  have O := (outs_t m c hX hG hT t.val t.isLt).dv
  rw [(flush0_7 t).mp hf] at O
  blk_simp
  have hN : t.val < 256 := lt_of_lt_of_eq t.isLt (show cfg0.N = 256 from N_0)
  obtain ⟨r, d, rfl⟩ : ∃ (r : Fin 4096) (d : Fin 128), y = ix2 r d := ⟨y 0, y 1, by blk_ext⟩
  have e : (win0_7.blk t).view.emb (ix2 r d) = ix2 r (⟨t.val / 16 * 128 + d.val, by omega⟩ : Fin 2048) := by
    blk_ext [index_t t]
  rw [e]
  exact Eq.trans (O r d) (heads_at (fun h => (headOf (argX m c) (argG m c) h).dv) r (t.val / 16) d (by omega)).symm

end Grid

end Cert.Stick

end
-- ==== Proof.FiniteArgs.lean ====
/-
  The precondition says that the arguments are arrays of numbers.
-/
module

public import proofs.«01_k».proof.Proof.Arrays
public import proofs.«01_k».proof.Defs

@[expose] public section

noncomputable section

open Idealize.ShloMosaic Idealize.ShloMosaic.TcCoe Idealize.SL.Sem

namespace Cert.Stick

/-- The facts that the precondition states. -/
instance finiteFacts : Cert.Pre_finite.Facts where
  bcast_S_S4096x6144 := by decide
  bcast_S_S4096x2048 := by decide

/-- What is below infinity in absolute value is a number. -/
theorem number_of_abs_lt {a : EReal} (h : max a (-a) < ⊤) : a ≠ ⊤ ∧ a ≠ ⊥ := by
  constructor <;> rintro rfl <;> simp at h

/-- A comparison that came out true. -/
theorem lt_of_cmp {φ : FTy} {a b : Ideal φ} (h : FloatOps.cmpf (F := Ideal) .olt a b = 1#1) : (a : EReal) < b := by
  have h' : BitVec.ofBool (decide ((a : EReal) < b)) = 1#1 := h
  exact of_decide_eq_true ((WordCmp.ofBool_eq_one_iff _).mp h')

variable {m : (ℓ : Loc Cert.KernelIdeal.nD Cert.KernelIdeal.τ Cert.KernelIdeal.sig) → Buf (Elt Ideal) ℓ}

theorem finite_argX (h : Cert.Pre_KernelIdeal_finite m) (c : Dev Cert.KernelIdeal.nD) : Finite (argX m c) := fun j => by
  have e := congrFun (h c).1 j
  refine number_of_abs_lt (lt_of_lt_of_eq (lt_of_cmp e) ?_)
  show Ideal.ofBits FTy.bf16 0x7F80#16 = ⊤
  simp [Ideal.ofBits, Ideal.ieee]

theorem finite_argG (h : Cert.Pre_KernelIdeal_finite m) (c : Dev Cert.KernelIdeal.nD) : Finite (argG m c) := fun j => by
  have e := congrFun (h c).2 j
  refine number_of_abs_lt (lt_of_lt_of_eq (lt_of_cmp e) ?_)
  show Ideal.ofBits FTy.f32 0x7F800000#32 = ⊤
  simp [Ideal.ofBits, Ideal.ieee]

end Cert.Stick

end
-- ==== Proof.Totals.lean ====
/-
  The totals that the host computes for the grid are those of the heads.
-/
module

public import proofs.«01_k».proof.Proof.Arrays

@[expose] public section

set_option maxRecDepth 16384

noncomputable section

open Idealize.ShloMosaic Idealize.ShloMosaic.TcCoe Idealize.SL.Sem Idealize.ShloMosaic.Host
open Idealize.ShloMosaic.Pipeline (Dat)

namespace Cert.Stick

open Cert.KernelIdeal Cert.KernelIdeal.Gen
open Finset (range)

variable {F : FTy → Type} [FloatOps F]

/-- The scores of all heads, as the host computes them. -/
def hostScore (x : (⟨S4096x6144, .bf16⟩ : BufTy).Contents (Elt F)) : (⟨S16x4096x4096, .f32⟩ : BufTy).Contents (Elt F) :=
  mulf (Host.dotGeneral dot_S4096x16x128_S4096x16x128_S16x4096x4096_2_2_0_0_1_1 none
      (shapeCast _ (extractStridedSlice S4096x1x16x128 ![0, 0, 0, 0] (shapeCast _ (extf .f32 x bitsLt_bf16_f32) shapeCasts_S4096x6144_S4096x3x16x128)
        slices_S4096x3x16x128_S4096x1x16x128_0_0_0_0) shapeCasts_S4096x1x16x128_S4096x16x128)
      (shapeCast _ (extractStridedSlice S4096x1x16x128 ![0, 1, 0, 0] (shapeCast _ (extf .f32 x bitsLt_bf16_f32) shapeCasts_S4096x6144_S4096x3x16x128)
        slices_S4096x3x16x128_S4096x1x16x128_0_1_0_0) shapeCasts_S4096x1x16x128_S4096x16x128))
    (broadcastInDim S16x4096x4096 ![] bcast_S_S16x4096x4096 (constant S_ .f32 0x3DB504F3#32))

/-- Which keys stand before a query, as the host computes it. -/
def hostMask : (⟨S1x4096x4096, .i1⟩ : BufTy).Contents (Elt F) :=
  broadcastInDim S1x4096x4096 ![1, 2] bcast_S4096x4096_S1x4096x4096_1_2
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- `log (exp z + 1)`, as the host computes it. -/
def hostSoft (z : (⟨S16x4096x4096, .f32⟩ : BufTy).Contents (Elt F)) : (⟨S16x4096x4096, .f32⟩ : BufTy).Contents (Elt F) :=
  select (cmpf .une (subf z (broadcastInDim S16x4096x4096 ![] bcast_S_S16x4096x4096 (constant S_ .f32 0x00000000#32)))
      (subf z (broadcastInDim S16x4096x4096 ![] bcast_S_S16x4096x4096 (constant S_ .f32 0x00000000#32))))
    (addf z (broadcastInDim S16x4096x4096 ![] bcast_S_S16x4096x4096 (constant S_ .f32 0x00000000#32)))
    (addf (maximumf z (broadcastInDim S16x4096x4096 ![] bcast_S_S16x4096x4096 (constant S_ .f32 0x00000000#32)))
      (Host.log1p (Host.exp (Host.negf (Host.absf (subf z (broadcastInDim S16x4096x4096 ![] bcast_S_S16x4096x4096 (constant S_ .f32 0x00000000#32))))))))

/-- The totals of all heads' rows, as the host computes them. -/
def hostTotal (x : (⟨S4096x6144, .bf16⟩ : BufTy).Contents (Elt F)) : (⟨S16x4096x1, .f32⟩ : BufTy).Contents (Elt F) :=
  broadcastInDim S16x4096x1 ![0, 1] bcast_S16x4096_S16x4096x1_0_1 (Host.reduceAdd
    (select (broadcastInDim S16x4096x4096 ![0, 1, 2] bcast_S1x4096x4096_S16x4096x4096_0_1_2 (hostMask (F := F)))
      (Host.negf (hostSoft (Host.negf (Host.negf (hostScore x)))))
      (broadcastInDim S16x4096x4096 ![] bcast_S_S16x4096x4096 (id (constant S_ .f32 0x00000000#32))))
    (constant S_ .f32 0x00000000#32) reducesTo_S16x4096x4096_S16x4096_d2 h_S_)

/-- A score of the host is that of the head. -/
theorem hostScore_at {x : (⟨2, ![4096, 6144]⟩ : Shape).Idx → EReal} (hx : Finite x) (g : (⟨2, ![4096, 2048]⟩ : Shape).Idx → EReal) (h : Fin 16) (t s : Fin 4096) :
    hostScore (F := Ideal) x (ix3 h t s) = (((headOf x g h.val).score t.val s.val : ℝ) : EReal) := by
  pointwise [hostScore]
  simp only [hx.entry]
  rw [coe_dot_fin 128 (fun d => entry x t.val (h.val * 128 + d)) (fun d => entry x s.val (2048 + h.val * 128 + d)), coe_scale, ← EReal.coe_mul]
  rfl

/-- The host's mask holds exactly for the keys before a query. -/
theorem hostMask_at (t s : Fin 4096) : hostMask (F := Ideal) (ix3 0 t s) = if s.val < t.val then 1#1 else 0#1 := by
  pointwise [hostMask]
  exact slt_word (by omega) (by omega)

/-- `log (exp a + 1)`, from the operations that compute it. -/
theorem hostSoft_at {z : (⟨3, ![16, 4096, 4096]⟩ : Shape).Idx → EReal} {h : Fin 16} {t s : Fin 4096} {a : ℝ} (e : z (ix3 h t s) = ((a : ℝ) : EReal)) :
    hostSoft (F := Ideal) z (ix3 h t s) = ((max a 0 + softLog a : ℝ) : EReal) := by
  pointwise [hostSoft]
  rw [e, if_neg (not_not.mpr rfl)]
  rw [show Ideal.log1p (Ideal.exp (-FloatOps.absf (F := Ideal) (φ := .f32) ((a : ℝ) : EReal))) = ((softLog a : ℝ) : EReal) from log_one_add_exp a,
    ← EReal.coe_zero, coe_max, ← EReal.coe_add]

/-- A total of the host is that of the head. -/
theorem hostTotal_at {x : (⟨2, ![4096, 6144]⟩ : Shape).Idx → EReal} (hx : Finite x) (g : (⟨2, ![4096, 2048]⟩ : Shape).Idx → EReal) (h : Fin 16) (t : Fin 4096) :
    hostTotal (F := Ideal) x (ix3 h t 0) = (((headOf x g h.val).total t.val : ℝ) : EReal) := by
  pointwise [hostTotal]
  refine Eq.trans (Finset.sum_congr rfl fun s _ => ?_) (coe_sum_fin 4096 fun s => (headOf x g h.val).rest t.val s)
  have e : Host.negf (F := Ideal) (φ := .f32) (Host.negf (F := Ideal) (φ := .f32) (hostScore (F := Ideal) x)) (ix3 h t s) = (((headOf x g h.val).score t.val s.val : ℝ) : EReal) := by
    refine (neg_neg (hostScore (F := Ideal) x (ix3 h t s))).trans (hostScore_at hx g h t s)
  rw [hostMask_at, hostSoft_at e]
  by_cases hlt : s.val < t.val
  · rw [if_pos hlt, Head.rest_of_lt hlt, ← EReal.coe_neg, WordCmp.select_one]
    refine congrArg _ ?_
    unfold logRest
    ring
  · rw [if_neg hlt, Head.rest_of_le (not_lt.mp hlt)]
    exact Ideal.ofBits_zero .f32

section

variable (m : (ℓ : Loc nD τ sig) → Buf (Elt Ideal) ℓ) (c : Dev nD)

open Idealize.ShloMosaic.StableHlo in
set_option maxHeartbeats 4000000 in
/-- What the grid finds as its totals. -/
theorem found_totals : (V m c main_v21 : (⟨S16x4096x1, .f32⟩ : BufTy).Contents (Elt Ideal)) = hostTotal (m ((c : Thread nD τ).loc main_arg0)) := by
  unfold V
  simp only [hostOps0, hostOps0_1, hostOps0_2, hostOps0_3, hostOps0_4, List.flatten_cons, List.flatten_nil, List.append_nil, List.cons_append,
      List.nil_append, TRef.binary, TRef.nullary, TRef.unary, TRef.ternary, TRef.toBuf, TRef.ofBuf, cast_eq]
  after_results_simp
  unfold hostTotal hostSoft hostMask hostScore
  rfl

/-- The totals that the grid finds are those of the heads. -/
theorem totals (hX : Finite (argX m c)) : Totals m c := fun h r =>
  (congrFun (found_totals m c) (ix3 h r 0)).trans (hostTotal_at hX (argG m c) h r)

end

end Cert.Stick

end
-- ==== Proof.Window.lean ====
/-
  Running sums along the last axis of a stack of matrices, as the host computes them: a window of the axis' whole length
  around each entry.
-/
module

public import proofs.«01_k».proof.Proof.Lift

@[expose] public section

noncomputable section

namespace Cert.Stick

open Idealize.ShloMosaic Finset

/-- A fold that adds one number at each step. -/
theorem foldl_add_real {n : ℕ} (step : EReal → Fin n → EReal) (f : ℕ → ℝ) (hs : ∀ (r : EReal) (k : Fin n), step r k = r + ((f k.val : ℝ) : EReal)) :
    (List.finRange n).foldl step 0 = ((∑ k ∈ range n, f k : ℝ) : EReal) := by
  rw [show step = fun r k => r + ((f k.val : ℝ) : EReal) from funext fun r => funext fun k => hs r k]
  induction n with
  | zero => simp
  | succ n ih =>
    rw [List.finRange_succ_last, List.foldl_append, List.foldl_map, sum_range_succ, EReal.coe_add]
    exact congrArg (· + _) (ih (fun r k => r + ((f k.val : ℝ) : EReal)) fun _ _ => rfl)

/-- The place of a position of a window that is one row of 4096 entries. -/
theorem row_position (n : Fin (⟨3, ![1, 1, 4096]⟩ : Shape).numel) :
    ((⟨3, ![1, 1, 4096]⟩ : Shape).rowMajor.symm n 0).val = 0 ∧ ((⟨3, ![1, 1, 4096]⟩ : Shape).rowMajor.symm n 1).val = 0 ∧
      ((⟨3, ![1, 1, 4096]⟩ : Shape).rowMajor.symm n 2).val = n.val := by
  have e := Shape.rowMajor_val_three ((⟨3, ![1, 1, 4096]⟩ : Shape).rowMajor.symm n)
  rw [Equiv.apply_symm_apply] at e
  have h0 : ((⟨3, ![1, 1, 4096]⟩ : Shape).rowMajor.symm n 0).val = 0 := Nat.lt_one_iff.mp ((⟨3, ![1, 1, 4096]⟩ : Shape).rowMajor.symm n 0).isLt
  have h1 : ((⟨3, ![1, 1, 4096]⟩ : Shape).rowMajor.symm n 1).val = 0 := Nat.lt_one_iff.mp ((⟨3, ![1, 1, 4096]⟩ : Shape).rowMajor.symm n 1).isLt
  refine ⟨h0, h1, ?_⟩
  rw [e, h0, h1]
  simp

/-- Numbers read from `s` on, up to the end of a row of `N`. -/
theorem sum_after (f : ℕ → ℝ) {N s : ℕ} (hs : s < N) :
    ∑ k ∈ range N, (if 0 ≤ s + k ∧ s + k - 0 < N then f (s + k - 0) else 0) = ∑ j ∈ range N, f j - ∑ j ∈ range s, f j := by
  obtain ⟨m, rfl⟩ := Nat.exists_eq_add_of_le hs.le
  rw [sum_range_add f, add_sub_cancel_left, add_comm s m, sum_range_add _ m s, sum_eq_zero (s := range s) fun k _ => if_neg (by omega), add_zero]
  exact sum_congr rfl fun k hk => if_pos (by have := mem_range.mp hk; omega)

/-- Numbers read up to `s`, through a window that begins before the row. -/
theorem sum_before (f : ℕ → ℝ) {N s : ℕ} (hs : s < N + 1) :
    ∑ k ∈ range (N + 1), (if N ≤ s + k ∧ s + k - N < N + 1 then f (s + k - N) else 0) = ∑ j ∈ range (s + 1), f j := by
  obtain ⟨m, rfl⟩ := Nat.exists_eq_add_of_le (Nat.lt_succ_iff.mp hs)
  rw [show s + m + 1 = m + (s + 1) by omega, sum_range_add _ m (s + 1), sum_eq_zero (s := range m) fun k hk => if_neg (by have := mem_range.mp hk; omega), zero_add]
  refine sum_congr rfl fun k hk => ?_
  have := mem_range.mp hk
  rw [if_pos (by omega)]
  exact congrArg f (by omega)

/-- The sum of a window of 4096 entries around entry `s` of a row, where the row is padded with `L` zeros in front. -/
theorem window_sum {L H : ℕ} (x : (⟨3, ![16, 4096, 4096]⟩ : Shape).Idx → EReal) (v : (⟨0, ![]⟩ : Shape).Idx → EReal) (hv : v ix0 = 0)
    (f : ℕ → ℝ) (h : Fin 16) (t : Fin 4096) (hx : ∀ s : Fin 4096, x (ix3 h t s) = ((f s.val : ℝ) : EReal))
    (hw : (⟨3, ![16, 4096, 4096]⟩ : Shape).ReduceWindows ![1, 1, 4096] ![1, 1, 1] ![0, 0, L] ![0, 0, H] ⟨3, ![16, 4096, 4096]⟩)
    (hu : 0 < (⟨0, ![]⟩ : Shape).numel) (s : Fin 4096) :
    Host.reduceWindowAdd (F := Ideal) (φ := .f32) ![1, 1, 4096] ![1, 1, 1] ![0, 0, L] ![0, 0, H] x v hw hu (ix3 h t s)
      = ((∑ k ∈ range 4096, (if L ≤ s.val + k ∧ s.val + k - L < 4096 then f (s.val + k - L) else 0) : ℝ) : EReal) := by
  unfold Host.reduceWindowAdd
  rw [Ideal.hostReduceWindowAdd_def, show v (Shape.Idx.first hu) = 0 from (congrArg v (funext fun a => a.elim0)).trans hv]
  unfold Ideal.hostReduceWindowAdd Host.reduceWindow
  refine (foldl_add_real _ (fun k => if L ≤ s.val + k ∧ s.val + k - L < 4096 then f (s.val + k - L) else 0) fun r n => ?_).trans
    (congrArg _ (congrArg (fun N => ∑ k ∈ range N, (if L ≤ s.val + k ∧ s.val + k - L < 4096 then f (s.val + k - L) else 0))
      (show (⟨3, ![1, 1, 4096]⟩ : Shape).numel = 4096 from by decide)))
  obtain ⟨h0, h1, h2⟩ := row_position n
  dsimp only
  refine congrArg (r + ·) ?_
  split
  · next hin =>
    have p2 : L ≤ s.val * 1 + ((⟨3, ![1, 1, 4096]⟩ : Shape).rowMajor.symm n 2).val ∧ s.val * 1 + ((⟨3, ![1, 1, 4096]⟩ : Shape).rowMajor.symm n 2).val - L < 4096 := hin 2
    rw [h2, mul_one] at p2
    rw [if_pos p2, ← hx ⟨s.val + n.val - L, p2.2⟩]
    refine congrArg x (funext fun a => Fin.ext ?_)
    match a with
    | ⟨0, _⟩ =>
      show h.val * 1 + ((⟨3, ![1, 1, 4096]⟩ : Shape).rowMajor.symm n 0).val - 0 = h.val
      rw [h0]; omega
    | ⟨1, _⟩ =>
      show t.val * 1 + ((⟨3, ![1, 1, 4096]⟩ : Shape).rowMajor.symm n 1).val - 0 = t.val
      rw [h1]; omega
    | ⟨2, _⟩ =>
      show s.val * 1 + ((⟨3, ![1, 1, 4096]⟩ : Shape).rowMajor.symm n 2).val - L = s.val + n.val - L
      rw [h2]; omega
  · next hin =>
    rw [if_neg fun p => hin fun a => by
      match a with
      | ⟨0, _⟩ =>
        show 0 ≤ h.val * 1 + ((⟨3, ![1, 1, 4096]⟩ : Shape).rowMajor.symm n 0).val ∧ h.val * 1 + ((⟨3, ![1, 1, 4096]⟩ : Shape).rowMajor.symm n 0).val - 0 < 16
        rw [h0]; omega
      | ⟨1, _⟩ =>
        show 0 ≤ t.val * 1 + ((⟨3, ![1, 1, 4096]⟩ : Shape).rowMajor.symm n 1).val ∧ t.val * 1 + ((⟨3, ![1, 1, 4096]⟩ : Shape).rowMajor.symm n 1).val - 0 < 4096
        rw [h1]; omega
      | ⟨2, _⟩ =>
        show L ≤ s.val * 1 + ((⟨3, ![1, 1, 4096]⟩ : Shape).rowMajor.symm n 2).val ∧ s.val * 1 + ((⟨3, ![1, 1, 4096]⟩ : Shape).rowMajor.symm n 2).val - L < 4096
        rw [h2, mul_one]; exact p]
    rfl

/-- The sum from entry `s` to the end of the row. -/
theorem window_after (x : (⟨3, ![16, 4096, 4096]⟩ : Shape).Idx → EReal) (v : (⟨0, ![]⟩ : Shape).Idx → EReal) (hv : v ix0 = 0)
    (f : ℕ → ℝ) (h : Fin 16) (t : Fin 4096) (hx : ∀ s : Fin 4096, x (ix3 h t s) = ((f s.val : ℝ) : EReal))
    (hw : (⟨3, ![16, 4096, 4096]⟩ : Shape).ReduceWindows ![1, 1, 4096] ![1, 1, 1] ![0, 0, 0] ![0, 0, 4095] ⟨3, ![16, 4096, 4096]⟩)
    (hu : 0 < (⟨0, ![]⟩ : Shape).numel) (s : Fin 4096) :
    Host.reduceWindowAdd (F := Ideal) (φ := .f32) ![1, 1, 4096] ![1, 1, 1] ![0, 0, 0] ![0, 0, 4095] x v hw hu (ix3 h t s)
      = ((∑ j ∈ range 4096, f j - ∑ j ∈ range s.val, f j : ℝ) : EReal) := by
  rw [window_sum x v hv f h t hx hw hu s]
  exact congrArg _ (sum_after f s.isLt)

/-- The sum from the start of the row to entry `s`. -/
theorem window_before (x : (⟨3, ![16, 4096, 4096]⟩ : Shape).Idx → EReal) (v : (⟨0, ![]⟩ : Shape).Idx → EReal) (hv : v ix0 = 0)
    (f : ℕ → ℝ) (h : Fin 16) (t : Fin 4096) (hx : ∀ s : Fin 4096, x (ix3 h t s) = ((f s.val : ℝ) : EReal))
    (hw : (⟨3, ![16, 4096, 4096]⟩ : Shape).ReduceWindows ![1, 1, 4096] ![1, 1, 1] ![0, 0, 4095] ![0, 0, 0] ⟨3, ![16, 4096, 4096]⟩)
    (hu : 0 < (⟨0, ![]⟩ : Shape).numel) (s : Fin 4096) :
    Host.reduceWindowAdd (F := Ideal) (φ := .f32) ![1, 1, 4096] ![1, 1, 1] ![0, 0, 4095] ![0, 0, 0] x v hw hu (ix3 h t s)
      = ((∑ j ∈ range (s.val + 1), f j : ℝ) : EReal) := by
  rw [window_sum x v hv f h t hx hw hu s]
  exact congrArg _ (sum_before f s.isLt)

end Cert.Stick

end
-- ==== Proof.RefValue.lean ====
/-
  What the reference computes: the gradients of the heads that its arguments hold.
-/
module

public import proofs.«01_k».proof.Proof.Totals
public import proofs.«01_k».proof.Proof.Window
public import proofs.«01_k».proof.Proof.Gen.ReferenceIdeal.Run

@[expose] public section

set_option maxRecDepth 16384

noncomputable section

open Idealize.ShloMosaic Idealize.ShloMosaic.TcCoe Idealize.SL.Sem Idealize.ShloMosaic.Host

namespace Cert.Stick

open Cert.ReferenceIdeal Cert.ReferenceIdeal.Value
open Finset (range)

/-- What the last operation of `log (exp z + 1)` leaves, subtracted from `z`: the logarithm of the share. -/
theorem exp_share (z : ℝ) : Real.exp (z - (max z 0 + softLog z)) = share z := by
  unfold softLog share
  have hp : 0 < 1 + Real.exp (-|z|) := by positivity
  rw [show z - (max z 0 + Real.log (1 + Real.exp (-|z|))) = min z 0 - Real.log (1 + Real.exp (-|z|)) by
      rcases le_total z 0 with h | h
      · rw [max_eq_right h, min_eq_left h]; ring
      · rw [max_eq_left h, min_eq_right h]; ring,
    Real.exp_sub, Real.exp_log hp, div_eq_iff hp.ne', inv_mul_eq_div, eq_div_iff (by positivity)]
  rcases le_total z 0 with h | h
  · rw [min_eq_left h, abs_of_nonpos h, neg_neg, mul_add, mul_one, ← Real.exp_add, add_neg_cancel, Real.exp_zero, add_comm]
  · rw [min_eq_right h, abs_of_nonneg h, Real.exp_zero, one_mul]

/-- The share at the other side. -/
theorem exp_share_neg (z : ℝ) : Real.exp (-z - (max (-z) 0 + softLog (-z))) = 1 - share z := by
  rw [exp_share]
  unfold share
  rw [neg_neg, Real.exp_neg]
  have := Real.exp_pos z
  field_simp
  ring

/-- The logarithm of the share. -/
theorem neg_soft_neg (z : ℝ) : -(max (-z) 0 + softLog (-z)) = logShare z := by
  unfold logShare softLog
  rw [abs_neg]
  rcases le_total z 0 with h | h
  · rw [max_eq_left (by linarith), min_eq_left h]; ring
  · rw [max_eq_right (by linarith), min_eq_right h]; ring

/-- A row of numbers by a row of numbers. -/
theorem dot_real {n : ℕ} (a b : Fin n → EReal) (f g : ℕ → ℝ) (ha : ∀ k, a k = ((f k.val : ℝ) : EReal)) (hb : ∀ k, b k = ((g k.val : ℝ) : EReal)) :
    ∑ k, a k * b k = ((∑ k ∈ range n, f k * g k : ℝ) : EReal) := by
  rw [← coe_dot_fin]
  exact Finset.sum_congr rfl fun k _ => by rw [ha, hb]

/-- A number is not the infinity that a float's word is read as. -/
theorem ne_inf (a : ℝ) : ((a : ℝ) : EReal) ≠ Ideal.ofBits FTy.f32 0x7F800000#32 := by
  rw [show Ideal.ofBits FTy.f32 0x7F800000#32 = ⊤ by simp [Ideal.ofBits, Ideal.ieee]]
  exact EReal.coe_ne_top a

section

variable (W : Valuation Cert.ReferenceIdeal.τ Cert.ReferenceIdeal.sig (Elt Ideal))

/-- The first argument. -/
abbrev refX : (⟨2, ![4096, 6144]⟩ : Shape).Idx → EReal := W (Proc.devRef .tc main_arg0)
/-- The second argument. -/
abbrev refG : (⟨2, ![4096, 2048]⟩ : Shape).Idx → EReal := W (Proc.devRef .tc main_arg1)
/-- A head of the arguments. -/
abbrev refHead (h : ℕ) : Head := headOf (refX W) (refG W) h

theorem ref_mask (t s : Fin 4096) : res_main_v18 W (ix3 0 t s) = if s.val < t.val then 1#1 else 0#1 := hostMask_at t s

variable {W} (hX : Finite (refX W)) (hG : Finite (refG W)) (h : Fin 16) (t s : Fin 4096)
include hX

theorem ref_neg : res_main_call0_v0 W (ix3 h t s) = ((-(refHead W h.val).score t.val s.val : ℝ) : EReal) :=
  (congrArg (- ·) (hostScore_at hX (refG W) h t s)).trans (EReal.coe_neg _).symm

theorem ref_pos : res_main_call1_v0 W (ix3 h t s) = (((refHead W h.val).score t.val s.val : ℝ) : EReal) :=
  (neg_neg (hostScore (F := Ideal) (refX W) (ix3 h t s))).trans (hostScore_at hX (refG W) h t s)

theorem ref_soft_neg : res_main_call0_v1_0 W (ix3 h t s) =
    ((max (-(refHead W h.val).score t.val s.val) 0 + softLog (-(refHead W h.val).score t.val s.val) : ℝ) : EReal) :=
  hostSoft_at (z := res_main_call0_v0 W) (ref_neg hX h t s)

theorem ref_soft_pos : res_main_call1_v1_0 W (ix3 h t s) =
    ((max ((refHead W h.val).score t.val s.val) 0 + softLog ((refHead W h.val).score t.val s.val) : ℝ) : EReal) :=
  hostSoft_at (z := res_main_call1_v0 W) (ref_pos hX h t s)

/-- The logarithm of what a key leaves of the stick. -/
theorem ref_rest : res_main_v22_0 W (ix3 h t s) = (((refHead W h.val).rest t.val s.val : ℝ) : EReal) := by
  pointwise [res_main_v22_0, res_main_v22_1]
  rw [ref_mask, ref_soft_pos hX h t s]
  by_cases hlt : s.val < t.val
  · rw [if_pos hlt, Head.rest_of_lt hlt, ← EReal.coe_neg, WordCmp.select_one]
    refine congrArg _ ?_
    unfold logRest
    ring
  · rw [if_neg hlt, Head.rest_of_le (not_lt.mp hlt)]
    exact Ideal.ofBits_zero .f32

/-- The weight before the mask. -/
theorem ref_unmasked : res_main_v26 W (ix3 h t s) =
    ((Real.exp (logShare ((refHead W h.val).score t.val s.val) + (refHead W h.val).later t.val s.val) : ℝ) : EReal) := by
  pointwise [res_main_v26]
  rw [window_after (res_main_v22_0 W) _ (Ideal.ofBits_zero .f32) (fun j => (refHead W h.val).rest t.val j) h t (fun j => ref_rest hX h t j), ref_rest hX h t s,
    ref_soft_neg hX h t s, ← EReal.coe_neg, ← EReal.coe_sub, ← EReal.coe_add, Ideal.exp_coe, neg_soft_neg]
  refine congrArg (fun r : ℝ => ((Real.exp (logShare ((refHead W h.val).score t.val s.val) + r) : ℝ) : EReal)) ?_
  unfold Head.later Head.total
  rw [Finset.sum_range_succ _ s.val, show (refHead W h.val).N = 4096 from rfl, sub_sub]

/-- The weight. -/
theorem ref_weight : res_main_v27_0 W (ix3 h t s) = (((refHead W h.val).weight t.val s.val : ℝ) : EReal) := by
  pointwise [res_main_v27_0, res_main_v27_1]
  rw [ref_mask, ref_unmasked hX h t s]
  by_cases hlt : s.val < t.val
  · rw [if_pos hlt, Head.weight_of_lt hlt, WordCmp.select_one]
  · rw [if_neg hlt, Head.weight_of_le (not_lt.mp hlt)]
    exact Ideal.ofBits_zero .f32

include hG

/-- The gradient of the weight's logarithm. -/
theorem ref_dLog : res_main_v37 W (ix3 h t s) = (((refHead W h.val).dLog t.val s.val : ℝ) : EReal) := by
  pointwise [res_main_v37, res_main_v32, res_main_v27_1, res_main_v7, res_main_v1]
  rw [ref_mask, ref_unmasked hX h t s]
  by_cases hlt : s.val < t.val
  · rw [if_pos hlt, WordCmp.select_one]
    refine Eq.trans ?_ (congrArg _ (congrArg (_ * ·) (Head.weight_of_lt hlt).symm))
    rw [EReal.coe_mul, ← coe_dot_fin]
    exact congrArg (· * _) (Finset.sum_congr rfl fun d _ => congrArg₂ (· * ·) (hG.entry t _) (hX.entry s _))
  · rw [if_neg hlt, Head.dLog_of_le (not_lt.mp hlt)]
    rfl

/-- The gradient of a score. -/
theorem ref_dScore : res_main_v47 W (ix3 h t s) = (((refHead W h.val).dScore t.val s.val : ℝ) : EReal) := by
  pointwise [res_main_v47, res_main_v22_1]
  rw [window_before (res_main_v37 W) _ (Ideal.ofBits_zero .f32) (fun j => (refHead W h.val).dLog t.val j) h t (fun j => ref_dLog hX hG h t j), ref_dLog hX hG h t s,
    ref_soft_neg hX h t s, ref_soft_pos hX h t s, ref_pos hX h t s, ref_neg hX h t s, if_neg (ne_inf _), if_neg (ne_inf _), if_neg (ne_inf _), if_neg (ne_inf _),
    ref_mask, coe_scale]
  have e : Scalar.select (if s.val < t.val then 1#1 else 0#1)
      (-(((refHead W h.val).dLog t.val s.val : ℝ) : EReal) + ((∑ j ∈ range (s.val + 1), (refHead W h.val).dLog t.val j : ℝ) : EReal)) 0
        = (((refHead W h.val).dRest t.val s.val : ℝ) : EReal) := by
    by_cases hlt : s.val < t.val
    · rw [if_pos hlt, Head.dRest_of_lt hlt, WordCmp.select_one, ← EReal.coe_neg, ← EReal.coe_add, Finset.sum_range_succ]
      exact congrArg _ (by ring)
    · rw [if_neg hlt, Head.dRest_of_le (not_lt.mp hlt)]
      rfl
  rw [e]
  simp only [← EReal.coe_neg, ← EReal.coe_sub, ← EReal.coe_add, ← EReal.coe_mul, Ideal.exp_coe]
  rw [exp_share, exp_share_neg]
  refine congrArg _ ?_
  unfold Head.dScore
  rw [show (refHead W h.val).c = scale from rfl]
  ring

/-- The gradient of the queries. -/
theorem ref_dq (hs : (⟨2, ![4096, 6144]⟩ : Shape).Slices ![0, 0] ⟨2, ![4096, 2048]⟩) :
    extractStridedSlice (⟨2, ![4096, 2048]⟩ : Shape) ![0, 0] (res_main_v60 W : (⟨2, ![4096, 6144]⟩ : Shape).Idx → EReal) hs = heads fun h => (refHead W h).dq := by
  funext j
  obtain ⟨t, l, rfl⟩ : ∃ (t : Fin 4096) (l : Fin 2048), j = ix2 t l := ⟨j 0, j 1, ValueIdx.eq_ix2 j⟩
  have hl := l.isLt
  pointwise [res_main_v60, res_main_v5, res_main_v1]
  split_ifs with h2 h1 h0 <;> first | (exfalso; omega) | skip
  refine (congrArg₂ (fun a b : EReal => a + b) (zero_add (0 : EReal)) (dot_real _ _ (fun s => (refHead W (l.val / 128 % 16)).dScore t.val s) (fun s => entry (refX W) s (2048 + l.val / 128 % 16 * 128 + l.val % 128))
    (fun s => ref_dScore hX hG ⟨l.val / 128 % 16, by omega⟩ t s) fun s => hX.entry s ⟨2048 + l.val / 128 % 16 * 128 + l.val % 128, by omega⟩)).trans ((zero_add _).trans ?_)
  rw [show l.val / 128 % 16 = l.val / 128 by omega]
  rfl

/-- The gradient of the keys. -/
theorem ref_dk (hs : (⟨2, ![4096, 6144]⟩ : Shape).Slices ![0, 2048] ⟨2, ![4096, 2048]⟩) :
    extractStridedSlice (⟨2, ![4096, 2048]⟩ : Shape) ![0, 2048] (res_main_v60 W : (⟨2, ![4096, 6144]⟩ : Shape).Idx → EReal) hs = heads fun h => (refHead W h).dk := by
  funext j
  obtain ⟨t, l, rfl⟩ : ∃ (t : Fin 4096) (l : Fin 2048), j = ix2 t l := ⟨j 0, j 1, ValueIdx.eq_ix2 j⟩
  have hl := l.isLt
  pointwise [res_main_v60, res_main_v3, res_main_v1]
  split_ifs with h2 h1 h0 <;> first | (exfalso; omega) | skip
  refine (congrArg (fun a : EReal => 0 + a + 0) (dot_real _ _ (fun s => (refHead W ((2048 + l.val) / 128 % 16)).dScore s t.val) (fun s => entry (refX W) s ((2048 + l.val) / 128 % 16 * 128 + (2048 + l.val) % 128))
    (fun s => ref_dScore hX hG ⟨(2048 + l.val) / 128 % 16, by omega⟩ s t) fun s => hX.entry s ⟨(2048 + l.val) / 128 % 16 * 128 + (2048 + l.val) % 128, by omega⟩)).trans ((congrArg (· + (0 : EReal)) (zero_add _)).trans ((add_zero _).trans ?_))
  rw [show (2048 + l.val) / 128 % 16 = l.val / 128 by omega, show (2048 + l.val) % 128 = l.val % 128 by omega]
  rfl

/-- The gradient of the values. -/
theorem ref_dv (hs : (⟨2, ![4096, 6144]⟩ : Shape).Slices ![0, 4096] ⟨2, ![4096, 2048]⟩) :
    extractStridedSlice (⟨2, ![4096, 2048]⟩ : Shape) ![0, 4096] (res_main_v60 W : (⟨2, ![4096, 6144]⟩ : Shape).Idx → EReal) hs = heads fun h => (refHead W h).dv := by
  funext j
  obtain ⟨t, l, rfl⟩ : ∃ (t : Fin 4096) (l : Fin 2048), j = ix2 t l := ⟨j 0, j 1, ValueIdx.eq_ix2 j⟩
  have hl := l.isLt
  pointwise [res_main_v60, res_main_v32]
  split_ifs with h2 h1 h0 <;> first | (exfalso; omega) | skip
  refine (congrArg (fun a : EReal => a + 0 + 0) (dot_real _ _ (fun s => entry (refG W) s l.val) (fun s => (refHead W ((4096 + l.val) / 128 % 16)).weight s t.val)
    (fun s => hG.entry s l) fun s => ref_weight hX ⟨(4096 + l.val) / 128 % 16, by omega⟩ s t)).trans ((congrArg (· + (0 : EReal)) (add_zero _)).trans ((add_zero _).trans ?_))
  rw [show (4096 + l.val) / 128 % 16 = l.val / 128 by omega]
  refine congrArg Real.toEReal (Finset.sum_congr rfl fun s _ => ?_)
  rw [mul_comm]
  exact congrArg (fun a => (refHead W (l.val / 128)).weight s t.val * entry (refG W) s a) (show l.val = l.val / 128 * 128 + l.val % 128 by omega)

end

end Cert.Stick

end
-- ==== Proof.Sums.lean ====
/-
  Sums cut into blocks, and coordinates as words.
-/
module

public import Idealize.ShloMosaic.Lib.Pointwise

@[expose] public section

noncomputable section

namespace Cert.Sums

/-- A small coordinate as a word is itself. -/
theorem word_of_lt {n : ℕ} (h : n < 4096) : (BitVec.ofNat 32 n).toNat = n := by rw [BitVec.toNat_ofNat]; omega

/-- The same of a coordinate that is scaled by one and moved by zero. -/
theorem word_of_lt' {n : ℕ} (h : n < 4096) : (BitVec.ofNat 32 n * 1#32 + 0#32).toNat = n := by
  rw [BitVec.mul_one, BitVec.add_zero, word_of_lt h]

/-- A sum over `J` blocks of `n` terms each is the sum over all the terms. -/
theorem sum_blocks (J n : ℕ) (f : ℕ → EReal) : ∑ j ∈ Finset.range J, ∑ x ∈ Finset.range n, f (j * n + x) = ∑ x ∈ Finset.range (J * n), f x := by
  induction J with
  | zero => simp
  | succ J ih => rw [Finset.sum_range_succ, ih, Nat.succ_mul, Finset.sum_range_add]

/-- The same over numbered indices, for any terms. -/
theorem sum_fin_blocks {J n N : ℕ} (hN : J * n = N) (f : Fin N → EReal) :
    ∑ j : Fin J, ∑ x : Fin n, f ⟨j.val * n + x.val, hN ▸ (by
      have hj : j.val + 1 ≤ J := j.isLt
      have := Nat.mul_le_mul_right n hj
      have := x.isLt
      rw [Nat.succ_mul] at *
      omega)⟩ = ∑ x : Fin N, f x := by
  subst hN
  obtain ⟨F, e⟩ : ∃ F : ℕ → EReal, ∀ x : Fin (J * n), f x = F x.val :=
    ⟨fun y => if h : y < J * n then f ⟨y, h⟩ else 0, fun x => by simp only [x.isLt, dite_true]⟩
  simp only [e]
  rw [Fin.sum_univ_eq_sum_range, ← sum_blocks, Fin.sum_univ_eq_sum_range fun j => ∑ x : Fin n, F (j * n + x.val)]
  exact Finset.sum_congr rfl fun j _ => Fin.sum_univ_eq_sum_range (fun x => F (j * n + x)) n

end Cert.Sums

end
-- ==== Proof.InDw.lean ====
/-
  The gradient of the inner weight of the feed-forward network: what `ffn_in_dw` leaves and what the reference leaves.
-/
module

public import proofs.«01_k».proof.Proof.Gen.Kernel2Ideal.Value
public import proofs.«01_k».proof.Proof.Gen.Reference2Ideal.Run
public import proofs.«01_k».proof.Proof.Sums
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.InDw

open Cert.Kernel2Ideal Cert.Kernel2Ideal.Gen

/-- The gradient of the weight, on the eight devices' columns: at device `j`, row `k`, column `n`, the sum over the tokens
    of the input's column `k` by the gradient's column `1408 j + n`. -/
def grad (h : (⟨2, ![4096, 2048]⟩ : Shape).Idx → EReal) (g : (⟨2, ![4096, 11264]⟩ : Shape).Idx → EReal) : (⟨3, ![8, 2048, 1408]⟩ : Shape).Idx → EReal :=
  fun i => ∑ t : Fin 4096, h (ix2 t (i 1)) * g (ix2 t ⟨(i 0).val * 1408 + (i 2).val, by
    have h0 : (i 0).val < 8 := (i 0).isLt
    have h2 : (i 2).val < 1408 := (i 2).isLt
    omega⟩)

/-- A block of the product, at an entry. -/
theorem pay_at (a : Vec Ideal S4096x512 .bf16) (b : Vec Ideal S4096x1408 .bf16) (r : Fin 512) (n : Fin 1408) :
    (k0_pay1 a b : (⟨3, ![1, 512, 1408]⟩ : Shape).Idx → EReal) (ix3 0 r n) = ∑ t : Fin 4096, a (ix2 t r) * b (ix2 t n) := by
  pointwise [k0_pay1]

/-- The block that a point leaves is its product. -/
theorem out_eq (a : Vec Ideal S4096x512 .bf16) (b : Vec Ideal S4096x1408 .bf16) : out0_2 a b = k0_pay1 a b := by
  have hz3 : (![0, 0, 0] : Fin S1x512x1408.rank → Nat) = fun _ => 0 := funext fun a => by fin_cases a <;> rfl
  have hz0 : (![0, 0] : Fin S4096x512.rank → Nat) = fun _ => 0 := funext fun a => by fin_cases a <;> rfl
  have hz1 : (![0, 0] : Fin S4096x1408.rank → Nat) = fun _ => 0 := funext fun a => by fin_cases a <;> rfl
  unfold out0_2
  rw [View.canon_unit_zero hz3, View.ld_unit_zero hz0, View.ld_unit_zero hz1]

variable (m : (ℓ : Loc nD τ sig) → Buf (Elt Ideal) ℓ) (c : Dev nD)

/-- The blocks that a point's windows are on. -/
theorem index_t : ∀ t : Fin cfg0.N, win0_0.index t = ![0, t.val % 4] ∧ win0_1.index t = ![0, t.val / 4] ∧ win0_2.index t = ![t.val / 4, t.val % 4, 0] :=
  (by decide +kernel : ∀ t : Fin grid0.N, win0_0.index t = ![0, t.val % 4] ∧ win0_1.index t = ![0, t.val / 4] ∧ win0_2.index t = ![t.val / 4, t.val % 4, 0])

/-- Every block of the result is some point's. -/
theorem covers : (cfg0.win 2).Covers :=
  (cfg0.win 2).covers_of_indexMap_surj rfl (by decide) fun β => by
    have h0 : (β (0 : Fin 3)).val < 8 := lt_of_lt_of_eq (β (0 : Fin 3)).isLt (by decide : (cfg0.win 2).nblk (0 : Fin 3) = 8)
    have h1 : (β (1 : Fin 3)).val < 4 := lt_of_lt_of_eq (β (1 : Fin 3)).isLt (by decide : (cfg0.win 2).nblk (1 : Fin 3) = 4)
    have h2 : (β (2 : Fin 3)).val < 1 := lt_of_lt_of_eq (β (2 : Fin 3)).isLt (by decide : (cfg0.win 2).nblk (2 : Fin 3) = 1)
    refine ⟨fun a => match a with
      | ⟨0, _⟩ => ⟨(β (0 : Fin 3)).val, h0⟩
      | ⟨1, _⟩ => ⟨(β (1 : Fin 3)).val, h1⟩
      | ⟨2, _⟩ => ⟨0, show 0 < 1 by decide⟩
      | ⟨3, _⟩ => ⟨0, show 0 < 1 by decide⟩, fun a => ?_⟩
    match a with
    | ⟨0, _⟩ => exact Sums.word_of_lt (lt_trans h0 (by decide))
    | ⟨1, _⟩ => exact Sums.word_of_lt (lt_trans h1 (by decide))
    | ⟨2, _⟩ => exact (Nat.lt_one_iff.mp h2).symm

/-- The array that the grid leaves. -/
theorem final : (dats m 0 c).arrAt 2 cfg0.N = grad (m ((c : Thread nD τ).loc main_arg0)) (m ((c : Thread nD τ).loc main_arg1)) := by
  refine (dats m 0 c).arrAt_eq_of_covers 2 _ covers fun t hf y => ?_
  rw [after0_2, out_eq]
  blk_simp
  have hN : t.val < 32 := lt_of_lt_of_eq t.isLt (show cfg0.N = 32 from N_0)
  obtain ⟨z, r, n, rfl⟩ : ∃ (z : Fin 1) (r : Fin 512) (n : Fin 1408), y = ix3 z r n := ⟨y 0, y 1, y 2, by blk_ext⟩
  obtain rfl : z = 0 := Subsingleton.elim _ _
  have e : (win0_2.blk t).view.emb (ix3 0 r n) = ix3 (⟨t.val / 4, by omega⟩ : Fin 8) (⟨512 * (t.val % 4) + r.val, by omega⟩ : Fin 2048) n := by
    blk_ext [index_t t]
  rw [e]
  refine (pay_at _ _ r n).trans (Finset.sum_congr rfl fun k _ => ?_)
  refine congrArg₂ (· * ·) ?_ ?_
  · refine Eq.trans (b := m ((c : Thread nD τ).loc main_arg0) (ix2 k (⟨512 * (t.val % 4) + r.val, by omega⟩ : Fin 2048))) ?_ rfl
    blk_ext [iblk, V_main_arg0, index_t t]
  · refine Eq.trans (b := m ((c : Thread nD τ).loc main_arg1) (ix2 k (⟨t.val / 4 * 1408 + n.val, by omega⟩ : Fin 11264))) ?_ rfl
    blk_ext [iblk, V_main_arg1, index_t t]

/-- The array that the reference leaves. -/
theorem ref_eq (h : Vec Ideal S4096x2048 .bf16) (g : Vec Ideal S4096x11264 .bf16) :
    transpose S8x2048x1408 [1, 0, 2] (shapeCast Cert.Reference2Ideal.S2048x8x1408 (truncf .bf16 (transpose Cert.Reference2Ideal.S2048x11264 [1, 0]
      (Host.dotGeneral (F := Ideal) Cert.Reference2Ideal.dot_S4096x11264_S4096x2048_S11264x2048_0_0_1_1_n_n none (extf .f32 g Cert.Reference2Ideal.Gen.bitsLt_bf16_f32)
        (extf .f32 h Cert.Reference2Ideal.Gen.bitsLt_bf16_f32)) Cert.Reference2Ideal.Gen.transposes_S11264x2048_S2048x11264_1_0) Cert.Reference2Ideal.Gen.bitsLt_bf16_f32)
      Cert.Reference2Ideal.Gen.shapeCasts_S2048x11264_S2048x8x1408) Cert.Reference2Ideal.Gen.transposes_S2048x8x1408_S8x2048x1408_1_0_2 = grad h g := by
  funext i
  obtain ⟨j, k, n, rfl⟩ : ∃ (j : Fin 8) (k : Fin 2048) (n : Fin 1408), i = ix3 j k n := ⟨i 0, i 1, i 2, by blk_ext⟩
  unfold grad
  pointwise []
  exact Finset.sum_congr rfl fun x _ => mul_comm _ _

end Cert.InDw

end
-- ==== Proof.OutDw.lean ====
/-
  The gradient of the outer weight of the feed-forward network: what `ffn_out_dw` leaves and what the reference leaves.
-/
module

public import proofs.«01_k».proof.Proof.Gen.Kernel3Ideal.Value
public import proofs.«01_k».proof.Proof.Gen.Reference3Ideal.Run
public import proofs.«01_k».proof.Proof.Sums
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.OutDw

open Cert.Kernel3Ideal Cert.Kernel3Ideal.Gen

/-- The gradient of the weight: at row `k`, column `n`, the sum over the tokens of the activation's column `k` by the
    gradient's column `n`. -/
def grad (a : (⟨2, ![4096, 5632]⟩ : Shape).Idx → EReal) (g : (⟨2, ![4096, 2048]⟩ : Shape).Idx → EReal) : (⟨3, ![1, 5632, 2048]⟩ : Shape).Idx → EReal :=
  fun i => ∑ t : Fin 4096, a (ix2 t (i 1)) * g (ix2 t (i 2))

/-- A block of the product, at an entry. -/
theorem pay_at (a : Vec Ideal S4096x512 .bf16) (b : Vec Ideal S4096x512 .bf16) (r n : Fin 512) :
    (k0_pay1 a b : (⟨3, ![1, 512, 512]⟩ : Shape).Idx → EReal) (ix3 0 r n) = ∑ t : Fin 4096, a (ix2 t r) * b (ix2 t n) := by
  pointwise [k0_pay1]

/-- The block that a point leaves is its product. -/
theorem out_eq (a b : Vec Ideal S4096x512 .bf16) : out0_2 a b = k0_pay1 a b := by
  have hz3 : (![0, 0, 0] : Fin S1x512x512.rank → Nat) = fun _ => 0 := funext fun a => by fin_cases a <;> rfl
  have hz : (![0, 0] : Fin S4096x512.rank → Nat) = fun _ => 0 := funext fun a => by fin_cases a <;> rfl
  show View.canon [⟨_, _⟩] = _
  rw [View.canon_unit_zero hz3, View.ld_unit_zero hz, View.ld_unit_zero hz]

variable (m : (ℓ : Loc nD τ sig) → Buf (Elt Ideal) ℓ) (c : Dev nD)

/-- The blocks that a point's windows are on. -/
theorem index_t : ∀ t : Fin cfg0.N, win0_0.index t = ![0, t.val / 4] ∧ win0_1.index t = ![0, t.val % 4] ∧ win0_2.index t = ![0, t.val / 4, t.val % 4] :=
  (by decide +kernel : ∀ t : Fin grid0.N, win0_0.index t = ![0, t.val / 4] ∧ win0_1.index t = ![0, t.val % 4] ∧ win0_2.index t = ![0, t.val / 4, t.val % 4])

/-- Every block of the result is some point's. -/
theorem covers : (cfg0.win 2).Covers :=
  (cfg0.win 2).covers_of_indexMap_surj rfl (by decide) fun β => by
    have h0 : (β (0 : Fin 3)).val < 1 := lt_of_lt_of_eq (β (0 : Fin 3)).isLt (by decide : (cfg0.win 2).nblk (0 : Fin 3) = 1)
    have h1 : (β (1 : Fin 3)).val < 11 := lt_of_lt_of_eq (β (1 : Fin 3)).isLt (by decide : (cfg0.win 2).nblk (1 : Fin 3) = 11)
    have h2 : (β (2 : Fin 3)).val < 4 := lt_of_lt_of_eq (β (2 : Fin 3)).isLt (by decide : (cfg0.win 2).nblk (2 : Fin 3) = 4)
    refine ⟨fun a => match a with
      | ⟨0, _⟩ => ⟨0, show 0 < 1 by decide⟩
      | ⟨1, _⟩ => ⟨(β (1 : Fin 3)).val, h1⟩
      | ⟨2, _⟩ => ⟨(β (2 : Fin 3)).val, h2⟩
      | ⟨3, _⟩ => ⟨0, show 0 < 1 by decide⟩, fun a => ?_⟩
    match a with
    | ⟨0, _⟩ => exact (Nat.lt_one_iff.mp h0).symm
    | ⟨1, _⟩ => exact Sums.word_of_lt (lt_trans h1 (by decide))
    | ⟨2, _⟩ => exact Sums.word_of_lt (lt_trans h2 (by decide))

/-- The array that the grid leaves. -/
theorem final : (dats m 0 c).arrAt 2 cfg0.N = grad (m ((c : Thread nD τ).loc main_arg0)) (m ((c : Thread nD τ).loc main_arg1)) := by
  refine (dats m 0 c).arrAt_eq_of_covers 2 _ covers fun t hf y => ?_
  rw [after0_2, out_eq]
  blk_simp
  have hN : t.val < 44 := lt_of_lt_of_eq t.isLt (show cfg0.N = 44 from N_0)
  obtain ⟨z, r, n, rfl⟩ : ∃ (z : Fin 1) (r n : Fin 512), y = ix3 z r n := ⟨y 0, y 1, y 2, by blk_ext⟩
  obtain rfl : z = 0 := Subsingleton.elim _ _
  have e : (win0_2.blk t).view.emb (ix3 0 r n) = ix3 (0 : Fin 1) (⟨512 * (t.val / 4) + r.val, by omega⟩ : Fin 5632) (⟨512 * (t.val % 4) + n.val, by omega⟩ : Fin 2048) := by
    blk_ext [index_t t]
  rw [e]
  refine (pay_at _ _ r n).trans (Finset.sum_congr rfl fun k _ => ?_)
  refine congrArg₂ (· * ·) ?_ ?_
  · refine Eq.trans (b := m ((c : Thread nD τ).loc main_arg0) (ix2 k (⟨512 * (t.val / 4) + r.val, by omega⟩ : Fin 5632))) ?_ rfl
    blk_ext [iblk, V_main_arg0, index_t t]
  · refine Eq.trans (b := m ((c : Thread nD τ).loc main_arg1) (ix2 k (⟨512 * (t.val % 4) + n.val, by omega⟩ : Fin 2048))) ?_ rfl
    blk_ext [iblk, V_main_arg1, index_t t]

/-- The array that the reference leaves. -/
theorem ref_eq (a : Vec Ideal S4096x5632 .bf16) (g : Vec Ideal S4096x2048 .bf16) :
    broadcastInDim Cert.Reference3Ideal.S1x5632x2048 ![1, 2] Cert.Reference3Ideal.Gen.bcast_S5632x2048_S1x5632x2048_1_2 (truncf .bf16 (transpose Cert.Reference3Ideal.S5632x2048 [1, 0]
      (Host.dotGeneral (F := Ideal) Cert.Reference3Ideal.dot_S4096x2048_S4096x5632_S2048x5632_0_0_1_1_n_n none (extf .f32 g Cert.Reference3Ideal.Gen.bitsLt_bf16_f32)
        (extf .f32 a Cert.Reference3Ideal.Gen.bitsLt_bf16_f32)) Cert.Reference3Ideal.Gen.transposes_S2048x5632_S5632x2048_1_0) Cert.Reference3Ideal.Gen.bitsLt_bf16_f32) = grad a g := by
  funext i
  obtain ⟨z, k, n, rfl⟩ : ∃ (z : Fin 1) (k : Fin 5632) (n : Fin 2048), i = ix3 z k n := ⟨i 0, i 1, i 2, by blk_ext⟩
  unfold grad
  pointwise []
  exact Finset.sum_congr rfl fun x _ => mul_comm _ _

end Cert.OutDw

end
-- ==== Proof.OutDx.lean ====
/-
  The gradient of the activation before the outer product of the feed-forward network: what `ffn_out_dx` leaves and what
  the reference leaves.
-/
module

public import proofs.«01_k».proof.Proof.Gen.Kernel4Ideal.Value
public import proofs.«01_k».proof.Proof.Gen.Reference4Ideal.Run
public import proofs.«01_k».proof.Proof.Sums
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.OutDx

open Cert.Kernel4Ideal Cert.Kernel4Ideal.Gen

/-- The gradient of the activation: at token `t`, column `k`, the gradient's row `t` by the weight's row `k`. -/
def grad (w : (⟨2, ![5632, 2048]⟩ : Shape).Idx → EReal) (g : (⟨2, ![4096, 2048]⟩ : Shape).Idx → EReal) : (⟨2, ![4096, 5632]⟩ : Shape).Idx → EReal :=
  fun i => ∑ n : Fin 2048, g (ix2 (i 0) n) * w (ix2 (i 1) n)

/-- A block of the product, at an entry. -/
theorem pay_at (a : Vec Ideal S1024x2048 .bf16) (b : Vec Ideal S1x512x2048 .bf16) (r : Fin 1024) (k : Fin 512) :
    (k0_pay1 a b : (⟨2, ![1024, 512]⟩ : Shape).Idx → EReal) (ix2 r k) = ∑ n : Fin 2048, a (ix2 r n) * b (ix3 0 k n) := by
  pointwise [k0_pay1]

/-- The block that a point leaves is its product. -/
theorem out_eq (a : Vec Ideal S1024x2048 .bf16) (b : Vec Ideal S1x512x2048 .bf16) : out0_2 a b = k0_pay1 a b := by
  have hz2 : (![0, 0] : Fin S1024x512.rank → Nat) = fun _ => 0 := funext fun a => by fin_cases a <;> rfl
  have hz0 : (![0, 0] : Fin S1024x2048.rank → Nat) = fun _ => 0 := funext fun a => by fin_cases a <;> rfl
  have hz1 : (![0, 0, 0] : Fin S1x512x2048.rank → Nat) = fun _ => 0 := funext fun a => by fin_cases a <;> rfl
  show View.canon [⟨_, _⟩] = _
  rw [View.canon_unit_zero hz2, View.ld_unit_zero hz0, View.ld_unit_zero hz1]

variable (m : (ℓ : Loc nD τ sig) → Buf (Elt Ideal) ℓ) (c : Dev nD)

/-- The weight as the grid finds it: one block of all its rows. -/
theorem found_weight : (V m c main_v0 : (⟨S1x5632x2048, .bf16⟩ : BufTy).Contents (Elt Ideal)) =
    broadcastInDim S1x5632x2048 ![1, 2] bcast_S5632x2048_S1x5632x2048_1_2 (m ((c : Thread nD τ).loc main_arg0)) := by
  unfold V
  after_results_simp

/-- An entry of the weight as the grid finds it. -/
theorem found_weight_at (k : Fin 5632) (n : Fin 2048) : V m c main_v0 (ix3 (0 : Fin 1) k n) = m ((c : Thread nD τ).loc main_arg0) (ix2 k n) := by
  refine (congrFun (found_weight m c) _).trans ?_
  pointwise []

/-- The blocks that a point's windows are on. -/
theorem index_t : ∀ t : Fin cfg0.N, win0_0.index t = ![t.val / 11, 0] ∧ win0_1.index t = ![0, t.val % 11, 0] ∧ win0_2.index t = ![t.val / 11, t.val % 11] :=
  (by decide +kernel : ∀ t : Fin grid0.N, win0_0.index t = ![t.val / 11, 0] ∧ win0_1.index t = ![0, t.val % 11, 0] ∧ win0_2.index t = ![t.val / 11, t.val % 11])

/-- Every block of the result is some point's. -/
theorem covers : (cfg0.win 2).Covers :=
  (cfg0.win 2).covers_of_indexMap_surj rfl (by decide) fun β => by
    have h0 : (β (0 : Fin 2)).val < 4 := lt_of_lt_of_eq (β (0 : Fin 2)).isLt (by decide : (cfg0.win 2).nblk (0 : Fin 2) = 4)
    have h1 : (β (1 : Fin 2)).val < 11 := lt_of_lt_of_eq (β (1 : Fin 2)).isLt (by decide : (cfg0.win 2).nblk (1 : Fin 2) = 11)
    refine ⟨fun a => match a with
      | ⟨0, _⟩ => ⟨(β (0 : Fin 2)).val, h0⟩
      | ⟨1, _⟩ => ⟨(β (1 : Fin 2)).val, h1⟩
      | ⟨2, _⟩ => ⟨0, show 0 < 1 by decide⟩
      | ⟨3, _⟩ => ⟨0, show 0 < 1 by decide⟩, fun a => ?_⟩
    match a with
    | ⟨0, _⟩ => exact Sums.word_of_lt (lt_trans h0 (by decide))
    | ⟨1, _⟩ => exact Sums.word_of_lt (lt_trans h1 (by decide))

/-- The array that the grid leaves. -/
theorem final : (dats m 0 c).arrAt 2 cfg0.N = grad (m ((c : Thread nD τ).loc main_arg0)) (m ((c : Thread nD τ).loc main_arg1)) := by
  refine (dats m 0 c).arrAt_eq_of_covers 2 _ covers fun t hf y => ?_
  rw [after0_2, out_eq]
  blk_simp
  have hN : t.val < 44 := lt_of_lt_of_eq t.isLt (show cfg0.N = 44 from N_0)
  obtain ⟨r, k, rfl⟩ : ∃ (r : Fin 1024) (k : Fin 512), y = ix2 r k := ⟨y 0, y 1, by blk_ext⟩
  have e : (win0_2.blk t).view.emb (ix2 r k) = ix2 (⟨1024 * (t.val / 11) + r.val, by omega⟩ : Fin 4096) (⟨512 * (t.val % 11) + k.val, by omega⟩ : Fin 5632) := by
    blk_ext [index_t t]
  rw [e]
  refine (pay_at _ _ r k).trans (Finset.sum_congr rfl fun n _ => ?_)
  refine congrArg₂ (· * ·) ?_ ?_
  · refine Eq.trans (b := m ((c : Thread nD τ).loc main_arg1) (ix2 (⟨1024 * (t.val / 11) + r.val, by omega⟩ : Fin 4096) n)) ?_ rfl
    blk_ext [iblk, V_main_arg1, index_t t]
  · refine Eq.trans (b := V m c main_v0 (ix3 (0 : Fin 1) (⟨512 * (t.val % 11) + k.val, by omega⟩ : Fin 5632) n)) ?_ (found_weight_at m c _ _)
    blk_ext [iblk, index_t t]

/-- The array that the reference leaves. -/
theorem ref_eq (w : Vec Ideal S5632x2048 .bf16) (g : Vec Ideal S4096x2048 .bf16) :
    Host.dotGeneral (F := Ideal) Cert.Reference4Ideal.dot_S4096x2048_S5632x2048_S4096x5632_1_1_0_0_n_n none (extf .f32 g Cert.Reference4Ideal.Gen.bitsLt_bf16_f32)
      (extf .f32 w Cert.Reference4Ideal.Gen.bitsLt_bf16_f32) = grad w g := by
  funext i
  obtain ⟨t, k, rfl⟩ : ∃ (t : Fin 4096) (k : Fin 5632), i = ix2 t k := ⟨i 0, i 1, by blk_ext⟩
  unfold grad
  pointwise []

end Cert.OutDx

end
-- ==== Proof.InFwd.lean ====
/-
  The inner product of the feed-forward network, forward: what `ffn_in` leaves and what the reference leaves.
-/
module

public import proofs.«01_k».proof.Proof.Gen.Kernel5Ideal.Value
public import proofs.«01_k».proof.Proof.Gen.Reference5Ideal.Run
public import proofs.«01_k».proof.Proof.Sums
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.InFwd

open Cert.Kernel5Ideal Cert.Kernel5Ideal.Gen

/-- The product: at token `t`, column `n`, the input's row `t` by the weight's column `n`. -/
def product (h : (⟨2, ![4096, 2048]⟩ : Shape).Idx → EReal) (w : (⟨2, ![2048, 11264]⟩ : Shape).Idx → EReal) : (⟨2, ![4096, 11264]⟩ : Shape).Idx → EReal :=
  fun i => ∑ k : Fin 2048, h (ix2 (i 0) k) * w (ix2 k (i 1))

/-- A block of the product, at an entry. -/
theorem pay_at (a : Vec Ideal S1024x2048 .bf16) (b : Vec Ideal S1x2048x1408 .bf16) (r : Fin 1024) (n : Fin 1408) :
    (k0_pay1 a b : (⟨2, ![1024, 1408]⟩ : Shape).Idx → EReal) (ix2 r n) = ∑ k : Fin 2048, a (ix2 r k) * b (ix3 0 k n) := by
  pointwise [k0_pay1]

/-- The block that a point leaves is its product. -/
theorem out_eq (a : Vec Ideal S1024x2048 .bf16) (b : Vec Ideal S1x2048x1408 .bf16) : out0_2 a b = k0_pay1 a b := by
  have hz2 : (![0, 0] : Fin S1024x1408.rank → Nat) = fun _ => 0 := funext fun a => by fin_cases a <;> rfl
  have hz0 : (![0, 0] : Fin S1024x2048.rank → Nat) = fun _ => 0 := funext fun a => by fin_cases a <;> rfl
  have hz1 : (![0, 0, 0] : Fin S1x2048x1408.rank → Nat) = fun _ => 0 := funext fun a => by fin_cases a <;> rfl
  show View.canon [⟨_, _⟩] = _
  rw [View.canon_unit_zero hz2, View.ld_unit_zero hz0, View.ld_unit_zero hz1]

variable (m : (ℓ : Loc nD τ sig) → Buf (Elt Ideal) ℓ) (c : Dev nD)

/-- The weight as the grid finds it: the eight devices' columns. -/
theorem found_weight : (V m c main_v1 : (⟨S8x2048x1408, .bf16⟩ : BufTy).Contents (Elt Ideal)) =
    transpose S8x2048x1408 [1, 0, 2] (shapeCast S2048x8x1408 (m ((c : Thread nD τ).loc main_arg1) : (⟨S2048x11264, .bf16⟩ : BufTy).Contents (Elt Ideal))
      shapeCasts_S2048x11264_S2048x8x1408) transposes_S2048x8x1408_S8x2048x1408_1_0_2 := by
  unfold V
  after_results_simp
  rfl

/-- An entry of the weight as the grid finds it. -/
theorem found_weight_at (j : Fin 8) (k : Fin 2048) (n : Fin 1408) :
    V m c main_v1 (ix3 j k n) = m ((c : Thread nD τ).loc main_arg1) (ix2 k (⟨j.val * 1408 + n.val, by omega⟩ : Fin 11264)) := by
  refine (congrFun (found_weight m c) _).trans ?_
  pointwise []

/-- The blocks that a point's windows are on. -/
theorem index_t : ∀ t : Fin cfg0.N, win0_0.index t = ![t.val / 8, 0] ∧ win0_1.index t = ![t.val % 8, 0, 0] ∧ win0_2.index t = ![t.val / 8, t.val % 8] :=
  (by decide +kernel : ∀ t : Fin grid0.N, win0_0.index t = ![t.val / 8, 0] ∧ win0_1.index t = ![t.val % 8, 0, 0] ∧ win0_2.index t = ![t.val / 8, t.val % 8])

/-- Every block of the result is some point's. -/
theorem covers : (cfg0.win 2).Covers :=
  (cfg0.win 2).covers_of_indexMap_surj rfl (by decide) fun β => by
    have h0 : (β (0 : Fin 2)).val < 4 := lt_of_lt_of_eq (β (0 : Fin 2)).isLt (by decide : (cfg0.win 2).nblk (0 : Fin 2) = 4)
    have h1 : (β (1 : Fin 2)).val < 8 := lt_of_lt_of_eq (β (1 : Fin 2)).isLt (by decide : (cfg0.win 2).nblk (1 : Fin 2) = 8)
    refine ⟨fun a => match a with
      | ⟨0, _⟩ => ⟨(β (0 : Fin 2)).val, h0⟩
      | ⟨1, _⟩ => ⟨(β (1 : Fin 2)).val, h1⟩
      | ⟨2, _⟩ => ⟨0, show 0 < 1 by decide⟩
      | ⟨3, _⟩ => ⟨0, show 0 < 1 by decide⟩, fun a => ?_⟩
    match a with
    | ⟨0, _⟩ => exact Sums.word_of_lt (lt_trans h0 (by decide))
    | ⟨1, _⟩ => exact Sums.word_of_lt' (lt_trans h1 (by decide))

/-- The array that the grid leaves. -/
theorem final : (dats m 0 c).arrAt 2 cfg0.N = product (m ((c : Thread nD τ).loc main_arg0)) (m ((c : Thread nD τ).loc main_arg1)) := by
  refine (dats m 0 c).arrAt_eq_of_covers 2 _ covers fun t hf y => ?_
  rw [after0_2, out_eq]
  blk_simp
  have hN : t.val < 32 := lt_of_lt_of_eq t.isLt (show cfg0.N = 32 from N_0)
  obtain ⟨r, n, rfl⟩ : ∃ (r : Fin 1024) (n : Fin 1408), y = ix2 r n := ⟨y 0, y 1, by blk_ext⟩
  have e : (win0_2.blk t).view.emb (ix2 r n) = ix2 (⟨1024 * (t.val / 8) + r.val, by omega⟩ : Fin 4096) (⟨t.val % 8 * 1408 + n.val, by omega⟩ : Fin 11264) := by
    blk_ext [index_t t]
  rw [e]
  refine (pay_at _ _ r n).trans (Finset.sum_congr rfl fun k _ => ?_)
  refine congrArg₂ (· * ·) ?_ ?_
  · refine Eq.trans (b := m ((c : Thread nD τ).loc main_arg0) (ix2 (⟨1024 * (t.val / 8) + r.val, by omega⟩ : Fin 4096) k)) ?_ rfl
    blk_ext [iblk, V_main_arg0, index_t t]
  · refine Eq.trans (b := V m c main_v1 (ix3 (⟨t.val % 8, by omega⟩ : Fin 8) k n)) ?_ (found_weight_at m c _ _ _)
    blk_ext [iblk, index_t t]

/-- The array that the reference leaves. -/
theorem ref_eq (h : Vec Ideal S4096x2048 .bf16) (w : Vec Ideal S2048x11264 .bf16) :
    Host.dotGeneral (F := Ideal) Cert.Reference5Ideal.dot_S4096x2048_S2048x11264_S4096x11264_1_0_0_1_n_n none (extf .f32 h Cert.Reference5Ideal.Gen.bitsLt_bf16_f32)
      (extf .f32 w Cert.Reference5Ideal.Gen.bitsLt_bf16_f32) = product h w := by
  funext i
  obtain ⟨t, n, rfl⟩ : ∃ (t : Fin 4096) (n : Fin 11264), i = ix2 t n := ⟨i 0, i 1, by blk_ext⟩
  unfold product
  pointwise []

end Cert.InFwd

end
-- ==== Proof.InDx.lean ====
/-
  The gradient of the input of the inner product of the feed-forward network: what `ffn_in_dx` leaves and what the
  reference leaves.
-/
module

public import proofs.«01_k».proof.Proof.Gen.Kernel6Ideal.Value
public import proofs.«01_k».proof.Proof.Gen.Reference6Ideal.Run
public import proofs.«01_k».proof.Proof.Sums
public import Idealize.ShloMosaic.Lib.Tactic
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.InDx

open Cert.Kernel6Ideal Cert.Kernel6Ideal.Gen

/-- The gradient of the input: at token `t`, column `k`, the gradient's row `t` by the weight's row `k`. -/
def grad (w : (⟨2, ![2048, 11264]⟩ : Shape).Idx → EReal) (g : (⟨2, ![4096, 11264]⟩ : Shape).Idx → EReal) : (⟨2, ![4096, 2048]⟩ : Shape).Idx → EReal :=
  fun i => ∑ n : Fin 11264, g (ix2 (i 0) n) * w (ix2 (i 1) n)

/-- The accumulator's start is zero. -/
theorem start_at (r : Fin 1024) (k : Fin 512) : (k0_pay2 (F := Ideal) : (⟨2, ![1024, 512]⟩ : Shape).Idx → EReal) (ix2 r k) = 0 := by
  pointwise [k0_pay2]

/-- What one step leaves: the accumulator with the products of four blocks of columns added. -/
def step (z : Vec Ideal S1024x512 .f32) (x : Vec Ideal S1024x5632 .bf16) (y : Vec Ideal S4x512x1408 .bf16) : Vec Ideal S1024x512 .f32 :=
  k0_pay1 z
    (k0_pay3 (View.ld x (Rect.unit (s := S1024x5632) ![0, 0] S1024x1408.size inb_S1024x5632_S1024x1408_0_0)) (View.ld y (Rect.unit (s := S4x512x1408) ![0, 0, 0] S1x512x1408.size inb_S4x512x1408_S1x512x1408_0_0_0))
      (View.ld x (Rect.unit (s := S1024x5632) ![0, 1408] S1024x1408.size inb_S1024x5632_S1024x1408_0_1408)) (View.ld y (Rect.unit (s := S4x512x1408) ![1, 0, 0] S1x512x1408.size inb_S4x512x1408_S1x512x1408_1_0_0))
      (View.ld x (Rect.unit (s := S1024x5632) ![0, 2816] S1024x1408.size inb_S1024x5632_S1024x1408_0_2816)) (View.ld y (Rect.unit (s := S4x512x1408) ![2, 0, 0] S1x512x1408.size inb_S4x512x1408_S1x512x1408_2_0_0)))
    (View.ld x (Rect.unit (s := S1024x5632) ![0, 4224] S1024x1408.size inb_S1024x5632_S1024x1408_0_4224)) (View.ld y (Rect.unit (s := S4x512x1408) ![3, 0, 0] S1x512x1408.size inb_S4x512x1408_S1x512x1408_3_0_0))

/-- One step adds the products of four blocks of columns. -/
theorem step_at (z : Vec Ideal S1024x512 .f32) (x : Vec Ideal S1024x5632 .bf16) (y : Vec Ideal S4x512x1408 .bf16) (r : Fin 1024) (k : Fin 512) :
    (step z x y : (⟨2, ![1024, 512]⟩ : Shape).Idx → EReal) (ix2 r k) =
      z (ix2 r k) + ∑ q : Fin 4, ∑ n : Fin 1408, x (ix2 r (⟨q.val * 1408 + n.val, by omega⟩ : Fin 5632)) * y (ix3 q k n) := by
  rw [Fin.sum_univ_four]
  unfold step
  pointwise [k0_pay1, k0_pay3]

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a block of the result leaves its product over the start. -/
theorem first_eq (c : Dev nD) (i : grid0.Coords) (a4 : Memref sig .tc .vmem S1024x5632 .bf16) (h4 : a4.IsWhole) (a5 : Memref sig .tc .vmem S4x512x1408 .bf16) (h5 : a5.IsWhole)
    (a6 : Memref sig .tc .vmem S1024x512 .f32) (h6 : a6.IsWhole) (a7 : Memref sig .tc .vmem S1024x512 .f32) (h7 : a7.IsWhole) (hc0 : cond0_0 i) (hc1 : ¬cond0_1 i)
    (x0 : Vec Ideal S1024x5632 .bf16) (x1 : Vec Ideal S4x512x1408 .bf16) :
    sout0_A_0 c i a4 h4 a5 h5 a6 h6 a7 h7 hc0 hc1 x0 x1 = step (k0_pay2 (F := Ideal)) x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S1024x512) hz2, View.readCov_unit_zero (S := S1024x512) _ hz2]
  simp only [View.readAt_eq_ld, h4.read_unread, h5.read_unread]
  rfl

/-- The second step leaves, in the result's block, its product over what the first left. -/
theorem second_eq (c : Dev nD) (i : grid0.Coords) (a4 : Memref sig .tc .vmem S1024x5632 .bf16) (h4 : a4.IsWhole) (a5 : Memref sig .tc .vmem S4x512x1408 .bf16) (h5 : a5.IsWhole)
    (a6 : Memref sig .tc .vmem S1024x512 .f32) (h6 : a6.IsWhole) (a7 : Memref sig .tc .vmem S1024x512 .f32) (h7 : a7.IsWhole) (hc0 : ¬cond0_0 i) (hc1 : cond0_1 i)
    (x0 : Vec Ideal S1024x5632 .bf16) (x1 : Vec Ideal S4x512x1408 .bf16) (z : Vec Ideal S1024x512 .f32) :
    out0_B_2 c i a4 h4 a5 h5 a6 h6 a7 h7 hc0 hc1 x0 x1 z = step z x0 x1 := by
  unfold out0_B_2
  rw [View.read_writes_eq_canon _ _ _ (cover0_B_2 c i a4 h4 a5 h5 a6 h6 a7 h7 hc0 hc1 x0 x1 z)]
  unfold kernelRun0_B
  dsimp only
  sl_unfold_words
  rw [View.canon_unit_zero (S := S1024x512) hz2, View.readCov_unit_zero (S := S1024x512) _ hz2]
  simp only [View.readAt_eq_ld, h4.read_unread, h5.read_unread, h7.read_unread, View.ld_unit_zero (S := S1024x512) hz2]
  rfl

variable (m : (ℓ : Loc nD τ sig) → Buf (Elt Ideal) ℓ) (c : Dev nD)

/-- The weight. -/
abbrev argW : (⟨2, ![2048, 11264]⟩ : Shape).Idx → EReal := m ((c : Thread nD τ).loc main_arg0)
/-- The gradient of the product. -/
abbrev argG : (⟨2, ![4096, 11264]⟩ : Shape).Idx → EReal := m ((c : Thread nD τ).loc main_arg1)

/-- The weight as the grid finds it: the eight devices' columns. -/
theorem found_weight : (V m c main_v1 : (⟨S8x2048x1408, .bf16⟩ : BufTy).Contents (Elt Ideal)) =
    transpose S8x2048x1408 [1, 0, 2] (shapeCast S2048x8x1408 (m ((c : Thread nD τ).loc main_arg0) : (⟨S2048x11264, .bf16⟩ : BufTy).Contents (Elt Ideal))
      shapeCasts_S2048x11264_S2048x8x1408) transposes_S2048x8x1408_S8x2048x1408_1_0_2 := by
  unfold V
  after_results_simp
  rfl

/-- An entry of the weight as the grid finds it. -/
theorem found_weight_at (j : Fin 8) (k : Fin 2048) (n : Fin 1408) :
    V m c main_v1 (ix3 j k n) = argW m c (ix2 k (⟨j.val * 1408 + n.val, by omega⟩ : Fin 11264)) := by
  refine (congrFun (found_weight m c) _).trans ?_
  pointwise []

/-- The blocks that a point's windows are on. -/
theorem index_t : ∀ t : Fin cfg0.N, win0_0.index t = ![t.val / 8, t.val % 2] ∧ win0_1.index t = ![t.val % 2, t.val / 2 % 4, 0] ∧ win0_2.index t = ![t.val / 8, t.val / 2 % 4] :=
  (by decide +kernel : ∀ t : Fin grid0.N, win0_0.index t = ![t.val / 8, t.val % 2] ∧ win0_1.index t = ![t.val % 2, t.val / 2 % 4, 0] ∧ win0_2.index t = ![t.val / 8, t.val / 2 % 4])

/-- A point's block of the gradient, at an entry. -/
theorem block_g (t : Fin cfg0.N) (r : Fin 1024) (q : Fin 4) (n : Fin 1408) (hr : 1024 * (t.val / 8) + r.val < 4096) (hn : (t.val % 2 * 4 + q.val) * 1408 + n.val < 11264) :
    iblk m c 0 t (ix2 r (⟨q.val * 1408 + n.val, by omega⟩ : Fin 5632)) =
      argG m c (ix2 (⟨1024 * (t.val / 8) + r.val, hr⟩ : Fin 4096) (⟨(t.val % 2 * 4 + q.val) * 1408 + n.val, hn⟩ : Fin 11264)) := by
  blk_ext [iblk, V_main_arg1, index_t t]

/-- A point's block of the weight, at an entry. -/
theorem block_w (t : Fin cfg0.N) (q : Fin 4) (k : Fin 512) (n : Fin 1408) (hk : 512 * (t.val / 2 % 4) + k.val < 2048) (hn : (t.val % 2 * 4 + q.val) * 1408 + n.val < 11264) :
    iblk m c 1 t (ix3 q k n) = argW m c (ix2 (⟨512 * (t.val / 2 % 4) + k.val, hk⟩ : Fin 2048) (⟨(t.val % 2 * 4 + q.val) * 1408 + n.val, hn⟩ : Fin 11264)) := by
  refine Eq.trans (b := V m c main_v1 (ix3 (⟨t.val % 2 * 4 + q.val, by omega⟩ : Fin 8) (⟨512 * (t.val / 2 % 4) + k.val, hk⟩ : Fin 2048) n)) ?_ (found_weight_at m c _ _ _)
  blk_ext [iblk, index_t t]

/-- The terms of one step's four blocks of columns, at an entry of the gradient. -/
def part (j : Fin 2) (t : Fin 4096) (k : Fin 2048) : EReal :=
  ∑ q : Fin 4, ∑ n : Fin 1408, argG m c (ix2 t (⟨(j.val * 4 + q.val) * 1408 + n.val, by omega⟩ : Fin 11264)) * argW m c (ix2 k (⟨(j.val * 4 + q.val) * 1408 + n.val, by omega⟩ : Fin 11264))

/-- What a point adds, at an entry. -/
theorem point_at (t : Fin cfg0.N) (j : Fin 2) (h : t.val % 2 = j.val) (z : Vec Ideal S1024x512 .f32) (r : Fin 1024) (k : Fin 512)
    (hr : 1024 * (t.val / 8) + r.val < 4096) (hk : 512 * (t.val / 2 % 4) + k.val < 2048) :
    (step z (iblk m c 0 t) (iblk m c 1 t) : (⟨2, ![1024, 512]⟩ : Shape).Idx → EReal) (ix2 r k) =
      z (ix2 r k) + part m c j ⟨1024 * (t.val / 8) + r.val, hr⟩ ⟨512 * (t.val / 2 % 4) + k.val, hk⟩ := by
  rw [step_at]
  refine congrArg (z (ix2 r k) + ·) (Finset.sum_congr rfl fun q _ => Finset.sum_congr rfl fun n _ => ?_)
  refine (congrArg₂ (fun u v : EReal => u * v) (block_g m c t r q n hr (by omega)) (block_w m c t q k n hk (by omega))).trans ?_
  simp only [h]

/-- What a block's first point leaves in the accumulator, at an entry. -/
theorem first_at (s : Fin cfg0.N) (h : s.val % 2 = 0) (r : Fin 1024) (k : Fin 512) (hr : 1024 * (s.val / 8) + r.val < 4096) (hk : 512 * (s.val / 2 % 4) + k.val < 2048) :
    (outsAt0 m c s.val s.isLt).2 (ix2 r k) = part m c 0 ⟨1024 * (s.val / 8) + r.val, hr⟩ ⟨512 * (s.val / 2 % 4) + k.val, hk⟩ := by
  rw [outsAt0_A m c s h (by omega)]
  dsimp only
  rw [first_eq, point_at m c s 0 h _ r k hr hk, start_at, zero_add]

/-- The two steps' terms are those of the whole row. -/
theorem parts (t : Fin 4096) (k : Fin 2048) : part m c 0 t k + part m c 1 t k = ∑ n : Fin 11264, argG m c (ix2 t n) * argW m c (ix2 k n) := by
  rw [← Sums.sum_fin_blocks (J := 8) (n := 1408) rfl, ← Sums.sum_fin_blocks (J := 2) (n := 4) rfl, Fin.sum_univ_two]
  rfl

/-- The array that the grid leaves. -/
theorem final : (dats m 0 c).arrAt 2 cfg0.N = grad (argW m c) (argG m c) := by
  refine (dats m 0 c).arrAt_eq_of_cover 2 _ (fun t hf => ?_) fun i => (Value.covered_iff2 i).2 ⟨Nat.zero_le _, (i 0).isLt, Nat.zero_le _, (i 1).isLt⟩
  have h1 : t.val % 2 = 1 := (flush0_2 t).mp hf
  have hN : t.val < 32 := lt_of_lt_of_eq t.isLt (show cfg0.N = 32 from N_0)
  rw [Value.flushed2_B m c t (by omega) h1, second_eq]
  funext y
  obtain ⟨r, k, rfl⟩ : ∃ (r : Fin 1024) (k : Fin 512), y = ix2 r k := ⟨y 0, y 1, by blk_ext⟩
  have e : (win0_2.blk t).view.emb (ix2 r k) = ix2 (⟨1024 * (t.val / 8) + r.val, by omega⟩ : Fin 4096) (⟨512 * (t.val / 2 % 4) + k.val, by omega⟩ : Fin 2048) := by
    blk_ext [index_t t]
  blk_simp
  rw [e]
  refine (point_at m c t 1 h1 _ r k (by omega) (by omega)).trans ?_
  have hs : (t.val - 1) / 8 = t.val / 8 ∧ (t.val - 1) / 2 % 4 = t.val / 2 % 4 := by omega
  have hfirst := first_at m c ⟨t.val - 1, lt_of_le_of_lt (Nat.sub_le _ _) t.isLt⟩ (by dsimp only; omega) r k (by dsimp only; omega) (by dsimp only; omega)
  simp only [hs] at hfirst
  exact (congrArg (· + _) hfirst).trans (parts m c _ _)

/-- The array that the reference leaves. -/
theorem ref_eq (w : Vec Ideal S2048x11264 .bf16) (g : Vec Ideal S4096x11264 .bf16) :
    Host.dotGeneral (F := Ideal) Cert.Reference6Ideal.dot_S4096x11264_S2048x11264_S4096x2048_1_1_0_0_n_n none (extf .f32 g Cert.Reference6Ideal.Gen.bitsLt_bf16_f32)
      (extf .f32 w Cert.Reference6Ideal.Gen.bitsLt_bf16_f32) = grad w g := by
  funext i
  obtain ⟨t, k, rfl⟩ : ∃ (t : Fin 4096) (k : Fin 2048), i = ix2 t k := ⟨i 0, i 1, by blk_ext⟩
  unfold grad
  pointwise []

end Cert.InDx

end
-- ==== Proof.OutFwd.lean ====
/-
  The outer product of the feed-forward network, forward: what `ffn_out` leaves and what the reference leaves.
-/
module

public import proofs.«01_k».proof.Proof.Gen.Kernel7Ideal.Value
public import proofs.«01_k».proof.Proof.Gen.Reference7Ideal.Run
public import proofs.«01_k».proof.Proof.Sums
public import Idealize.ShloMosaic.Lib.Tactic
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.OutFwd

open Cert.Kernel7Ideal Cert.Kernel7Ideal.Gen

/-- The product: at token `t`, column `n`, the activation's row `t` by the weight's column `n`. -/
def product (a : (⟨2, ![4096, 5632]⟩ : Shape).Idx → EReal) (w : (⟨2, ![5632, 2048]⟩ : Shape).Idx → EReal) : (⟨2, ![4096, 2048]⟩ : Shape).Idx → EReal :=
  fun i => ∑ k : Fin 5632, a (ix2 (i 0) k) * w (ix2 k (i 1))

/-- The accumulator's start is zero. -/
theorem start_at (r : Fin 1024) (n : Fin 512) : (k0_pay1 (F := Ideal) : (⟨2, ![1024, 512]⟩ : Shape).Idx → EReal) (ix2 r n) = 0 := by
  pointwise [k0_pay1]

/-- One step adds a block of the product. -/
theorem step_at (z : Vec Ideal S1024x512 .f32) (a : Vec Ideal S1024x2816 .bf16) (b : Vec Ideal S1x2816x512 .bf16) (r : Fin 1024) (n : Fin 512) :
    (k0_pay2 z a b : (⟨2, ![1024, 512]⟩ : Shape).Idx → EReal) (ix2 r n) = z (ix2 r n) + ∑ k : Fin 2816, a (ix2 r k) * b (ix3 0 k n) := by
  pointwise [k0_pay2]

theorem hz2 : (![0, 0] : Fin 2 → Nat) = fun _ => 0 := funext fun a => by fin_cases a <;> rfl
theorem hz3 : (![0, 0, 0] : Fin 3 → Nat) = fun _ => 0 := funext fun a => by fin_cases a <;> rfl

/-- The first step of a block of the result leaves its product over the start. -/
theorem first_eq (c : Dev nD) (i : grid0.Coords) (a4 : Memref sig .tc .vmem S1024x2816 .bf16) (h4 : a4.IsWhole) (a5 : Memref sig .tc .vmem S1x2816x512 .bf16) (h5 : a5.IsWhole)
    (a6 : Memref sig .tc .vmem S1024x512 .f32) (h6 : a6.IsWhole) (a7 : Memref sig .tc .vmem S1024x512 .f32) (h7 : a7.IsWhole) (hc0 : cond0_0 i) (hc1 : ¬cond0_1 i)
    (x0 : Vec Ideal S1024x2816 .bf16) (x1 : Vec Ideal S1x2816x512 .bf16) :
    sout0_A_0 c i a4 h4 a5 h5 a6 h6 a7 h7 hc0 hc1 x0 x1 = k0_pay2 k0_pay1 x0 x1 := by
  unfold sout0_A_0
  rw [View.read_writes_eq_canon _ _ _ (scover0_A_0 c i a4 h4 a5 h5 a6 h6 a7 h7 hc0 hc1 x0 x1)]
  unfold kernelRun0_A
  dsimp only
  sl_unfold_words
  rw [View.canon_cons_unit_zero (S := S1024x512) hz2, View.readCov_unit_zero (S := S1024x512) _ hz2]
  simp only [View.readAt_eq_ld, h4.read_unread, h5.read_unread, View.ld_unit_zero (S := S1024x2816) hz2, View.ld_unit_zero (S := S1x2816x512) hz3]

/-- The second step leaves, in the result's block, its product over what the first left. -/
theorem second_eq (c : Dev nD) (i : grid0.Coords) (a4 : Memref sig .tc .vmem S1024x2816 .bf16) (h4 : a4.IsWhole) (a5 : Memref sig .tc .vmem S1x2816x512 .bf16) (h5 : a5.IsWhole)
    (a6 : Memref sig .tc .vmem S1024x512 .f32) (h6 : a6.IsWhole) (a7 : Memref sig .tc .vmem S1024x512 .f32) (h7 : a7.IsWhole) (hc0 : ¬cond0_0 i) (hc1 : cond0_1 i)
    (x0 : Vec Ideal S1024x2816 .bf16) (x1 : Vec Ideal S1x2816x512 .bf16) (z : Vec Ideal S1024x512 .f32) :
    out0_B_2 c i a4 h4 a5 h5 a6 h6 a7 h7 hc0 hc1 x0 x1 z = k0_pay2 z x0 x1 := by
  unfold out0_B_2
  rw [View.read_writes_eq_canon _ _ _ (cover0_B_2 c i a4 h4 a5 h5 a6 h6 a7 h7 hc0 hc1 x0 x1 z)]
  unfold kernelRun0_B
  dsimp only
  sl_unfold_words
  rw [View.canon_unit_zero (S := S1024x512) hz2, View.readCov_unit_zero (S := S1024x512) _ hz2]
  simp only [View.readAt_eq_ld, h4.read_unread, h5.read_unread, h7.read_unread, View.ld_unit_zero (S := S1024x512) hz2, View.ld_unit_zero (S := S1024x2816) hz2, View.ld_unit_zero (S := S1x2816x512) hz3]

variable (m : (ℓ : Loc nD τ sig) → Buf (Elt Ideal) ℓ) (c : Dev nD)

/-- The activation. -/
abbrev argA : (⟨2, ![4096, 5632]⟩ : Shape).Idx → EReal := m ((c : Thread nD τ).loc main_arg0)
/-- The weight. -/
abbrev argW : (⟨2, ![5632, 2048]⟩ : Shape).Idx → EReal := m ((c : Thread nD τ).loc main_arg1)

/-- The weight as the grid finds it: one block of all its rows. -/
theorem found_weight : (V m c main_v0 : (⟨S1x5632x2048, .bf16⟩ : BufTy).Contents (Elt Ideal)) =
    broadcastInDim S1x5632x2048 ![1, 2] bcast_S5632x2048_S1x5632x2048_1_2 (m ((c : Thread nD τ).loc main_arg1)) := by
  unfold V
  after_results_simp

/-- An entry of the weight as the grid finds it. -/
theorem found_weight_at (k : Fin 5632) (n : Fin 2048) : V m c main_v0 (ix3 (0 : Fin 1) k n) = m ((c : Thread nD τ).loc main_arg1) (ix2 k n) := by
  refine (congrFun (found_weight m c) _).trans ?_
  pointwise []

/-- The blocks that a point's windows are on. -/
theorem index_t : ∀ t : Fin cfg0.N, win0_0.index t = ![t.val / 8, t.val % 2] ∧ win0_1.index t = ![0, t.val % 2, t.val / 2 % 4] ∧ win0_2.index t = ![t.val / 8, t.val / 2 % 4] :=
  (by decide +kernel : ∀ t : Fin grid0.N, win0_0.index t = ![t.val / 8, t.val % 2] ∧ win0_1.index t = ![0, t.val % 2, t.val / 2 % 4] ∧ win0_2.index t = ![t.val / 8, t.val / 2 % 4])

/-- A point's block of the activation, at an entry. -/
theorem block_a (t : Fin cfg0.N) (r : Fin 1024) (k : Fin 2816) (hr : 1024 * (t.val / 8) + r.val < 4096) (hk : t.val % 2 * 2816 + k.val < 5632) :
    iblk m c 0 t (ix2 r k) = argA m c (ix2 (⟨1024 * (t.val / 8) + r.val, hr⟩ : Fin 4096) (⟨t.val % 2 * 2816 + k.val, hk⟩ : Fin 5632)) := by
  blk_ext [iblk, V_main_arg0, index_t t]

/-- A point's block of the weight, at an entry. -/
theorem block_w (t : Fin cfg0.N) (k : Fin 2816) (n : Fin 512) (hk : t.val % 2 * 2816 + k.val < 5632) (hn : 512 * (t.val / 2 % 4) + n.val < 2048) :
    iblk m c 1 t (ix3 0 k n) = argW m c (ix2 (⟨t.val % 2 * 2816 + k.val, hk⟩ : Fin 5632) (⟨512 * (t.val / 2 % 4) + n.val, hn⟩ : Fin 2048)) := by
  refine Eq.trans (b := V m c main_v0 (ix3 (0 : Fin 1) (⟨t.val % 2 * 2816 + k.val, hk⟩ : Fin 5632) (⟨512 * (t.val / 2 % 4) + n.val, hn⟩ : Fin 2048))) ?_ (found_weight_at m c _ _)
  blk_ext [iblk, index_t t]

/-- What a block's first point leaves in the accumulator, at an entry. -/
theorem first_at (s : Fin cfg0.N) (h : s.val % 2 = 0) (r : Fin 1024) (n : Fin 512) (hr : 1024 * (s.val / 8) + r.val < 4096) (hn : 512 * (s.val / 2 % 4) + n.val < 2048) :
    (outsAt0 m c s.val s.isLt).2 (ix2 r n) = ∑ k : Fin 2816, argA m c (ix2 (⟨1024 * (s.val / 8) + r.val, hr⟩ : Fin 4096) (⟨0 * 2816 + k.val, by omega⟩ : Fin 5632))
      * argW m c (ix2 (⟨0 * 2816 + k.val, by omega⟩ : Fin 5632) (⟨512 * (s.val / 2 % 4) + n.val, hn⟩ : Fin 2048)) := by
  rw [outsAt0_A m c s h (by omega)]
  dsimp only
  rw [first_eq, step_at, start_at, zero_add]
  refine Finset.sum_congr rfl fun k _ => ?_
  rw [block_a m c s r k hr (by omega), block_w m c s k n (by omega) hn]
  simp only [h]

/-- The array that the grid leaves. -/
theorem final : (dats m 0 c).arrAt 2 cfg0.N = product (argA m c) (argW m c) := by
  refine (dats m 0 c).arrAt_eq_of_cover 2 _ (fun t hf => ?_) fun i => (Value.covered_iff2 i).2 ⟨Nat.zero_le _, (i 0).isLt, Nat.zero_le _, (i 1).isLt⟩
  have h1 : t.val % 2 = 1 := (flush0_2 t).mp hf
  have hN : t.val < 32 := lt_of_lt_of_eq t.isLt (show cfg0.N = 32 from N_0)
  rw [Value.flushed2_B m c t (by omega) h1, second_eq]
  funext y
  obtain ⟨r, n, rfl⟩ : ∃ (r : Fin 1024) (n : Fin 512), y = ix2 r n := ⟨y 0, y 1, by blk_ext⟩
  have e : (win0_2.blk t).view.emb (ix2 r n) = ix2 (⟨1024 * (t.val / 8) + r.val, by omega⟩ : Fin 4096) (⟨512 * (t.val / 2 % 4) + n.val, by omega⟩ : Fin 2048) := by
    blk_ext [index_t t]
  blk_simp
  rw [e]
  refine (step_at _ _ _ r n).trans ?_
  have hs : (t.val - 1) / 8 = t.val / 8 ∧ (t.val - 1) / 2 % 4 = t.val / 2 % 4 := by omega
  have hfirst := first_at m c ⟨t.val - 1, lt_of_le_of_lt (Nat.sub_le _ _) t.isLt⟩ (by dsimp only; omega) r n (by dsimp only; omega) (by dsimp only; omega)
  simp only [hs] at hfirst
  refine (congrArg₂ (· + ·) hfirst (Finset.sum_congr rfl fun k _ => congrArg₂ (fun u v : EReal => u * v) (block_a m c t r k (by omega) (by omega)) (block_w m c t k n (by omega) (by omega)))).trans ?_
  unfold product
  rw [← Sums.sum_fin_blocks (J := 2) (n := 2816) rfl, Fin.sum_univ_two]
  simp only [h1]
  rfl

/-- The array that the reference leaves. -/
theorem ref_eq (a : Vec Ideal S4096x5632 .bf16) (w : Vec Ideal S5632x2048 .bf16) :
    Host.dotGeneral (F := Ideal) Cert.Reference7Ideal.dot_S4096x5632_S5632x2048_S4096x2048_1_0_0_1_n_n none (extf .f32 a Cert.Reference7Ideal.Gen.bitsLt_bf16_f32)
      (extf .f32 w Cert.Reference7Ideal.Gen.bitsLt_bf16_f32) = product a w := by
  funext i
  obtain ⟨t, n, rfl⟩ : ∃ (t : Fin 4096) (n : Fin 2048), i = ix2 t n := ⟨i 0, i 1, by blk_ext⟩
  unfold product
  pointwise []

end Cert.OutFwd

end
-- ==== Proof.Products.lean ====
/-
  The six products of the feed-forward network: the frame of every reference, and that each call leaves what its
  reference leaves.
-/
module

public import proofs.«01_k».proof.Defs
public import proofs.«01_k».proof.Proof.InDw
public import proofs.«01_k».proof.Proof.OutDw
public import proofs.«01_k».proof.Proof.OutDx
public import proofs.«01_k».proof.Proof.InFwd
public import proofs.«01_k».proof.Proof.InDx
public import proofs.«01_k».proof.Proof.OutFwd
public import Idealize.ShloMosaic.Adequacy
public import Idealize.ShloMosaic.Init
public import Idealize.ShloMosaic.Lib.Quiescent

@[expose] public section

noncomputable section

open Idealize.ShloMosaic Idealize.SL.Sem

namespace Cert.InDw

/-- The reference terminates without a fault and leaves its arguments unchanged; it has no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The two programs leave the same gradient of the inner weight. -/
theorem same : Cert.algebraic_Kernel2Ideal_Reference2Ideal := by
  intro m ρ m' ρ' _ hagree
  refine ⟨fun c => grad (m ((c.tc : Thread _ _).loc Cert.Kernel2Ideal.main_arg0)) (m ((c.tc : Thread _ _).loc Cert.Kernel2Ideal.main_arg1)),
    (θ_run Cert.Kernel2Ideal.defs _ _).mono (fun r h c => ⟨(h c).1.trans (final m c), (h c).2⟩) (Cert.Kernel2Ideal.Value.run_blocks (F := Ideal) m ρ),
    (θ_run Cert.Reference2Ideal.defs _ _).mono (fun r h c => ⟨(h c).1.trans ((ref_eq _ _).trans (congrArg₂ grad (hagree c).1 (hagree c).2)), (h c).2⟩)
      (Cert.Reference2Ideal.Value.run (F := Ideal) m' ρ')⟩

end Cert.InDw

namespace Cert.OutDw

/-- The reference terminates without a fault and leaves its arguments unchanged; it has no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The two programs leave the same gradient of the outer weight. -/
theorem same : Cert.algebraic_Kernel3Ideal_Reference3Ideal := by
  intro m ρ m' ρ' _ hagree
  refine ⟨fun c => grad (m ((c.tc : Thread _ _).loc Cert.Kernel3Ideal.main_arg0)) (m ((c.tc : Thread _ _).loc Cert.Kernel3Ideal.main_arg1)),
    (θ_run Cert.Kernel3Ideal.defs _ _).mono (fun r h c => ⟨(h c).1.trans (final m c), (h c).2⟩) (Cert.Kernel3Ideal.Value.run_blocks (F := Ideal) m ρ),
    (θ_run Cert.Reference3Ideal.defs _ _).mono (fun r h c => ⟨(h c).1.trans ((ref_eq _ _).trans (congrArg₂ grad (hagree c).1 (hagree c).2)), (h c).2⟩)
      (Cert.Reference3Ideal.Value.run (F := Ideal) m' ρ')⟩

end Cert.OutDw

namespace Cert.OutDx

/-- The reference terminates without a fault and leaves its arguments unchanged; it has no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The two programs leave the same gradient of the activation. -/
theorem same : Cert.algebraic_Kernel4Ideal_Reference4Ideal := by
  intro m ρ m' ρ' _ hagree
  refine ⟨fun c => grad (m ((c.tc : Thread _ _).loc Cert.Kernel4Ideal.main_arg0)) (m ((c.tc : Thread _ _).loc Cert.Kernel4Ideal.main_arg1)),
    (θ_run Cert.Kernel4Ideal.defs _ _).mono (fun r h c => ⟨(h c).1.trans (final m c), (h c).2⟩) (Cert.Kernel4Ideal.Value.run_blocks (F := Ideal) m ρ),
    (θ_run Cert.Reference4Ideal.defs _ _).mono (fun r h c => ⟨(h c).1.trans ((ref_eq _ _).trans (congrArg₂ grad (hagree c).1 (hagree c).2)), (h c).2⟩)
      (Cert.Reference4Ideal.Value.run (F := Ideal) m' ρ')⟩

end Cert.OutDx

namespace Cert.InFwd

/-- The reference terminates without a fault and leaves its arguments unchanged; it has no semaphore. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The two programs leave the same inner product. -/
theorem same : Cert.algebraic_Kernel5Ideal_Reference5Ideal := by
  intro m ρ m' ρ' _ hagree
  refine ⟨fun c => product (m ((c.tc : Thread _ _).loc Cert.Kernel5Ideal.main_arg0)) (m ((c.tc : Thread _ _).loc Cert.Kernel5Ideal.main_arg1)),
    (θ_run Cert.Kernel5Ideal.defs _ _).mono (fun r h c => ⟨(h c).1.trans (final m c), (h c).2⟩) (Cert.Kernel5Ideal.Value.run_blocks (F := Ideal) m ρ),
    (θ_run Cert.Reference5Ideal.defs _ _).mono (fun r h c => ⟨(h c).1.trans ((ref_eq _ _).trans (congrArg₂ product (hagree c).1 (hagree c).2)), (h c).2⟩)
      (Cert.Reference5Ideal.Value.run (F := Ideal) m' ρ')⟩

end Cert.InFwd

namespace Cert.InDx

/-- The reference terminates without a fault and leaves its arguments unchanged; it has no semaphore. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The two programs leave the same gradient of the input. -/
theorem same : Cert.algebraic_Kernel6Ideal_Reference6Ideal := by
  intro m ρ m' ρ' _ hagree
  refine ⟨fun c => grad (m ((c.tc : Thread _ _).loc Cert.Kernel6Ideal.main_arg0)) (m ((c.tc : Thread _ _).loc Cert.Kernel6Ideal.main_arg1)),
    (θ_run Cert.Kernel6Ideal.defs _ _).mono (fun r h c => ⟨(h c).1.trans (final m c), (h c).2⟩) (Cert.Kernel6Ideal.Value.run_blocks (F := Ideal) m ρ),
    (θ_run Cert.Reference6Ideal.defs _ _).mono (fun r h c => ⟨(h c).1.trans ((ref_eq _ _).trans (congrArg₂ grad (hagree c).1 (hagree c).2)), (h c).2⟩)
      (Cert.Reference6Ideal.Value.run (F := Ideal) m' ρ')⟩

end Cert.InDx

namespace Cert.OutFwd

/-- The reference terminates without a fault and leaves its arguments unchanged; it has no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The two programs leave the same outer product. -/
theorem same : Cert.algebraic_Kernel7Ideal_Reference7Ideal := by
  intro m ρ m' ρ' _ hagree
  refine ⟨fun c => product (m ((c.tc : Thread _ _).loc Cert.Kernel7Ideal.main_arg0)) (m ((c.tc : Thread _ _).loc Cert.Kernel7Ideal.main_arg1)),
    (θ_run Cert.Kernel7Ideal.defs _ _).mono (fun r h c => ⟨(h c).1.trans (final m c), (h c).2⟩) (Cert.Kernel7Ideal.Value.run_blocks (F := Ideal) m ρ),
    (θ_run Cert.Reference7Ideal.defs _ _).mono (fun r h c => ⟨(h c).1.trans ((ref_eq _ _).trans (congrArg₂ product (hagree c).1 (hagree c).2)), (h c).2⟩)
      (Cert.Reference7Ideal.Value.run (F := Ideal) m' ρ')⟩

end Cert.OutFwd

end
-- ==== Proof.Memory.lean ====
/-
  The cross-attention into the memory, head by head: what each token takes of the memory's tokens, and the gradients of
  its query, of the keys and of the values.

  Four heads of 128 columns each. The first 512 columns of the memory's array are the keys, the last 512 the values.
-/
module

public import proofs.«01_k».proof.Proof.Sums

@[expose] public section

noncomputable section

open Idealize.ShloMosaic

namespace Cert.Memory

/-- The tokens' arrays: 4096 tokens, 512 columns. -/
abbrev Rows : Type := (⟨2, ![4096, 512]⟩ : Shape).Idx → EReal
/-- The memory's keys and values side by side: 256 tokens, 1024 columns. -/
abbrev Pairs : Type := (⟨2, ![256, 1024]⟩ : Shape).Idx → EReal
/-- A gradient of the keys or of the values. -/
abbrev Slots : Type := (⟨2, ![256, 512]⟩ : Shape).Idx → EReal

/-- The factor of the scores. -/
def scale : EReal := Ideal.ofBits .f32 0x3DB504F3#32
/-- Where the largest score is sought from. -/
def bottom : EReal := Ideal.ofBits .f32 0xFF800000#32
/-- The numerator of a reciprocal. -/
def one : EReal := Ideal.ofBits .f32 0x3F800000#32

/-! ## One row of scores -/

/-- The largest score. -/
def top (s : Fin 256 → EReal) : EReal := max bottom (Finset.univ.fold max bottom s)
/-- A score's exponential, taken from the largest. -/
def grown (s : Fin 256 → EReal) (n : Fin 256) : EReal := Ideal.exp (s n - top s)
/-- The row's sum of exponentials. -/
def total (s : Fin 256 → EReal) : EReal := ∑ n, grown s n
/-- What a memory token has of the row. -/
def share (s : Fin 256 → EReal) (n : Fin 256) : EReal := Ideal.div (grown s n) (total s)
/-- The gradient of a score before the scale was applied, `g` being the gradients of the shares. -/
def slant (s g : Fin 256 → EReal) (n : Fin 256) : EReal :=
  (Ideal.div (g n) (total s) + -(∑ x, g x * Ideal.div one (total s * total s) * grown s x)) * grown s n * scale

/-! ## The arrays -/

/-- Column `d` of head `h`. -/
abbrev col (h : Fin 4) (d : Fin 128) : Fin 512 := ⟨h.val * 128 + d.val, by omega⟩
/-- Column `d` of head `h`'s keys. -/
abbrev keyCol (h : Fin 4) (d : Fin 128) : Fin 1024 := ⟨h.val * 128 + d.val, by omega⟩
/-- Column `d` of head `h`'s values. -/
abbrev valCol (h : Fin 4) (d : Fin 128) : Fin 1024 := ⟨512 + h.val * 128 + d.val, by omega⟩
/-- The head of a column. -/
abbrev head (l : Fin 512) : Fin 4 := ⟨l.val / 128, by omega⟩
/-- The column within its head. -/
abbrev lane (l : Fin 512) : Fin 128 := ⟨l.val % 128, by omega⟩

/-- Token `t`'s scores in head `h`. -/
def score (q : Rows) (kv : Pairs) (h : Fin 4) (t : Fin 4096) (n : Fin 256) : EReal :=
  (∑ d : Fin 128, q (ix2 t (col h d)) * kv (ix2 n (keyCol h d))) * scale
/-- The gradients of token `t`'s shares in head `h`. -/
def dShare (kv : Pairs) (g : Rows) (h : Fin 4) (t : Fin 4096) (n : Fin 256) : EReal :=
  ∑ d : Fin 128, g (ix2 t (col h d)) * kv (ix2 n (valCol h d))
/-- The gradients of token `t`'s scores in head `h`. -/
def dScore (q : Rows) (kv : Pairs) (g : Rows) (h : Fin 4) (t : Fin 4096) (n : Fin 256) : EReal :=
  slant (score q kv h t) (dShare kv g h t) n

/-- What the tokens take of the memory, at a head's column. -/
def taken (q : Rows) (kv : Pairs) (t : Fin 4096) (h : Fin 4) (d : Fin 128) : EReal :=
  ∑ n : Fin 256, share (score q kv h t) n * kv (ix2 n (valCol h d))
/-- The gradient of the queries, at a head's column. -/
def dQuery (q : Rows) (kv : Pairs) (g : Rows) (t : Fin 4096) (h : Fin 4) (d : Fin 128) : EReal :=
  ∑ n : Fin 256, dScore q kv g h t n * kv (ix2 n (keyCol h d))
/-- The gradient of the keys, at a head's column. -/
def dKey (q : Rows) (kv : Pairs) (g : Rows) (n : Fin 256) (h : Fin 4) (d : Fin 128) : EReal :=
  ∑ t : Fin 4096, dScore q kv g h t n * q (ix2 t (col h d))
/-- The gradient of the values, at a head's column. -/
def dValue (q : Rows) (kv : Pairs) (g : Rows) (n : Fin 256) (h : Fin 4) (d : Fin 128) : EReal :=
  ∑ t : Fin 4096, g (ix2 t (col h d)) * share (score q kv h t) n

/-- What the tokens take of the memory. -/
def out (q : Rows) (kv : Pairs) : Rows := fun i => taken q kv (i 0) (head (i 1)) (lane (i 1))
/-- The gradient of the queries. -/
def dq (q : Rows) (kv : Pairs) (g : Rows) : Rows := fun i => dQuery q kv g (i 0) (head (i 1)) (lane (i 1))
/-- The gradient of the keys. -/
def dk (q : Rows) (kv : Pairs) (g : Rows) : Slots := fun i => dKey q kv g (i 0) (head (i 1)) (lane (i 1))
/-- The gradient of the values. -/
def dv (q : Rows) (kv : Pairs) (g : Rows) : Slots := fun i => dValue q kv g (i 0) (head (i 1)) (lane (i 1))

/-! ## Blocks

  A point of the grid has 256 rows of one head's queries and of the gradients of its outputs, and that head's keys and
  values whole. -/

/-- A block: 256 rows of 128 columns. -/
abbrev Block : Type := (⟨2, ![256, 128]⟩ : Shape).Idx → EReal

/-- Row `r`'s scores within a block. -/
def blockScore (q k : Block) (r n : Fin 256) : EReal := (∑ d : Fin 128, q (ix2 r d) * k (ix2 n d)) * scale
/-- The gradients of row `r`'s shares within a block. -/
def blockShare (v g : Block) (r n : Fin 256) : EReal := ∑ d : Fin 128, g (ix2 r d) * v (ix2 n d)

variable {q : Rows} {kv : Pairs} {g : Rows} {a k v b : Block} {h : Fin 4} {T : Fin 256 → Fin 4096}

/-- A block's scores are the head's. -/
theorem blockScore_eq (ha : ∀ r d, a (ix2 r d) = q (ix2 (T r) (col h d))) (hk : ∀ n d, k (ix2 n d) = kv (ix2 n (keyCol h d))) (r : Fin 256) :
    blockScore a k r = score q kv h (T r) := by
  funext n
  unfold blockScore score
  exact congrArg (· * scale) (Finset.sum_congr rfl fun d _ => by rw [ha, hk])

/-- A block's gradients of the shares are the head's. -/
theorem blockShare_eq (hb : ∀ r d, b (ix2 r d) = g (ix2 (T r) (col h d))) (hv : ∀ n d, v (ix2 n d) = kv (ix2 n (valCol h d))) (r : Fin 256) :
    blockShare v b r = dShare kv g h (T r) := by
  funext n
  unfold blockShare dShare
  exact Finset.sum_congr rfl fun d _ => by rw [hb, hv]

end Cert.Memory

end
-- ==== Proof.MemoryFwd.lean ====
/-
  The cross-attention into the memory, forward: what `xa_core` leaves and what the reference leaves.
-/
module

public import proofs.«01_k».proof.Proof.Gen.Kernel9Ideal.Value
public import proofs.«01_k».proof.Proof.Gen.Reference9Ideal.Run
public import proofs.«01_k».proof.Proof.Memory
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.MemoryFwd

open Cert.Memory

section kernel

open Cert.Kernel9Ideal Cert.Kernel9Ideal.Gen

/-- What a point computes, at an entry. -/
theorem pay_at (q k v : Vec Ideal S256x128 .bf16) (r : Fin 256) (d : Fin 128) :
    (k0_pay1 q k v : Block) (ix2 r d) = ∑ n : Fin 256, share (blockScore q k r) n * v (ix2 n d) := by
  pointwise [k0_pay1]
  rfl

/-- The block that a point leaves is what it computes. -/
theorem out_eq (q k v : Vec Ideal S256x128 .bf16) : out0_3 q k v = k0_pay1 q k v := by
  have hz : (![0, 0] : Fin S256x128.rank → Nat) = fun _ => 0 := funext fun a => by fin_cases a <;> rfl
  show View.canon [⟨_, _⟩] = _
  rw [View.canon_unit_zero hz, View.ld_unit_zero hz, View.ld_unit_zero hz, View.ld_unit_zero hz]

variable (m : (ℓ : Loc nD τ sig) → Buf (Elt Ideal) ℓ) (c : Dev nD)

/-- The queries. -/
abbrev argQ : Rows := m ((c : Thread nD τ).loc main_arg0)
/-- The keys and the values. -/
abbrev argKV : Pairs := m ((c : Thread nD τ).loc main_arg1)

/-- The blocks that a point's windows are on. -/
theorem index_t : ∀ t : Fin cfg0.N, win0_0.index t = ![t.val / 4, t.val % 4] ∧ win0_1.index t = ![0, t.val % 4] ∧ win0_2.index t = ![0, 4 + t.val % 4] ∧ win0_3.index t = ![t.val / 4, t.val % 4] :=
  (by decide +kernel : ∀ t : Fin grid0.N, win0_0.index t = ![t.val / 4, t.val % 4] ∧ win0_1.index t = ![0, t.val % 4] ∧ win0_2.index t = ![0, 4 + t.val % 4] ∧ win0_3.index t = ![t.val / 4, t.val % 4])

/-- Every block of the result is some point's. -/
theorem covers : (cfg0.win 3).Covers :=
  (cfg0.win 3).covers_of_indexMap_surj rfl (by decide) fun β => by
    have h0 : (β (0 : Fin 2)).val < 16 := lt_of_lt_of_eq (β (0 : Fin 2)).isLt (by decide : (cfg0.win 3).nblk (0 : Fin 2) = 16)
    have h1 : (β (1 : Fin 2)).val < 4 := lt_of_lt_of_eq (β (1 : Fin 2)).isLt (by decide : (cfg0.win 3).nblk (1 : Fin 2) = 4)
    refine ⟨fun a => match a with
      | ⟨0, _⟩ => ⟨(β (0 : Fin 2)).val, h0⟩
      | ⟨1, _⟩ => ⟨(β (1 : Fin 2)).val, h1⟩, fun a => ?_⟩
    match a with
    | ⟨0, _⟩ => exact Sums.word_of_lt (lt_trans h0 (by decide))
    | ⟨1, _⟩ => exact Sums.word_of_lt (lt_trans h1 (by decide))

/-- The array that the grid leaves. -/
theorem final : (dats m 0 c).arrAt 3 cfg0.N = out (argQ m c) (argKV m c) := by
  refine (dats m 0 c).arrAt_eq_of_covers 3 _ covers fun t hf y => ?_
  rw [after0_3, out_eq]
  blk_simp
  have hN : t.val < 64 := lt_of_lt_of_eq t.isLt (show cfg0.N = 64 from N_0)
  obtain ⟨r, d, rfl⟩ : ∃ (r : Fin 256) (d : Fin 128), y = ix2 r d := ⟨y 0, y 1, by blk_ext⟩
  have e : (win0_3.blk t).view.emb (ix2 r d) = ix2 (⟨256 * (t.val / 4) + r.val, by omega⟩ : Fin 4096) (⟨t.val % 4 * 128 + d.val, by omega⟩ : Fin 512) := by
    blk_ext [index_t t]
  rw [e]
  have hq : ∀ (r : Fin 256) (d : Fin 128), iblk m c 0 t (ix2 r d) = argQ m c (ix2 (⟨256 * (t.val / 4) + r.val, by omega⟩ : Fin 4096) (col ⟨t.val % 4, by omega⟩ d)) := fun r d => by
    blk_ext [iblk, V_main_arg0, index_t t]
  have hk : ∀ (n : Fin 256) (d : Fin 128), iblk m c 1 t (ix2 n d) = argKV m c (ix2 n (keyCol ⟨t.val % 4, by omega⟩ d)) := fun r d => by
    blk_ext [iblk, V_main_arg1, index_t t]
  have hv : ∀ (n : Fin 256) (d : Fin 128), iblk m c 2 t (ix2 n d) = argKV m c (ix2 n (valCol ⟨t.val % 4, by omega⟩ d)) := fun r d => by
    blk_ext [iblk, V_main_arg1, index_t t]
  have hh : head ⟨t.val % 4 * 128 + d.val, by omega⟩ = ⟨t.val % 4, by omega⟩ := Fin.ext (by dsimp only; omega)
  have hl : lane ⟨t.val % 4 * 128 + d.val, by omega⟩ = d := Fin.ext (by dsimp only; omega)
  refine (pay_at _ _ _ r d).trans ?_
  show _ = taken _ _ _ (head ⟨t.val % 4 * 128 + d.val, by omega⟩) (lane ⟨t.val % 4 * 128 + d.val, by omega⟩)
  rw [hh, hl, blockScore_eq (T := fun r => ⟨256 * (t.val / 4) + r.val, by omega⟩) hq hk r]
  exact Finset.sum_congr rfl fun n _ => congrArg (share _ n * ·) (hv n d)

end kernel

section reference

open Cert.Reference9Ideal Cert.Reference9Ideal.Gen

/-- The reference's scores. -/
def refScore (q : FVec Ideal S4096x512 .bf16) (kv : FVec Ideal S256x1024 .bf16) : FVec Ideal S4x4096x256 .f32 :=
  mulf (Host.dotGeneral dot_S4096x4x128_S256x4x128_S4x4096x256_2_2_0_0_1_1 none (shapeCast _ (extf .f32 q bitsLt_bf16_f32) shapeCasts_S4096x512_S4096x4x128)
    (shapeCast _ (extractStridedSlice S256x1x4x128 ![0, 0, 0, 0] (shapeCast _ (extf .f32 kv bitsLt_bf16_f32) shapeCasts_S256x1024_S256x2x4x128) slices_S256x2x4x128_S256x1x4x128_0_0_0_0) shapeCasts_S256x1x4x128_S256x4x128))
    (broadcastInDim S4x4096x256 ![] bcast_S_S4x4096x256 (constant S_ .f32 0x3DB504F3#32))

/-- The rows' largest scores. -/
def refLargest (s : FVec Ideal S4x4096x256 .f32) : FVec Ideal S4x4096 .f32 :=
  Host.reduce FloatOps.maximumf s (constant S_ .f32 0xFF800000#32) reducesTo_S4x4096x256_S4x4096_d2 h_S_

/-- The same, sought from −∞. -/
def refTop (s : FVec Ideal S4x4096x256 .f32) : FVec Ideal S4x4096 .f32 :=
  maximumf (broadcastInDim S4x4096 ![] bcast_S_S4x4096 (constant S_ .f32 0xFF800000#32)) (refLargest s)

/-- The exponentials of scores, each taken from its row's largest. -/
def refGrown (s : FVec Ideal S4x4096x256 .f32) : FVec Ideal S4x4096x256 .f32 :=
  Host.exp (subf s (broadcastInDim S4x4096x256 ![0, 1, 2] bcast_S4x4096x1_S4x4096x256_0_1_2 (broadcastInDim S4x4096x1 ![0, 1] bcast_S4x4096_S4x4096x1_0_1 (refTop s))))

/-- The rows' sums of exponentials. -/
def refTotal (e : FVec Ideal S4x4096x256 .f32) : FVec Ideal S4x4096x1 .f32 :=
  broadcastInDim S4x4096x1 ![0, 1] bcast_S4x4096_S4x4096x1_0_1 (Host.reduceAdd e (constant S_ .f32 0x00000000#32) reducesTo_S4x4096x256_S4x4096_d2 h_S_)

/-- The values. -/
def refValues (kv : FVec Ideal S256x1024 .bf16) : FVec Ideal S256x4x128 .f32 :=
  shapeCast _ (extractStridedSlice S256x1x4x128 ![0, 1, 0, 0] (shapeCast _ (extf .f32 kv bitsLt_bf16_f32) shapeCasts_S256x1024_S256x2x4x128) slices_S256x2x4x128_S256x1x4x128_0_1_0_0) shapeCasts_S256x1x4x128_S256x4x128

/-- The shares. -/
def refShare (e : FVec Ideal S4x4096x256 .f32) : FVec Ideal S4x4096x256 .f32 :=
  Host.divf e (broadcastInDim S4x4096x256 ![0, 1, 2] bcast_S4x4096x1_S4x4096x256_0_1_2 (refTotal e))

/-- The reference's result. -/
def refOut (q : FVec Ideal S4096x512 .bf16) (kv : FVec Ideal S256x1024 .bf16) : FVec Ideal S4096x512 .bf16 :=
  truncf .bf16 (shapeCast _ (transpose S4096x4x128 [2, 0, 1] (Host.dotGeneral dot_S256x4x128_S4x4096x256_S4x128x4096_0_2_2_1_1_0 none (refValues kv)
    (refShare (refGrown (refScore q kv)))) transposes_S4x128x4096_S4096x4x128_2_0_1) shapeCasts_S4096x4x128_S4096x512) bitsLt_bf16_f32

variable (q : FVec Ideal S4096x512 .bf16) (kv : FVec Ideal S256x1024 .bf16) (h : Fin 4) (t : Fin 4096) (n : Fin 256)

theorem refScore_at : refScore q kv (ix3 h t n) = score q kv h t n := by
  pointwise [refScore]
  rfl

/-- A largest value along an axis. -/
theorem largest_at {u v w : Shape} {a : Fin u.rank} (x : FVec Ideal u .f32) (b : BitVec 32) (h' : u.ReducesTo [a] v) (h : u.Reduces [a] v) (hw : 0 < w.numel) (j : v.Idx) :
    Host.reduce FloatOps.maximumf x (constant w .f32 b) h' hw j = Finset.univ.fold max (Ideal.ofBits .f32 b) (x ∘ h.lift j) := by
  exact Host.reduce_eq_fold_single _ x _ h' h hw j

theorem refLargest_at (s : FVec Ideal S4x4096x256 .f32) : refLargest s (ix2 h t) = Finset.univ.fold max bottom fun n => s (ix3 h t n) := by
  have hr : S4x4096x256.Reduces [(2 : Fin 3)] S4x4096 := by decide
  have e : s ∘ hr.lift (ix2 h t) = fun n => s (ix3 h t n) := funext fun n =>
    congrArg s (funext fun a => Fin.ext (by rw [hr.lift_val]; fin_cases a <;> rfl))
  unfold refLargest
  rw [largest_at s _ _ hr, e]
  unfold bottom
  rfl

/-- A value no less than a constant. -/
theorem atLeast_at (l : FVec Ideal S4x4096 .f32) (b : BitVec 32) (j : S4x4096.Idx) :
    maximumf (broadcastInDim S4x4096 ![] bcast_S_S4x4096 (constant S_ .f32 b)) l j = max (Ideal.ofBits .f32 b) (l j) := by
  rfl

theorem refTop_at (s : FVec Ideal S4x4096x256 .f32) : refTop s (ix2 h t) = top fun n => s (ix3 h t n) := by
  unfold top
  rw [← refLargest_at h t s]
  unfold refTop bottom
  exact atLeast_at (refLargest s) _ _

theorem refGrown_at (s : FVec Ideal S4x4096x256 .f32) : refGrown s (ix3 h t n) = grown (fun n => s (ix3 h t n)) n := by
  unfold grown
  rw [← refTop_at h t s]
  unfold refGrown
  generalize refTop s = l
  pointwise

theorem refTotal_at (e : FVec Ideal S4x4096x256 .f32) : refTotal e (ix3 h t 0) = ∑ n : Fin 256, e (ix3 h t n) := by
  pointwise [refTotal]

theorem refShare_at (s : FVec Ideal S4x4096x256 .f32) : refShare (refGrown s) (ix3 h t n) = share (fun n => s (ix3 h t n)) n := by
  unfold share total
  simp only [← refGrown_at h t]
  rw [← refTotal_at]
  pointwise [refShare]

theorem refValues_at (d : Fin 128) : refValues kv (ix3 n h d) = (kv : Pairs) (ix2 n (valCol h d)) := by
  pointwise [refValues]

/-- The array that the reference leaves. -/
theorem ref_eq : (refOut q kv : Rows) = out q kv := by
  funext i
  obtain ⟨t, l, rfl⟩ : ∃ (t : Fin 4096) (l : Fin 512), i = ix2 t l := ⟨i 0, i 1, by blk_ext⟩
  pointwise [refOut]
  refine Eq.trans (b := ∑ n : Fin 256, share (score q kv (head l) t) n * (kv : Pairs) (ix2 n (valCol (head l) (lane l)))) (Finset.sum_congr rfl fun n _ => ?_) rfl
  rw [refValues_at, refShare_at, funext (refScore_at q kv _ t), mul_comm]

end reference

end Cert.MemoryFwd

end
-- ==== Proof.MemoryRef.lean ====
/-
  The cross-attention into the memory, backward: what the reference leaves.
-/
module

public import proofs.«01_k».proof.Proof.Gen.Reference8Ideal.Run
public import proofs.«01_k».proof.Proof.MemoryFwd

@[expose] public section

set_option maxRecDepth 16384

noncomputable section

open Idealize.ShloMosaic Idealize.ShloMosaic.TcCoe Idealize.SL.Sem

namespace Cert.MemoryRef

open Cert.Memory Cert.MemoryFwd Cert.Reference8Ideal Cert.Reference8Ideal.Gen

/-- The queries, head by head. -/
def refQueries (q : FVec Ideal S4096x512 .bf16) : FVec Ideal S4096x4x128 .f32 :=
  shapeCast _ (extf .f32 q bitsLt_bf16_f32) shapeCasts_S4096x512_S4096x4x128

/-- The keys, head by head. -/
def refKeys (kv : FVec Ideal S256x1024 .bf16) : FVec Ideal S256x4x128 .f32 :=
  shapeCast _ (extractStridedSlice S256x1x4x128 ![0, 0, 0, 0] (shapeCast _ (extf .f32 kv bitsLt_bf16_f32) shapeCasts_S256x1024_S256x2x4x128) slices_S256x2x4x128_S256x1x4x128_0_0_0_0) shapeCasts_S256x1x4x128_S256x4x128

/-- The gradients of the outputs, head by head. -/
def refOuter (g : FVec Ideal S4096x512 .f32) : FVec Ideal S4x128x4096 .f32 :=
  transpose S4x128x4096 [1, 2, 0] (shapeCast _ g shapeCasts_S4096x512_S4096x4x128) transposes_S4096x4x128_S4x128x4096_1_2_0

/-- The gradients of the shares. -/
def refDShare (kv : FVec Ideal S256x1024 .bf16) (g : FVec Ideal S4096x512 .f32) : FVec Ideal S4x4096x256 .f32 :=
  Host.dotGeneral dot_S4x128x4096_S256x4x128_S4x4096x256_1_2_2_0_0_1 none (refOuter g) (refValues kv)

/-- What the shares' sum takes of each row's gradients. -/
def refInner (e p : FVec Ideal S4x4096x256 .f32) (z : FVec Ideal S4x4096x1 .f32) : FVec Ideal S4x4096 .f32 :=
  Host.reduceAdd (Host.negf (shapeCast S4x4096x1 (Host.reduceAdd (mulf (mulf p (broadcastInDim S4x4096x256 ![0, 1, 2] bcast_S4x4096x1_S4x4096x256_0_1_2
    (Host.divf (broadcastInDim S4x4096x1 ![] bcast_S_S4x4096x1 (constant S_ .f32 0x3F800000#32)) (mulf z z)))) e)
    (constant S_ .f32 0x00000000#32) reducesTo_S4x4096x256_S4x4096_d2 h_S_) shapeCasts_S4x4096_S4x4096x1)) (constant S_ .f32 0x00000000#32) reducesTo_S4x4096x1_S4x4096_d2 h_S_

/-- The gradients of the scores. -/
def refSlope (e p : FVec Ideal S4x4096x256 .f32) (z : FVec Ideal S4x4096x1 .f32) (a : FVec Ideal S4x4096 .f32) : FVec Ideal S4x4096x256 .f32 :=
  mulf (mulf (addf (Host.divf p (broadcastInDim S4x4096x256 ![0, 1, 2] bcast_S4x4096x1_S4x4096x256_0_1_2 z)) (broadcastInDim S4x4096x256 ![0, 1] bcast_S4x4096_S4x4096x256_0_1 a)) e)
    (broadcastInDim S4x4096x256 ![] bcast_S_S4x4096x256 (constant S_ .f32 0x3DB504F3#32))

/-- The same, of the arguments. -/
def refDScore (q : FVec Ideal S4096x512 .bf16) (kv : FVec Ideal S256x1024 .bf16) (g : FVec Ideal S4096x512 .f32) : FVec Ideal S4x4096x256 .f32 :=
  refSlope (refGrown (refScore q kv)) (refDShare kv g) (refTotal (refGrown (refScore q kv)))
    (refInner (refGrown (refScore q kv)) (refDShare kv g) (refTotal (refGrown (refScore q kv))))

/-- The queries' gradient. -/
def refDq (d : FVec Ideal S4x4096x256 .f32) (k : FVec Ideal S256x4x128 .f32) : FVec Ideal S4096x512 .bf16 :=
  truncf .bf16 (shapeCast _ (transpose S4096x4x128 [1, 0, 2] (Host.dotGeneral dot_S4x4096x256_S256x4x128_S4x4096x128_2_0_1_2_0_1 none d k) transposes_S4x4096x128_S4096x4x128_1_0_2) shapeCasts_S4096x4x128_S4096x512) bitsLt_bf16_f32

/-- The values' gradient, head by head. -/
def refDValues (s : FVec Ideal S4x4096x256 .f32) (o : FVec Ideal S4x128x4096 .f32) : FVec Ideal S256x4x128 .f32 :=
  transpose S256x4x128 [2, 0, 1] (Host.dotGeneral dot_S4x128x4096_S4x4096x256_S4x128x256_2_1_1_2_0_0 none o s) transposes_S4x128x256_S256x4x128_2_0_1

/-- The keys' gradient, head by head. -/
def refDKeys (d : FVec Ideal S4x4096x256 .f32) (q : FVec Ideal S4096x4x128 .f32) : FVec Ideal S256x4x128 .f32 :=
  transpose S256x4x128 [1, 0, 2] (Host.dotGeneral dot_S4x4096x256_S4096x4x128_S4x256x128_1_0_2_2_0_1 none d q) transposes_S4x256x128_S256x4x128_1_0_2

/-- The gradients of the keys and of the values, side by side. -/
def refPairs (k v : FVec Ideal S256x4x128 .f32) : FVec Ideal S256x1024 .f32 :=
  shapeCast _ (addf (pad S256x2x4x128 ![0, 1, 0, 0] ![0, 0, 0, 0] ![0, 0, 0, 0] (broadcastInDim S256x1x4x128 ![0, 2, 3] bcast_S256x4x128_S256x1x4x128_0_2_3 v) (constant S_ .f32 0x00000000#32) pads_S256x1x4x128_S256x2x4x128_000_100_000_000 h_S_)
    (pad S256x2x4x128 ![0, 0, 0, 0] ![0, 1, 0, 0] ![0, 0, 0, 0] (broadcastInDim S256x1x4x128 ![0, 2, 3] bcast_S256x4x128_S256x1x4x128_0_2_3 k) (constant S_ .f32 0x00000000#32) pads_S256x1x4x128_S256x2x4x128_000_010_000_000 h_S_)) shapeCasts_S256x2x4x128_S256x1024

variable (q : FVec Ideal S4096x512 .bf16) (kv : FVec Ideal S256x1024 .bf16) (g : FVec Ideal S4096x512 .f32) (h : Fin 4) (t : Fin 4096) (n : Fin 256) (d : Fin 128)

theorem refQueries_at : refQueries q (ix3 t h d) = (q : Rows) (ix2 t (col h d)) := by
  pointwise [refQueries]

theorem refKeys_at : refKeys kv (ix3 n h d) = (kv : Pairs) (ix2 n (keyCol h d)) := by
  pointwise [refKeys]

theorem refOuter_at : refOuter g (ix3 h d t) = (g : Rows) (ix2 t (col h d)) := by
  pointwise [refOuter]

theorem refDShare_at : refDShare kv g (ix3 h t n) = dShare kv g h t n := by
  unfold dShare
  pointwise [refDShare]
  exact Finset.sum_congr rfl fun d _ => by rw [refOuter_at, refValues_at]

theorem refInner_at (e p : FVec Ideal S4x4096x256 .f32) (z : FVec Ideal S4x4096x1 .f32) :
    refInner e p z (ix2 h t) = -(∑ x : Fin 256, p (ix3 h t x) * Ideal.div one (z (ix3 h t 0) * z (ix3 h t 0)) * e (ix3 h t x)) := by
  unfold one
  pointwise [refInner]
  exact Fin.sum_univ_one _

theorem refSlope_at (e p : FVec Ideal S4x4096x256 .f32) (z : FVec Ideal S4x4096x1 .f32) (a : FVec Ideal S4x4096 .f32) :
    refSlope e p z a (ix3 h t n) = (Ideal.div (p (ix3 h t n)) (z (ix3 h t 0)) + a (ix2 h t)) * e (ix3 h t n) * scale := by
  unfold scale
  pointwise [refSlope]

theorem refDScore_at : refDScore q kv g (ix3 h t n) = dScore q kv g h t n := by
  have es : (fun n => refScore q kv (ix3 h t n)) = score q kv h t := funext (refScore_at q kv h t)
  unfold refDScore dScore slant
  rw [refSlope_at, refInner_at, refTotal_at]
  simp only [refGrown_at, es, refDShare_at]
  rfl

theorem refDq_at (D : FVec Ideal S4x4096x256 .f32) (K : FVec Ideal S256x4x128 .f32) (l : Fin 512) :
    (refDq D K : Rows) (ix2 t l) = ∑ n : Fin 256, D (ix3 (head l) t n) * K (ix3 n (head l) (lane l)) := by
  pointwise [refDq]

theorem refDValues_at (S : FVec Ideal S4x4096x256 .f32) (O : FVec Ideal S4x128x4096 .f32) :
    refDValues S O (ix3 n h d) = ∑ t : Fin 4096, O (ix3 h d t) * S (ix3 h t n) := by
  pointwise [refDValues]

theorem refDKeys_at (D : FVec Ideal S4x4096x256 .f32) (Q : FVec Ideal S4096x4x128 .f32) :
    refDKeys D Q (ix3 n h d) = ∑ t : Fin 4096, D (ix3 h t n) * Q (ix3 t h d) := by
  pointwise [refDKeys]

/-- Of two terms that hold under conditions, the second where only its condition is met. -/
theorem right_of {P Q : Prop} [Decidable P] [Decidable Q] (hP : ¬P) (hQ : Q) (a : P → EReal) (b : Q → EReal) :
    ((if h : P then a h else 0) + if h : Q then b h else 0) = b hQ := by
  rw [dif_neg hP, dif_pos hQ, zero_add]

/-- The first where only its condition is met. -/
theorem left_of {P Q : Prop} [Decidable P] [Decidable Q] (hP : P) (hQ : ¬Q) (a : P → EReal) (b : Q → EReal) :
    ((if h : P then a h else 0) + if h : Q then b h else 0) = a hP := by
  rw [dif_pos hP, dif_neg hQ, add_zero]

theorem keys_at (K W : FVec Ideal S256x4x128 .f32) (l : Fin 512) :
    (extractStridedSlice S256x512 ![0, 0] (refPairs K W) slices_S256x1024_S256x512_0_0 : Slots) (ix2 n l) = K (ix3 n (head l) (lane l)) := by
  pointwise [refPairs]
  refine (right_of (fun h => absurd h.1.1 (by omega)) ⟨by omega, Nat.mod_lt _ (by decide), Nat.mod_lt _ (by decide)⟩ _ _).trans ?_
  have e : (⟨l.val / 128 % 4, by omega⟩ : Fin 4) = head l := Fin.ext (by dsimp only; omega)
  exact congrArg (fun x => K (ix3 n x (lane l))) e

theorem values_at (K W : FVec Ideal S256x4x128 .f32) (l : Fin 512) :
    (extractStridedSlice S256x512 ![0, 512] (refPairs K W) slices_S256x1024_S256x512_0_512 : Slots) (ix2 n l) = W (ix3 n (head l) (lane l)) := by
  pointwise [refPairs]
  refine (left_of ⟨⟨by omega, by omega⟩, Nat.mod_lt _ (by decide), Nat.mod_lt _ (by decide)⟩ (fun h => absurd h.1 (by omega)) _ _).trans ?_
  have e : (⟨(512 + l.val) / 128 % 4, by omega⟩ : Fin 4) = head l := Fin.ext (by dsimp only; omega)
  have e' : (⟨(512 + l.val) % 128, by omega⟩ : Fin 128) = lane l := Fin.ext (by dsimp only; omega)
  exact congrArg₂ (fun x y => W (ix3 n x y)) e e'

/-- The queries' gradient is the heads'. -/
theorem dq_eq : (refDq (refDScore q kv g) (refKeys kv) : Rows) = dq q kv g := by
  funext i
  obtain ⟨t, l, rfl⟩ : ∃ (t : Fin 4096) (l : Fin 512), i = ix2 t l := ⟨i 0, i 1, by blk_ext⟩
  refine (refDq_at t _ _ l).trans (Eq.trans (b := ∑ n, dScore q kv g (head l) t n * (kv : Pairs) (ix2 n (keyCol (head l) (lane l)))) (Finset.sum_congr rfl fun n _ => ?_) rfl)
  rw [refDScore_at, refKeys_at]

/-- The keys' gradient is the heads'. -/
theorem dk_eq (W : FVec Ideal S256x4x128 .f32) :
    (extractStridedSlice S256x512 ![0, 0] (refPairs (refDKeys (refDScore q kv g) (refQueries q)) W) slices_S256x1024_S256x512_0_0 : Slots) = dk q kv g := by
  funext i
  obtain ⟨n, l, rfl⟩ : ∃ (n : Fin 256) (l : Fin 512), i = ix2 n l := ⟨i 0, i 1, by blk_ext⟩
  refine (keys_at n _ _ l).trans ((refDKeys_at _ n _ _ _).trans
    (Eq.trans (b := ∑ t, dScore q kv g (head l) t n * (q : Rows) (ix2 t (col (head l) (lane l)))) (Finset.sum_congr rfl fun t _ => ?_) rfl))
  rw [refDScore_at, refQueries_at]

/-- The values' gradient is the heads'. -/
theorem dv_eq (K : FVec Ideal S256x4x128 .f32) :
    (extractStridedSlice S256x512 ![0, 512] (refPairs K (refDValues (refShare (refGrown (refScore q kv))) (refOuter g))) slices_S256x1024_S256x512_0_512 : Slots) = dv q kv g := by
  funext i
  obtain ⟨n, l, rfl⟩ : ∃ (n : Fin 256) (l : Fin 512), i = ix2 n l := ⟨i 0, i 1, by blk_ext⟩
  refine (values_at n _ _ l).trans ((refDValues_at _ n _ _ _).trans
    (Eq.trans (b := ∑ t, (g : Rows) (ix2 t (col (head l) (lane l))) * share (score q kv (head l) t) n) (Finset.sum_congr rfl fun t _ => ?_) rfl))
  rw [refShare_at, refOuter_at, funext (refScore_at q kv _ t)]

variable (m : (ℓ : Loc nD τ sig) → Buf (Elt Ideal) ℓ) (c : Dev nD)

/-- The queries. -/
abbrev argQ : Rows := m ((c.tc : Thread nD τ).loc main_arg0)
/-- The keys and the values. -/
abbrev argKV : Pairs := m ((c.tc : Thread nD τ).loc main_arg1)
/-- The gradients of the outputs. -/
abbrev argG : Rows := m ((c.tc : Thread nD τ).loc main_arg2)

/-- What the reference leaves of the queries' gradient. -/
theorem ref_dq : (Value.res_main_v72 m c : Rows) = dq (argQ m c) (argKV m c) (argG m c) := by
  refine Eq.trans ?_ (dq_eq _ _ _)
  rfl

/-- What the reference leaves of the keys' gradient. -/
theorem ref_dk : (Value.res_main_v73 m c : Slots) = dk (argQ m c) (argKV m c) (argG m c) := by
  refine Eq.trans ?_ (dk_eq (argQ m c) (argKV m c) (argG m c) (refDValues (refShare (refGrown (refScore (argQ m c) (argKV m c)))) (refOuter (argG m c))))
  rfl

/-- What the reference leaves of the values' gradient. -/
theorem ref_dv : (Value.res_main_v74 m c : Slots) = dv (argQ m c) (argKV m c) (argG m c) := by
  refine Eq.trans ?_ (dv_eq (argQ m c) (argKV m c) (argG m c) (refDKeys (refDScore (argQ m c) (argKV m c) (argG m c)) (refQueries (argQ m c))))
  rfl

end Cert.MemoryRef

end
-- ==== Proof.MemoryBwd.lean ====
/-
  The cross-attention into the memory, backward: what the grid of `xa_core_bwd` leaves.
-/
module

public import proofs.«01_k».proof.Proof.Gen.Kernel8Ideal.Value
public import proofs.«01_k».proof.Proof.Memory
public import Idealize.ShloMosaic.Lib.Tactic
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.MemoryBwd

open Cert.Memory Cert.Kernel8Ideal Cert.Kernel8Ideal.Gen

/-! ## What a point computes, at an entry -/

section entries

variable (q k v : Vec Ideal S256x128 .bf16) (g : Vec Ideal S256x128 .f32) (z : Vec Ideal S256x128 .f32) (r n : Fin 256) (d : Fin 128)

theorem grown_at : (k0_pay9 q k : FVec Ideal S256x256 .f32) (ix2 r n) = grown (blockScore q k r) n := by
  pointwise [k0_pay9, k0_pay7, k0_pay8]
  rfl

theorem total_at : (k0_pay10 q k : FVec Ideal S256x1 .f32) (ix2 r 0) = total (blockScore q k r) := by
  unfold total
  simp only [← grown_at q k r]
  pointwise [k0_pay10]

theorem dShare_at : (k0_pay12 v g : FVec Ideal S256x256 .f32) (ix2 r n) = blockShare v g r n := by
  pointwise [k0_pay12]
  rfl

theorem square_at : (k0_pay13 q k : FVec Ideal S256x256 .f32) (ix2 r n) = Ideal.div one (total (blockScore q k r) * total (blockScore q k r)) := by
  unfold one
  rw [← total_at]
  pointwise [k0_pay13]

theorem dScore_at (e : FVec Ideal S256x256 .f32) (s : FVec Ideal S256x1 .f32) (p w : FVec Ideal S256x256 .f32) :
    (k0_pay1 e s p w : FVec Ideal S256x256 .f32) (ix2 r n) = (Ideal.div (p (ix2 r n)) (s (ix2 r 0)) + -(∑ x : Fin 256, p (ix2 r x) * w (ix2 r x) * e (ix2 r x))) * e (ix2 r n) * scale := by
  unfold scale
  pointwise [k0_pay1]
  rw [Fin.sum_univ_one, zero_sub]

/-- A block's gradients of the scores. -/
def blockSlant (q k v g : Block) (r n : Fin 256) : EReal := slant (blockScore q k r) (blockShare v g r) n

theorem slant_at : (k0_pay1 (k0_pay9 q k) (k0_pay10 q k) (k0_pay12 v g) (k0_pay13 q k) : FVec Ideal S256x256 .f32) (ix2 r n) = blockSlant q k v g r n := by
  rw [dScore_at]
  simp only [grown_at, total_at, dShare_at, square_at]
  rfl

theorem dq_at : (k0_pay2 (k0_pay8 k) (k0_pay9 q k) (k0_pay10 q k) (k0_pay12 v g) (k0_pay13 q k) : Block) (ix2 r d) = ∑ n : Fin 256, blockSlant q k v g r n * k (ix2 n d) := by
  simp only [← slant_at]
  pointwise [k0_pay2, k0_pay8]

theorem dk_at : (k0_pay3 (k0_pay7 q) (k0_pay9 q k) (k0_pay10 q k) (k0_pay12 v g) (k0_pay13 q k) z : Block) (ix2 n d)
    = z (ix2 n d) + ∑ r : Fin 256, blockSlant q k v g r n * q (ix2 r d) := by
  simp only [← slant_at]
  pointwise [k0_pay3, k0_pay7]

theorem dv_at : (k0_pay4 (k0_pay11 q k g) z : Block) (ix2 n d) = z (ix2 n d) + ∑ r : Fin 256, g (ix2 r d) * share (blockScore q k r) n := by
  unfold share
  simp only [← grown_at q k, ← total_at]
  pointwise [k0_pay4, k0_pay11]

theorem zero_k_at : (k0_pay5 (F := Ideal) : Block) (ix2 n d) = 0 := by
  pointwise [k0_pay5]

theorem zero_v_at : (k0_pay6 (F := Ideal) : Block) (ix2 n d) = 0 := by
  pointwise [k0_pay6]

end entries

/-! ## What a point leaves -/

theorem hz : (![0, 0] : Fin 2 → Nat) = fun _ => 0 := funext fun a => by fin_cases a <;> rfl

section leaves

variable (c : Dev nD) (i : grid0.Coords) (a2 : Memref sig .tc .vmem S256x128 .bf16) (h2 : a2.IsWhole) (a3 : Memref sig .tc .vmem S256x128 .bf16) (h3 : a3.IsWhole)
    (a4 : Memref sig .tc .vmem S256x128 .bf16) (h4 : a4.IsWhole) (a5 : Memref sig .tc .vmem S256x128 .f32) (h5 : a5.IsWhole) (a6 : Memref sig .tc .vmem S256x128 .bf16) (h6 : a6.IsWhole)
    (a7 : Memref sig .tc .vmem S256x128 .f32) (h7 : a7.IsWhole) (a8 : Memref sig .tc .vmem S256x128 .f32) (h8 : a8.IsWhole)
    (x0 x1 x2 : Vec Ideal S256x128 .bf16) (x3 : Vec Ideal S256x128 .f32) (y z : Vec Ideal S256x128 .f32)

/-- The queries' gradient that the first point of a head leaves. -/
theorem dq_A (hc : cond0_0 i) : out0_A_4 c i a2 h2 a3 h3 a4 h4 a5 h5 a6 h6 a7 h7 a8 h8 hc x0 x1 x2 x3 = k0_pay2 (k0_pay8 x1) (k0_pay9 x0 x1) (k0_pay10 x0 x1) (k0_pay12 x2 x3) (k0_pay13 x0 x1) := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero (S := S256x128) hz]
  simp only [View.readAt_eq_ld, h2.read_unread, h3.read_unread, h4.read_unread, h5.read_unread, h7.read_unread, h8.read_unread, View.ld_unit_zero (S := S256x128) hz]

/-- The keys' gradient that the first point of a head leaves. -/
theorem dk_A (hc : cond0_0 i) : out0_A_5 c i a2 h2 a3 h3 a4 h4 a5 h5 a6 h6 a7 h7 a8 h8 hc x0 x1 x2 x3 = k0_pay3 (k0_pay7 x0) (k0_pay9 x0 x1) (k0_pay10 x0 x1) (k0_pay12 x2 x3) (k0_pay13 x0 x1) (k0_pay5 (F := Ideal)) := by
  unfold out0_A_5
  rw [View.read_writes_eq_canon _ _ _ (cover0_A_5 c i a2 h2 a3 h3 a4 h4 a5 h5 a6 h6 a7 h7 a8 h8 hc x0 x1 x2 x3)]
  unfold kernelRun0_A
  dsimp only
  sl_unfold_words
  rw [View.canon_cons_unit_zero (S := S256x128) hz, View.readCov_unit_zero (S := S256x128) _ hz]
  simp only [View.readAt_eq_ld, h2.read_unread, h3.read_unread, h4.read_unread, h5.read_unread, h7.read_unread, h8.read_unread, View.ld_unit_zero (S := S256x128) hz]

/-- The values' gradient that the first point of a head leaves. -/
theorem dv_A (hc : cond0_0 i) : out0_A_6 c i a2 h2 a3 h3 a4 h4 a5 h5 a6 h6 a7 h7 a8 h8 hc x0 x1 x2 x3 = k0_pay4 (k0_pay11 x0 x1 x3) (k0_pay6 (F := Ideal)) := by
  unfold out0_A_6
  rw [View.read_writes_eq_canon _ _ _ (cover0_A_6 c i a2 h2 a3 h3 a4 h4 a5 h5 a6 h6 a7 h7 a8 h8 hc x0 x1 x2 x3)]
  unfold kernelRun0_A
  dsimp only
  sl_unfold_words
  rw [View.canon_cons_unit_zero (S := S256x128) hz, View.readCov_unit_zero (S := S256x128) _ hz]
  simp only [View.readAt_eq_ld, h2.read_unread, h3.read_unread, h4.read_unread, h5.read_unread, h7.read_unread, h8.read_unread, View.ld_unit_zero (S := S256x128) hz]

/-- The queries' gradient that any other point leaves. -/
theorem dq_B (hc : ¬cond0_0 i) : out0_B_4 c i a2 h2 a3 h3 a4 h4 a5 h5 a6 h6 a7 h7 a8 h8 hc x0 x1 x2 x3 y z = k0_pay2 (k0_pay8 x1) (k0_pay9 x0 x1) (k0_pay10 x0 x1) (k0_pay12 x2 x3) (k0_pay13 x0 x1) := by
  unfold out0_B_4
  rw [View.read_writes_eq_canon _ _ _ (cover0_B_4 c i a2 h2 a3 h3 a4 h4 a5 h5 a6 h6 a7 h7 a8 h8 hc x0 x1 x2 x3 y z)]
  unfold kernelRun0_B
  dsimp only
  sl_unfold_words
  rw [View.canon_unit_zero (S := S256x128) hz]
  simp only [View.readAt_eq_ld, h2.read_unread, h3.read_unread, h4.read_unread, h5.read_unread, h7.read_unread, h8.read_unread, View.ld_unit_zero (S := S256x128) hz]

/-- The keys' gradient that any other point leaves. -/
theorem dk_B (hc : ¬cond0_0 i) : out0_B_5 c i a2 h2 a3 h3 a4 h4 a5 h5 a6 h6 a7 h7 a8 h8 hc x0 x1 x2 x3 y z = k0_pay3 (k0_pay7 x0) (k0_pay9 x0 x1) (k0_pay10 x0 x1) (k0_pay12 x2 x3) (k0_pay13 x0 x1) y := by
  unfold out0_B_5
  rw [View.read_writes_eq_canon _ _ _ (cover0_B_5 c i a2 h2 a3 h3 a4 h4 a5 h5 a6 h6 a7 h7 a8 h8 hc x0 x1 x2 x3 y z)]
  unfold kernelRun0_B
  dsimp only
  sl_unfold_words
  rw [View.canon_unit_zero (S := S256x128) hz]
  simp only [View.readAt_eq_ld, h2.read_unread, h3.read_unread, h4.read_unread, h5.read_unread, h7.read_unread, h8.read_unread, View.ld_unit_zero (S := S256x128) hz]

/-- The values' gradient that any other point leaves. -/
theorem dv_B (hc : ¬cond0_0 i) : out0_B_6 c i a2 h2 a3 h3 a4 h4 a5 h5 a6 h6 a7 h7 a8 h8 hc x0 x1 x2 x3 y z = k0_pay4 (k0_pay11 x0 x1 x3) z := by
  unfold out0_B_6
  rw [View.read_writes_eq_canon _ _ _ (cover0_B_6 c i a2 h2 a3 h3 a4 h4 a5 h5 a6 h6 a7 h7 a8 h8 hc x0 x1 x2 x3 y z)]
  unfold kernelRun0_B
  dsimp only
  sl_unfold_words
  rw [View.canon_unit_zero (S := S256x128) hz]
  simp only [View.readAt_eq_ld, h2.read_unread, h3.read_unread, h4.read_unread, h5.read_unread, h7.read_unread, h8.read_unread, View.ld_unit_zero (S := S256x128) hz]

end leaves

end Cert.MemoryBwd

end
-- ==== Proof.MemoryGrid.lean ====
/-
  The cross-attention into the memory, backward: the arrays that the grid of `xa_core_bwd` leaves, from what each of its
  points leaves.
-/
module

public import proofs.«01_k».proof.Proof.MemoryBwd

@[expose] public section

set_option maxRecDepth 16384

noncomputable section

open Idealize.ShloMosaic Idealize.ShloMosaic.TcCoe Idealize.SL.Sem
open Idealize.ShloMosaic.Pipeline (Dat)

namespace Cert.MemoryBwd

open Cert.Memory Cert.Kernel8Ideal Cert.Kernel8Ideal.Gen

variable (m : (ℓ : Loc nD τ sig) → Buf (Elt Ideal) ℓ) (c : Dev nD)

/-- The queries. -/
abbrev argQ : Rows := m ((c : Thread nD τ).loc main_arg0)
/-- The keys and the values. -/
abbrev argKV : Pairs := m ((c : Thread nD τ).loc main_arg1)
/-- The gradients of the outputs. -/
abbrev argG : Rows := m ((c : Thread nD τ).loc main_arg2)

/-- Row `r` of block `j` of the tokens. -/
abbrev tok (j : ℕ) (r : Fin 256) : Fin 4096 := ⟨(j * 256 + r.val) % 4096, Nat.mod_lt _ (by decide)⟩

/-- There are sixty-four points. -/
theorem point_lt (t : Fin cfg0.N) : t.val < 64 := lt_of_lt_of_eq t.isLt (show cfg0.N = 64 from N_0)

/-- A point's head. -/
abbrev hd (t : Fin cfg0.N) : Fin 4 := ⟨t.val / 16, by have := point_lt t; omega⟩

/-- The blocks that a point's windows are on. -/
theorem index_t : ∀ t : Fin cfg0.N, win0_0.index t = ![t.val % 16, t.val / 16] ∧ win0_1.index t = ![0, t.val / 16] ∧ win0_2.index t = ![0, 4 + t.val / 16] ∧ win0_3.index t = ![t.val % 16, t.val / 16]
    ∧ win0_4.index t = ![t.val % 16, t.val / 16] ∧ win0_5.index t = ![0, t.val / 16] ∧ win0_6.index t = ![0, t.val / 16] :=
  (by decide +kernel : ∀ t : Fin grid0.N, win0_0.index t = ![t.val % 16, t.val / 16] ∧ win0_1.index t = ![0, t.val / 16] ∧ win0_2.index t = ![0, 4 + t.val / 16] ∧ win0_3.index t = ![t.val % 16, t.val / 16]
    ∧ win0_4.index t = ![t.val % 16, t.val / 16] ∧ win0_5.index t = ![0, t.val / 16] ∧ win0_6.index t = ![0, t.val / 16])

section blocks

variable (t : Fin cfg0.N) (r n : Fin 256) (d : Fin 128)

/-- A point's queries. -/
theorem block_q : iblk m c 0 t (ix2 r d) = argQ m c (ix2 (tok (t.val % 16) r) (col (hd t) d)) := by
  have := point_lt t
  have := r.isLt
  blk_ext [iblk, V_main_arg0, index_t t]

/-- A point's keys. -/
theorem block_k : iblk m c 1 t (ix2 n d) = argKV m c (ix2 n (keyCol (hd t) d)) := by
  blk_ext [iblk, V_main_arg1, index_t t]

/-- A point's values. -/
theorem block_v : iblk m c 2 t (ix2 n d) = argKV m c (ix2 n (valCol (hd t) d)) := by
  blk_ext [iblk, V_main_arg1, index_t t]

/-- A point's gradients of the outputs. -/
theorem block_g : iblk m c 3 t (ix2 r d) = argG m c (ix2 (tok (t.val % 16) r) (col (hd t) d)) := by
  have := point_lt t
  have := r.isLt
  blk_ext [iblk, V_main_arg2, index_t t]

/-- A point's scores. -/
theorem score_t : blockScore (iblk m c 0 t) (iblk m c 1 t) r = score (argQ m c) (argKV m c) (hd t) (tok (t.val % 16) r) :=
  blockScore_eq (T := tok (t.val % 16)) (block_q m c t) (block_k m c t) r

/-- A point's gradients of the scores. -/
theorem slant_t : blockSlant (iblk m c 0 t) (iblk m c 1 t) (iblk m c 2 t) (iblk m c 3 t) r n = dScore (argQ m c) (argKV m c) (argG m c) (hd t) (tok (t.val % 16) r) n := by
  unfold blockSlant dScore
  rw [score_t, blockShare_eq (T := tok (t.val % 16)) (block_g m c t) (block_v m c t) r]

end blocks

/-! ## The queries' gradient -/

/-- What a point leaves of it. -/
theorem dq_after (t : Fin cfg0.N) : (outsAt0 m c t.val t.isLt).1 = k0_pay2 (k0_pay8 (iblk m c 1 t)) (k0_pay9 (iblk m c 0 t) (iblk m c 1 t)) (k0_pay10 (iblk m c 0 t) (iblk m c 1 t))
    (k0_pay12 (iblk m c 2 t) (iblk m c 3 t)) (k0_pay13 (iblk m c 0 t) (iblk m c 1 t)) := by
  by_cases h : t.val % 16 = 0
  · rw [outsAt0_A m c t h]
    dsimp only
    rw [dq_A]
  · rw [outsAt0_B m c t h]
    dsimp only
    rw [dq_B]

/-- Every block of it is some point's. -/
theorem covers : (cfg0.win 4).Covers :=
  (cfg0.win 4).covers_of_indexMap_surj rfl (by decide) fun β => by
    have h0 : (β (0 : Fin 2)).val < 16 := lt_of_lt_of_eq (β (0 : Fin 2)).isLt (by decide : (cfg0.win 4).nblk (0 : Fin 2) = 16)
    have h1 : (β (1 : Fin 2)).val < 4 := lt_of_lt_of_eq (β (1 : Fin 2)).isLt (by decide : (cfg0.win 4).nblk (1 : Fin 2) = 4)
    refine ⟨fun a => match a with
      | ⟨0, _⟩ => ⟨(β (1 : Fin 2)).val, h1⟩
      | ⟨1, _⟩ => ⟨(β (0 : Fin 2)).val, h0⟩, fun a => ?_⟩
    match a with
    | ⟨0, _⟩ => exact Sums.word_of_lt (lt_trans h0 (by decide))
    | ⟨1, _⟩ => exact Sums.word_of_lt (lt_trans h1 (by decide))

/-- The head and the column within it of a point's column. -/
theorem head_t (t : Fin cfg0.N) (d : Fin 128) (h : t.val / 16 * 128 + d.val < 512) : head ⟨t.val / 16 * 128 + d.val, h⟩ = hd t ∧ lane ⟨t.val / 16 * 128 + d.val, h⟩ = d :=
  ⟨Fin.ext (by dsimp only; omega), Fin.ext (by dsimp only; omega)⟩

/-- The array of it. -/
theorem final_dq : (dats m 0 c).arrAt 4 cfg0.N = dq (argQ m c) (argKV m c) (argG m c) := by
  refine (dats m 0 c).arrAt_eq_of_covers 4 _ covers fun t hf y => ?_
  rw [after0_4, dq_after]
  blk_simp
  have hN := point_lt t
  obtain ⟨r, d, rfl⟩ : ∃ (r : Fin 256) (d : Fin 128), y = ix2 r d := ⟨y 0, y 1, by blk_ext⟩
  have hr := r.isLt
  have e : (win0_4.blk t).view.emb (ix2 r d) = ix2 (tok (t.val % 16) r) (⟨t.val / 16 * 128 + d.val, by omega⟩ : Fin 512) := by
    blk_ext [index_t t]
  rw [e]
  refine (dq_at _ _ _ _ r d).trans ?_
  show _ = dQuery _ _ _ _ (head ⟨t.val / 16 * 128 + d.val, by omega⟩) (lane ⟨t.val / 16 * 128 + d.val, by omega⟩)
  rw [(head_t t d _).1, (head_t t d _).2]
  exact Finset.sum_congr rfl fun n _ => congrArg₂ (fun u v : EReal => u * v) (slant_t m c t r n) (block_k m c t n d)

/-! ## The keys' and the values' gradients -/

/-- What a block of tokens adds to the keys' gradient. -/
def partK (q : Rows) (kv : Pairs) (g : Rows) (h : Fin 4) (n : Fin 256) (d : Fin 128) (j : ℕ) : EReal :=
  ∑ r : Fin 256, dScore q kv g h (tok j r) n * q (ix2 (tok j r) (col h d))
/-- What a block of tokens adds to the values' gradient. -/
def partV (q : Rows) (kv : Pairs) (g : Rows) (h : Fin 4) (n : Fin 256) (d : Fin 128) (j : ℕ) : EReal :=
  ∑ r : Fin 256, g (ix2 (tok j r) (col h d)) * share (score q kv h (tok j r)) n

/-- A sum over the blocks of tokens is the sum over the tokens. -/
theorem sum_tok (f : Fin 4096 → EReal) : ∑ j ∈ Finset.range 16, ∑ r : Fin 256, f (tok j r) = ∑ t : Fin 4096, f t := by
  rw [Finset.sum_range, ← Sums.sum_fin_blocks (J := 16) (n := 256) rfl]
  exact Finset.sum_congr rfl fun j _ => Finset.sum_congr rfl fun r _ => congrArg f (Fin.ext (by dsimp only; omega))

theorem whole_k (q : Rows) (kv : Pairs) (g : Rows) (h : Fin 4) (n : Fin 256) (d : Fin 128) : ∑ j ∈ Finset.range 16, partK q kv g h n d j = dKey q kv g n h d :=
  sum_tok fun t => dScore q kv g h t n * q (ix2 t (col h d))

theorem whole_v (q : Rows) (kv : Pairs) (g : Rows) (h : Fin 4) (n : Fin 256) (d : Fin 128) : ∑ j ∈ Finset.range 16, partV q kv g h n d j = dValue q kv g n h d :=
  sum_tok fun t => g (ix2 t (col h d)) * share (score q kv h t) n

variable (n : Fin 256) (d : Fin 128)

/-- A point's addition to the keys' gradient. -/
theorem step_k (t : Fin cfg0.N) : ∑ r : Fin 256, blockSlant (iblk m c 0 t) (iblk m c 1 t) (iblk m c 2 t) (iblk m c 3 t) r n * (iblk m c 0 t : Block) (ix2 r d)
    = partK (argQ m c) (argKV m c) (argG m c) (hd t) n d (t.val % 16) :=
  Finset.sum_congr rfl fun r _ => congrArg₂ (fun u v : EReal => u * v) (slant_t m c t r n) (block_q m c t r d)

/-- A point's addition to the values' gradient. -/
theorem step_v (t : Fin cfg0.N) : ∑ r : Fin 256, (show EReal from iblk m c 3 t (ix2 r d)) * share (blockScore (iblk m c 0 t) (iblk m c 1 t) r) n
    = partV (argQ m c) (argKV m c) (argG m c) (hd t) n d (t.val % 16) :=
  Finset.sum_congr rfl fun r _ => congrArg₂ (fun u v : EReal => u * v) (block_g m c t r d) (congrArg (share · n) (score_t m c t r))

/-- What a point leaves of the two gradients: the sums over the blocks so far. -/
theorem after_t : ∀ (i : ℕ) (t : Fin cfg0.N), t.val % 16 = i →
    ((outsAt0 m c t.val t.isLt).2.1 : Block) (ix2 n d) = ∑ j ∈ Finset.range (i + 1), partK (argQ m c) (argKV m c) (argG m c) (hd t) n d j
    ∧ ((outsAt0 m c t.val t.isLt).2.2 : Block) (ix2 n d) = ∑ j ∈ Finset.range (i + 1), partV (argQ m c) (argKV m c) (argG m c) (hd t) n d j
  | 0, t, h => by
    rw [outsAt0_A m c t h]
    dsimp only
    rw [dk_A, dv_A, dk_at, dv_at, zero_k_at, zero_v_at, step_k, step_v, h]
    simp only [zero_add, Finset.sum_range_one, and_self]
  | i + 1, t, h => by
    have ih := after_t i ⟨t.val - 1, lt_of_le_of_lt (Nat.sub_le _ _) t.isLt⟩ (by dsimp only; omega)
    have e : hd ⟨t.val - 1, lt_of_le_of_lt (Nat.sub_le _ _) t.isLt⟩ = hd t := Fin.ext (by dsimp only; omega)
    rw [e] at ih
    rw [outsAt0_B m c t (by omega)]
    dsimp only
    rw [dk_B, dv_B, dk_at, dv_at, step_k, step_v, h, Finset.sum_range_succ _ (i + 1), Finset.sum_range_succ _ (i + 1)]
    exact ⟨congrArg (· + _) ih.1, congrArg (· + _) ih.2⟩

/-- Every block of the keys' gradient is some point's. -/
theorem covers5 : (cfg0.win 5).Covers :=
  (cfg0.win 5).covers_of_indexMap_surj rfl (by decide) fun β => by
    have h0 : (β (0 : Fin 2)).val < 1 := lt_of_lt_of_eq (β (0 : Fin 2)).isLt (by decide : (cfg0.win 5).nblk (0 : Fin 2) = 1)
    have h1 : (β (1 : Fin 2)).val < 4 := lt_of_lt_of_eq (β (1 : Fin 2)).isLt (by decide : (cfg0.win 5).nblk (1 : Fin 2) = 4)
    refine ⟨fun a => match a with
      | ⟨0, _⟩ => ⟨(β (1 : Fin 2)).val, h1⟩
      | ⟨1, _⟩ => ⟨0, (by decide : 0 < 16)⟩, fun a => ?_⟩
    match a with
    | ⟨0, _⟩ => exact (Nat.lt_one_iff.mp h0).symm
    | ⟨1, _⟩ => exact Sums.word_of_lt (lt_trans h1 (by decide))

/-- The array of the keys' gradient. -/
theorem final_dk : (dats m 0 c).arrAt 5 cfg0.N = dk (argQ m c) (argKV m c) (argG m c) := by
  refine (dats m 0 c).arrAt_eq_of_covers 5 _ covers5 fun t hf y => ?_
  have h1 : t.val % 16 = 15 := (flush0_5 t).mp hf
  have hN := point_lt t
  rw [after0_5]
  obtain ⟨n, d, rfl⟩ : ∃ (n : Fin 256) (d : Fin 128), y = ix2 n d := ⟨y 0, y 1, by blk_ext⟩
  have e : (win0_5.blk t).view.emb (ix2 n d) = ix2 n (⟨t.val / 16 * 128 + d.val, by omega⟩ : Fin 512) := by
    blk_ext [index_t t]
  blk_simp
  rw [e]
  refine (after_t m c n d 15 t h1).1.trans ((whole_k _ _ _ _ _ _).trans ?_)
  show _ = dKey _ _ _ n (head ⟨t.val / 16 * 128 + d.val, by omega⟩) (lane ⟨t.val / 16 * 128 + d.val, by omega⟩)
  rw [(head_t t d _).1, (head_t t d _).2]

/-- Every block of the values' gradient is some point's. -/
theorem covers6 : (cfg0.win 6).Covers :=
  (cfg0.win 6).covers_of_indexMap_surj rfl (by decide) fun β => by
    have h0 : (β (0 : Fin 2)).val < 1 := lt_of_lt_of_eq (β (0 : Fin 2)).isLt (by decide : (cfg0.win 6).nblk (0 : Fin 2) = 1)
    have h1 : (β (1 : Fin 2)).val < 4 := lt_of_lt_of_eq (β (1 : Fin 2)).isLt (by decide : (cfg0.win 6).nblk (1 : Fin 2) = 4)
    refine ⟨fun a => match a with
      | ⟨0, _⟩ => ⟨(β (1 : Fin 2)).val, h1⟩
      | ⟨1, _⟩ => ⟨0, (by decide : 0 < 16)⟩, fun a => ?_⟩
    match a with
    | ⟨0, _⟩ => exact (Nat.lt_one_iff.mp h0).symm
    | ⟨1, _⟩ => exact Sums.word_of_lt (lt_trans h1 (by decide))

/-- The array of the values' gradient. -/
theorem final_dv : (dats m 0 c).arrAt 6 cfg0.N = dv (argQ m c) (argKV m c) (argG m c) := by
  refine (dats m 0 c).arrAt_eq_of_covers 6 _ covers6 fun t hf y => ?_
  have h1 : t.val % 16 = 15 := (flush0_6 t).mp hf
  have hN := point_lt t
  rw [after0_6]
  obtain ⟨n, d, rfl⟩ : ∃ (n : Fin 256) (d : Fin 128), y = ix2 n d := ⟨y 0, y 1, by blk_ext⟩
  have e : (win0_6.blk t).view.emb (ix2 n d) = ix2 n (⟨t.val / 16 * 128 + d.val, by omega⟩ : Fin 512) := by
    blk_ext [index_t t]
  blk_simp
  rw [e]
  refine (after_t m c n d 15 t h1).2.trans ((whole_v _ _ _ _ _ _).trans ?_)
  show _ = dValue _ _ _ n (head ⟨t.val / 16 * 128 + d.val, by omega⟩) (lane ⟨t.val / 16 * 128 + d.val, by omega⟩)
  rw [(head_t t d _).1, (head_t t d _).2]

end Cert.MemoryBwd

end
-- ==== Proof.MemoryClaims.lean ====
/-
  The cross-attention into the memory: the frames of the two references, and that each call leaves what its reference
  leaves.
-/
module

public import proofs.«01_k».proof.Defs
public import proofs.«01_k».proof.Proof.MemoryFwd
public import proofs.«01_k».proof.Proof.MemoryRef
public import proofs.«01_k».proof.Proof.MemoryGrid
public import Idealize.ShloMosaic.Adequacy
public import Idealize.ShloMosaic.Init
public import Idealize.ShloMosaic.Lib.Quiescent

@[expose] public section

noncomputable section

open Idealize.ShloMosaic Idealize.SL.Sem

namespace Cert.MemoryBwd

/-- The reference terminates without a fault and leaves its arguments unchanged; it has no semaphore. -/
theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The two programs leave the same gradients of the queries, of the keys and of the values. -/
theorem same : Cert.algebraic_Kernel8Ideal_Reference8Ideal := by
  intro m ρ m' ρ' _ hagree
  refine ⟨fun c => Memory.dq (argQ m c) (argKV m c) (argG m c), fun c => Memory.dk (argQ m c) (argKV m c) (argG m c), fun c => Memory.dv (argQ m c) (argKV m c) (argG m c),
    (θ_run Cert.Kernel8Ideal.defs _ _).mono (fun r h c => ⟨(h c).1.trans (final_dq m c), (h c).2.1.trans (final_dk m c), (h c).2.2.1.trans (final_dv m c), (h c).2.2.2⟩)
      (Cert.Kernel8Ideal.Value.run_blocks (F := Ideal) m ρ),
    (θ_run Cert.Reference8Ideal.defs _ _).mono (fun r h c => ?_) (Cert.Reference8Ideal.Value.run (F := Ideal) m' ρ')⟩
  have eQ : MemoryRef.argQ m' c = argQ m c := (hagree c).1
  have eKV : MemoryRef.argKV m' c = argKV m c := (hagree c).2.1
  have eG : MemoryRef.argG m' c = argG m c := (hagree c).2.2
  obtain ⟨h0, h1, h2, h3⟩ := h c
  beta_reduce
  rw [← eQ, ← eKV, ← eG]
  exact ⟨h0.trans (MemoryRef.ref_dq m' c), h1.trans (MemoryRef.ref_dk m' c), h2.trans (MemoryRef.ref_dv m' c), h3⟩

end Cert.MemoryBwd

namespace Cert.MemoryFwd

/-- The reference terminates without a fault and leaves its arguments unchanged; it has no semaphore. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The two programs leave the same array. -/
theorem same : Cert.algebraic_Kernel9Ideal_Reference9Ideal := by
  intro m ρ m' ρ' _ hagree
  refine ⟨fun c => Memory.out (argQ m c) (argKV m c),
    (θ_run Cert.Kernel9Ideal.defs _ _).mono (fun r h c => ⟨(h c).1.trans (final m c), (h c).2⟩) (Cert.Kernel9Ideal.Value.run_blocks (F := Ideal) m ρ),
    (θ_run Cert.Reference9Ideal.defs _ _).mono (fun r h c => ⟨(h c).1.trans ((ref_eq _ _).trans (congrArg₂ Memory.out (hagree c).1 (hagree c).2)), (h c).2⟩)
      (Cert.Reference9Ideal.Value.run (F := Ideal) m' ρ')⟩

end Cert.MemoryFwd

end
-- ==== Proof.Norm.lean ====
/-
  The gradient of the root-mean-square norm of a row, with the residual stream's beside it.
-/
module

public import Idealize.ShloMosaic.Lib.Pointwise

@[expose] public section

noncomputable section

open Idealize.ShloMosaic

namespace Cert.Norm

/-- 4096 tokens of 2048 lanes. -/
abbrev Tokens := FVec Ideal ⟨2, ![4096, 2048]⟩ .f32
/-- One row: the norm's gain. -/
abbrev Gain := FVec Ideal ⟨2, ![1, 2048]⟩ .f32
/-- The lanes of one row. -/
abbrev Lanes := Fin 2048 → EReal

/-- The number of lanes, 2048. -/
def width : EReal := Ideal.ofBits FTy.f32 0x45000000#32
/-- What is added under the root. -/
def eps : EReal := Ideal.ofBits FTy.f32 0x358637BD#32
/-- Minus a half. -/
def minusHalf : EReal := Ideal.ofBits FTy.f32 0xBF000000#32

/-- The mean square of a row, and what is added to it. -/
def spread (x : Lanes) : EReal := Ideal.div (∑ j, x j * x j) width + eps

/-- What the mean square's gradient gives to each lane, before the factor `x j`; `h` is the gradient of the normed row. -/
def pull (x g h : Lanes) : EReal :=
  Ideal.div ((∑ j, x j * (h j * g j)) * (minusHalf * Ideal.div (Ideal.rsqrt (spread x)) (spread x))) width

/-- The gradient of a row that goes on by itself (gradient `u`) and normed (gradient `h`). -/
def dRow (x g u h : Lanes) (j : Fin 2048) : EReal :=
  u j + h j * g j * Ideal.rsqrt (spread x) + x j * pull x g h + pull x g h * x j

/-- What a row adds to the gain's gradient. -/
def dGain (x h : Lanes) (j : Fin 2048) : EReal := x j * Ideal.rsqrt (spread x) * h j

/-- A row of an array. -/
def row {n : ℕ} (a : FVec Ideal ⟨2, ![n, 2048]⟩ .f32) (t : Fin n) : Lanes := fun j => a (ix2 t j)

/-- The gradient of the tokens. -/
def dTokens (x : Tokens) (g : Gain) (u h : Tokens) : Tokens := fun i => dRow (row x (i 0)) (row g 0) (row u (i 0)) (row h (i 0)) (i 1)

/-- The gradient of the gain. -/
def dGains (x h : Tokens) : Gain := fun i => ∑ t : Fin 4096, dGain (row x t) (row h t) (i 1)

end Cert.Norm

end
-- ==== Proof.NormLoop.lean ====
/-
  The gradient of the root-mean-square norm: the loop over a block's rows, 64 at a time.
-/
module

public import proofs.«01_k».proof.Proof.Gen.Kernel10Ideal.Value
public import proofs.«01_k».proof.Proof.Norm
public import Idealize.ShloMosaic.Lib.Tactic
public import Idealize.ShloMosaic.Lib.Writes

@[expose] public section

set_option maxRecDepth 16384

noncomputable section

open Idealize.ShloMosaic Idealize.ShloMosaic.TcCoe Idealize.SL.Sem

namespace Cert.NormLoop

open Cert.Norm Cert.Kernel10Ideal Cert.Kernel10Ideal.Gen
open Finset (range)

/-! ### What 64 rows give -/

section Payloads

variable (g : FVec Ideal S1x2048 .f32) (x u h : FVec Ideal S64x2048 .f32) (r : Fin 64) (j : Fin 2048)

theorem pay4_at : k0_pay4 (F := Ideal) x (ix2 r 0) = spread (row x r) := by
  unfold spread width eps row
  pointwise [k0_pay4]

theorem pay5_at : k0_pay5 (F := Ideal) x (ix2 r 0) = Ideal.rsqrt (spread (row x r)) := by
  refine Eq.trans ?_ (congrArg Ideal.rsqrt (pay4_at x r))
  pointwise [k0_pay5]

/-- The rows' gradients. -/
theorem pay6_at : k0_pay6 (F := Ideal) g x u h (ix2 r j) = dRow (row x r) (row g 0) (row u r) (row h r) j := by
  unfold dRow pull
  rw [← pay5_at, ← pay4_at]
  unfold minusHalf width row
  pointwise [k0_pay6]
  simp only [Finset.univ_unique, Finset.sum_singleton]
  rfl

/-- What the rows add to the gain's gradient. -/
theorem pay7_at (acc : FVec Ideal S1x2048 .f32) : k0_pay7 (F := Ideal) acc x h (ix2 0 j) = acc (ix2 0 j) + ∑ r, dGain (row x r) (row h r) j := by
  unfold dGain
  simp only [← pay5_at]
  unfold row
  pointwise [k0_pay7]

end Payloads

/-! ### Loads and stores of 64 rows -/

section Rows

variable {sig : RefSig} {κ : Kind} {sp : Space} {e : EltTy} {Val : EltTy → Type}

theorem load_rows (v : View sig κ sp S256x2048 e) (f : v.ty.Contents Val) {off : Fin 2 → ℕ} {o : ℕ} (ho : off = ![o, 0])
    (inb : ∀ a, off a + S64x2048.size a ≤ S256x2048.size a) (s : Fin 64) (j : Fin 2048) (hs : o + s.val < 256) :
    v.readAt Val (Rect.unit (s := S256x2048) off S64x2048.size inb).toLoadRect f (ix2 s j) = v.read Val f (ix2 ⟨o + s.val, hs⟩ j) := by
  subst ho
  rw [View.readAt_apply]
  congr 1
  funext a
  apply Fin.ext
  match a with
  | ⟨0, _⟩ => show o + 1 * s.val = o + s.val; omega
  | ⟨1, _⟩ => show 0 + 1 * j.val = j.val; omega

/-- The stored rows hold the payload. -/
theorem store_hit (v : View sig κ sp S256x2048 e) (f : v.ty.Contents Val) {off : Fin 2 → ℕ} {o : ℕ} (ho : off = ![o, 0])
    (inb : ∀ a, off a + S64x2048.size a ≤ S256x2048.size a) (w : (Rect.unit (s := S256x2048) off S64x2048.size inb).shape.Idx → Val e)
    (L : List (View.Piece Val S256x2048 e)) (s : Fin 64) (j : Fin 2048) (hs : o + s.val < 256) :
    v.read Val (v.writes Val f (⟨Rect.unit (s := S256x2048) off S64x2048.size inb, w⟩ :: L)) (ix2 ⟨o + s.val, hs⟩ j) = w (ix2 s j) := by
  refine View.read_writes_cons_hit v f _ w L _ _ ?_
  subst ho
  funext a
  apply Fin.ext
  rw [Rect.emb_apply]
  match a with
  | ⟨0, _⟩ => show o + 1 * s.val = o + s.val; omega
  | ⟨1, _⟩ => show 0 + 1 * j.val = j.val; omega

/-- The rows before the stored ones hold what they held. -/
theorem store_miss (v : View sig κ sp S256x2048 e) (f : v.ty.Contents Val) {off : Fin 2 → ℕ} {o : ℕ} (ho : off = ![o, 0])
    (inb : ∀ a, off a + S64x2048.size a ≤ S256x2048.size a) (w : (Rect.unit (s := S256x2048) off S64x2048.size inb).shape.Idx → Val e)
    (L : List (View.Piece Val S256x2048 e)) (s : Fin 256) (j : Fin 2048) (hs : s.val < o) :
    v.read Val (v.writes Val f (⟨Rect.unit (s := S256x2048) off S64x2048.size inb, w⟩ :: L)) (ix2 s j) = v.read Val (v.writes Val f L) (ix2 s j) := by
  refine View.read_writes_cons_miss v f _ L _ ?_
  subst ho
  rw [Rect.mem_set_unit]
  exact fun hy => absurd (hy 0).1 (Nat.not_le.mpr hs)

end Rows

/-! ### The loop -/

/-- Row `s` of a block's addend to the gain's gradient. -/
def gain (x h : FVec Ideal S256x2048 .f32) (j : Fin 2048) (s : ℕ) : EReal :=
  if hs : s < 256 then dGain (row x ⟨s, hs⟩) (row h ⟨s, hs⟩) j else 0

/-- The state when a block's rows below `S` are done: what is carried, and the block of gradients. -/
structure Inv (g : FVec Ideal S1x2048 .f32) (x u h : FVec Ideal S256x2048 .f32) (S : ℕ) (acc : FVec Ideal S1x2048 .f32) (b : FVec Ideal S256x2048 .f32) : Prop where
  gain : ∀ j, acc (ix2 0 j) = ∑ s ∈ range S, gain x h j s
  rows : ∀ (s : Fin 256) (j : Fin 2048), s.val < S → b (ix2 s j) = dRow (row x s) (row g 0) (row u s) (row h s) j

theorem trips_eq : k0_t1_loop.trips = 4 := by decide +kernel

section Loop

variable (c : Dev nD) (i : grid0.Coords)
  (arg1 : Memref sig .tc .vmem S256x2048 .f32) (harg1 : arg1.IsWhole) (arg2 : Memref sig .tc .vmem S1x2048 .f32) (harg2 : arg2.IsWhole)
  (arg3 : Memref sig .tc .vmem S256x2048 .f32) (harg3 : arg3.IsWhole) (arg4 : Memref sig .tc .vmem S256x2048 .f32) (harg4 : arg4.IsWhole)
  (arg5 : Memref sig .tc .vmem S256x2048 .f32) (harg5 : arg5.IsWhole) (arg6 : Memref sig .tc .vmem S1x2048 .f32) (harg6 : arg6.IsWhole)
  (g : FVec Ideal S1x2048 .f32) (X1 : BufTy.Contents (Elt Ideal) arg1.view.ty) (X3 : BufTy.Contents (Elt Ideal) arg3.view.ty)
  (X4 : BufTy.Contents (Elt Ideal) arg4.view.ty)
  {sig' : RefSig} {κ : Kind} {sp : Space} (v : View sig' κ sp S256x2048 .f32) (G : BufTy.Contents (Elt Ideal) v.ty)

/-- A loaded row is the block's. -/
theorem row_load (v : View sig .tc .vmem S256x2048 .f32) (f : v.ty.Contents (Elt Ideal)) (k : Fin k0_t1_loop.trips) (inb : _) (s : Fin 64) (hs : 64 * k.val + s.val < 256) :
    row (n := 64) (v.readAt (Elt Ideal) (Rect.unit (s := S256x2048) (k0_off1 k) S64x2048.size inb).toLoadRect f) s
      = row (n := 256) (v.read (Elt Ideal) f) ⟨64 * k.val + s.val, hs⟩ :=
  funext fun j => load_rows v f (k0_off1_eq k) inb s j hs

/-- One trip takes the state 64 rows further. -/
theorem trip_inv (k : Fin k0_t1_loop.trips) {acc : FVec Ideal S1x2048 .f32} {L : List (View.Piece (Elt Ideal) S256x2048 .f32)}
    (I : Inv g (arg1.view.read (Elt Ideal) X1) (arg3.view.read (Elt Ideal) X3) (arg4.view.read (Elt Ideal) X4) (64 * k.val) acc
      (v.read (Elt Ideal) (v.writes (Elt Ideal) G L))) :
    Inv g (arg1.view.read (Elt Ideal) X1) (arg3.view.read (Elt Ideal) X3) (arg4.view.read (Elt Ideal) X4) (64 * (k.val + 1))
      (tripR_k0_t1 (F := Ideal) Variants.none c none i arg1 harg1 arg2 harg2 arg3 harg3 arg4 harg4 arg5 harg5 arg6 harg6 g X1 X3 X4 k acc)
      (v.read (Elt Ideal) (v.writes (Elt Ideal) G
        (tripL_k0_t1 (F := Ideal) Variants.none c none i arg1 harg1 arg2 harg2 arg3 harg3 arg4 harg4 arg5 harg5 arg6 harg6 g X1 X3 X4 k acc ++ L))) := by
  have hk : k.val < 4 := lt_of_lt_of_eq k.isLt trips_eq
  unfold tripR_k0_t1 tripL_k0_t1 trip_k0_t1
  dsimp only
  refine ⟨fun j => ?_, fun s j hs => ?_⟩
  · refine (pay7_at ..).trans ?_
    rw [I.gain, Nat.mul_add, Nat.mul_one, Finset.sum_range_add]
    refine congrArg _ ((Finset.sum_congr rfl fun s _ => ?_).trans (Fin.sum_univ_eq_sum_range (fun s => NormLoop.gain _ _ j (64 * k.val + s)) 64))
    have hs : 64 * k.val + s.val < 256 := by have := s.isLt; omega
    rw [row_load _ _ k _ s hs, row_load _ _ k _ s hs]
    unfold NormLoop.gain
    rw [dif_pos hs]
  · by_cases hb : s.val < 64 * k.val
    · exact (store_miss _ _ (k0_off1_eq k) _ _ _ s j hb).trans (I.rows s j hb)
    · obtain ⟨n, hn⟩ := Nat.exists_eq_add_of_le (Nat.le_of_not_lt hb)
      have hn' : n < 64 := by omega
      have e : s = ⟨64 * k.val + (⟨n, hn'⟩ : Fin 64).val, by show 64 * k.val + n < 256; omega⟩ := Fin.ext hn
      rw [e]
      refine (store_hit _ _ (k0_off1_eq k) _ _ _ ⟨n, hn'⟩ j _).trans ?_
      refine (pay6_at ..).trans ?_
      rw [row_load _ _ k _ ⟨n, hn'⟩, row_load _ _ k _ ⟨n, hn'⟩, row_load _ _ k _ ⟨n, hn'⟩]

/-- The state before trip `k`. -/
theorem state_inv (init : FVec Ideal S1x2048 .f32) (h0 : ∀ j, init (ix2 0 j) = 0) (k : ℕ) (hk : k ≤ 4) :
    Inv g (arg1.view.read (Elt Ideal) X1) (arg3.view.read (Elt Ideal) X3) (arg4.view.read (Elt Ideal) X4) (64 * k)
      (st_k0_t1 (F := Ideal) Variants.none c none i arg1 harg1 arg2 harg2 arg3 harg3 arg4 harg4 arg5 harg5 arg6 harg6 g X1 X3 X4 init k).1
      (v.read (Elt Ideal) (v.writes (Elt Ideal) G
        (st_k0_t1 (F := Ideal) Variants.none c none i arg1 harg1 arg2 harg2 arg3 harg3 arg4 harg4 arg5 harg5 arg6 harg6 g X1 X3 X4 init k).2)) := by
  induction k with
  | zero => exact ⟨fun j => (h0 j).trans (Finset.sum_range_zero _).symm, fun s j hs => absurd hs (Nat.not_lt_zero _)⟩
  | succ k ih =>
    rw [st_k0_t1_succ (F := Ideal) Variants.none c none i arg1 harg1 arg2 harg2 arg3 harg3 arg4 harg4 arg5 harg5 arg6 harg6 g X1 X3 X4 init
      ⟨k, lt_of_lt_of_eq hk trips_eq.symm⟩]
    exact trip_inv c i arg1 harg1 arg2 harg2 arg3 harg3 arg4 harg4 arg5 harg5 arg6 harg6 g X1 X3 X4 v G ⟨k, lt_of_lt_of_eq hk trips_eq.symm⟩ (ih (by omega))

end Loop

end Cert.NormLoop

end
-- ==== Proof.NormPoint.lean ====
/-
  The gradient of the root-mean-square norm: what each grid point leaves.
-/
module

public import proofs.«01_k».proof.Proof.NormLoop

@[expose] public section

set_option maxRecDepth 16384

noncomputable section

open Idealize.ShloMosaic Idealize.ShloMosaic.TcCoe Idealize.SL.Sem

namespace Cert.NormPoint

open Cert.Norm Cert.NormLoop Cert.Kernel10Ideal Cert.Kernel10Ideal.Gen
open Finset (range)

theorem hz : (![0, 0] : Fin 2 → ℕ) = fun _ => 0 := by decide

theorem pay1_at (j : Fin 2048) : k0_pay1 (F := Ideal) (ix2 0 j) = 0 := by
  pointwise [k0_pay1]

theorem pay2_at (j : Fin 2048) : k0_pay2 (F := Ideal) (ix2 0 j) = 0 := by
  pointwise [k0_pay2]

theorem pay3_at (a b : FVec Ideal S1x2048 .f32) (j : Fin 2048) : k0_pay3 (F := Ideal) a b (ix2 0 j) = b (ix2 0 j) + a (ix2 0 j) := by
  pointwise [k0_pay3]

section leaves

variable (c : Dev nD) (i : grid0.Coords)
  (a1 : Memref sig .tc .vmem S256x2048 .f32) (h1 : a1.IsWhole) (a2 : Memref sig .tc .vmem S1x2048 .f32) (h2 : a2.IsWhole)
  (a3 : Memref sig .tc .vmem S256x2048 .f32) (h3 : a3.IsWhole) (a4 : Memref sig .tc .vmem S256x2048 .f32) (h4 : a4.IsWhole)
  (a5 : Memref sig .tc .vmem S256x2048 .f32) (h5 : a5.IsWhole) (a6 : Memref sig .tc .vmem S1x2048 .f32) (h6 : a6.IsWhole)
  (x : FVec Ideal S256x2048 .f32) (g : FVec Ideal S1x2048 .f32) (u h : FVec Ideal S256x2048 .f32) (y : FVec Ideal S1x2048 .f32)

/-- The state after the last trip. -/
theorem state_end {κ : Kind} {sp : Space} (v : View sig κ sp S256x2048 .f32) (G : BufTy.Contents (Elt Ideal) v.ty) :
    Inv g x u h 256
      (st_k0_t1 (F := Ideal) Variants.none c none i a1 h1 a2 h2 a3 h3 a4 h4 a5 h5 a6 h6 g (h1.unread x) (h3.unread u) (h4.unread h) k0_pay2 4).1
      (v.read (Elt Ideal) (v.writes (Elt Ideal) G
        (st_k0_t1 (F := Ideal) Variants.none c none i a1 h1 a2 h2 a3 h3 a4 h4 a5 h5 a6 h6 g (h1.unread x) (h3.unread u) (h4.unread h) k0_pay2 4).2)) := by
  have I := state_inv c i a1 h1 a2 h2 a3 h3 a4 h4 a5 h5 a6 h6 g (h1.unread x) (h3.unread u) (h4.unread h) v G k0_pay2 pay2_at 4 (le_refl 4)
  rw [h1.read_unread, h3.read_unread, h4.read_unread] at I
  exact I

/-- The rows' gradients that the first point leaves. -/
theorem rows_A (hc : cond0_0 i) (s : Fin 256) (j : Fin 2048) :
    out0_A_4 (F := Ideal) c i a1 h1 a2 h2 a3 h3 a4 h4 a5 h5 a6 h6 hc x g u h (ix2 s j) = dRow (row x s) (row g 0) (row u s) (row h s) j := by
  refine Eq.trans ?_ ((state_end c i a1 h1 a2 h2 a3 h3 a4 h4 a5 h5 a6 h6 x g u h VO0_4 VO0_4.junk).rows s j s.isLt)
  unfold out0_A_4 kernelRun0_A
  dsimp only
  sl_unfold_words
  simp only [View.readAt_eq_ld, h2.read_unread, View.ld_unit_zero (S := S1x2048) hz]
  rfl

/-- What the first point leaves for the gain. -/
theorem gain_A (hc : cond0_0 i) (j : Fin 2048) :
    out0_A_5 (F := Ideal) c i a1 h1 a2 h2 a3 h3 a4 h4 a5 h5 a6 h6 hc x g u h (ix2 0 j) = ∑ s ∈ range 256, gain x h j s := by
  refine Eq.trans ?_ ((state_end c i a1 h1 a2 h2 a3 h3 a4 h4 a5 h5 a6 h6 x g u h VO0_4 VO0_4.junk).gain j)
  refine Eq.trans ?_ (zero_add _)
  refine Eq.trans ?_ (congrArg (· + _) (pay1_at j))
  refine Eq.trans ?_ (pay3_at _ _ j)
  unfold out0_A_5
  rw [View.read_writes_eq_canon _ _ _ (cover0_A_5 (F := Ideal) c i a1 h1 a2 h2 a3 h3 a4 h4 a5 h5 a6 h6 hc x g u h)]
  unfold kernelRun0_A
  dsimp only
  sl_unfold_words
  rw [View.canon_cons_unit_zero (S := S1x2048) hz, View.readCov_unit_zero (S := S1x2048) _ hz]
  simp only [View.readAt_eq_ld, h2.read_unread, View.ld_unit_zero (S := S1x2048) hz]
  rfl

/-- The rows' gradients that any other point leaves. -/
theorem rows_B (hc : ¬cond0_0 i) (s : Fin 256) (j : Fin 2048) :
    out0_B_4 (F := Ideal) c i a1 h1 a2 h2 a3 h3 a4 h4 a5 h5 a6 h6 hc x g u h y (ix2 s j) = dRow (row x s) (row g 0) (row u s) (row h s) j := by
  refine Eq.trans ?_ ((state_end c i a1 h1 a2 h2 a3 h3 a4 h4 a5 h5 a6 h6 x g u h VO0_4 VO0_4.junk).rows s j s.isLt)
  unfold out0_B_4 kernelRun0_B
  dsimp only
  sl_unfold_words
  simp only [View.readAt_eq_ld, h2.read_unread, View.ld_unit_zero (S := S1x2048) hz]
  rfl

/-- Any other point adds to what the point before left for the gain. -/
theorem gain_B (hc : ¬cond0_0 i) (j : Fin 2048) :
    out0_B_5 (F := Ideal) c i a1 h1 a2 h2 a3 h3 a4 h4 a5 h5 a6 h6 hc x g u h y (ix2 0 j) = y (ix2 0 j) + ∑ s ∈ range 256, gain x h j s := by
  refine Eq.trans ?_ (congrArg (_ + ·) ((state_end c i a1 h1 a2 h2 a3 h3 a4 h4 a5 h5 a6 h6 x g u h VO0_4 VO0_4.junk).gain j))
  refine Eq.trans ?_ (pay3_at _ _ j)
  unfold out0_B_5
  rw [View.read_writes_eq_canon _ _ _ (cover0_B_5 (F := Ideal) c i a1 h1 a2 h2 a3 h3 a4 h4 a5 h5 a6 h6 hc x g u h y)]
  unfold kernelRun0_B
  dsimp only
  sl_unfold_words
  rw [View.canon_unit_zero (S := S1x2048) hz]
  simp only [View.readAt_eq_ld, h2.read_unread, h6.read_unread, View.ld_unit_zero (S := S1x2048) hz]
  rfl

end leaves

end Cert.NormPoint

end
-- ==== Proof.NormRef.lean ====
/-
  The gradient of the root-mean-square norm: what the reference leaves.
-/
module

public import proofs.«01_k».proof.Proof.Gen.Reference10Ideal.Run
public import proofs.«01_k».proof.Proof.Norm
public import Idealize.ShloMosaic.Lib.Tactic

@[expose] public section

set_option maxRecDepth 16384

noncomputable section

open Idealize.ShloMosaic Idealize.ShloMosaic.TcCoe Idealize.SL.Sem

namespace Cert.NormRef

open Cert.Norm Cert.Reference10Ideal Cert.Reference10Ideal.Gen

/-- The mean squares. -/
def refSpread (x : FVec Ideal S4096x2048 .f32) : FVec Ideal S4096x1 .f32 :=
  addf (Host.divf (broadcastInDim S4096x1 ![0] bcast_S4096_S4096x1_0 (Host.reduceAdd (mulf x x) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))

/-- The gradients times the gain. -/
def refGained (g : FVec Ideal S1x2048 .f32) (h : FVec Ideal S4096x2048 .f32) : FVec Ideal S4096x2048 .f32 :=
  mulf h (broadcastInDim S4096x2048 ![0, 1] bcast_S1x2048_S4096x2048_0_1 g)

/-- What the mean squares' gradients give to the lanes. -/
def refPull (x w : FVec Ideal S4096x2048 .f32) (s : FVec Ideal S4096x1 .f32) : FVec Ideal S4096x2048 .f32 :=
  broadcastInDim S4096x2048 ![0] bcast_S4096_S4096x2048_0 (Host.reduceAdd (Host.divf (mulf (shapeCast S4096x1 (Host.reduceAdd (mulf x w) (constant S_ .f32 0x00000000#32) reducesTo_S4096x2048_S4096_d1 h_S_) shapeCasts_S4096_S4096x1)
    (mulf (broadcastInDim S4096x1 ![] bcast_S_S4096x1 (constant S_ .f32 0xBF000000#32)) (Host.divf (Host.rsqrt s) s))) (broadcastInDim S4096x1 ![] bcast_S_S4096x1 (constant S_ .f32 0x45000000#32))) (constant S_ .f32 0x00000000#32) reducesTo_S4096x1_S4096_d1 h_S_)

/-- The gradient of the tokens. -/
def refTokens (x u w p : FVec Ideal S4096x2048 .f32) (s : FVec Ideal S4096x1 .f32) : FVec Ideal S4096x2048 .f32 :=
  addf (addf (addf u (mulf w (broadcastInDim S4096x2048 ![0, 1] bcast_S4096x1_S4096x2048_0_1 (Host.rsqrt s)))) (mulf x p)) (mulf p x)

/-- The gradient of the gain. -/
def refGains (x h : FVec Ideal S4096x2048 .f32) (s : FVec Ideal S4096x1 .f32) : FVec Ideal S1x2048 .f32 :=
  shapeCast S1x2048 (Host.reduceAdd (mulf (mulf x (broadcastInDim S4096x2048 ![0, 1] bcast_S4096x1_S4096x2048_0_1 (Host.rsqrt s))) h) (constant S_ .f32 0x00000000#32) reducesTo_S4096x2048_S2048_d0 h_S_) shapeCasts_S2048_S1x2048

variable (x u h w p : FVec Ideal S4096x2048 .f32) (g : FVec Ideal S1x2048 .f32) (s : FVec Ideal S4096x1 .f32) (t : Fin 4096) (j : Fin 2048)

theorem refSpread_at : refSpread x (ix2 t 0) = spread (row x t) := by
  unfold spread width eps row
  pointwise [refSpread]

theorem refGained_at : refGained g h (ix2 t j) = row h t j * row g 0 j := by
  unfold row
  pointwise [refGained]

theorem refPull_at : refPull x w s (ix2 t j) = Ideal.div ((∑ j, x (ix2 t j) * w (ix2 t j)) * (minusHalf * Ideal.div (Ideal.rsqrt (s (ix2 t 0))) (s (ix2 t 0)))) width := by
  unfold minusHalf width
  pointwise [refPull]
  exact Fin.sum_univ_one _

theorem refTokens_at : refTokens x u w p s (ix2 t j) = u (ix2 t j) + w (ix2 t j) * Ideal.rsqrt (s (ix2 t 0)) + x (ix2 t j) * p (ix2 t j) + p (ix2 t j) * x (ix2 t j) := by
  pointwise [refTokens]

theorem refGains_at : refGains x h s (ix2 0 j) = ∑ t : Fin 4096, x (ix2 t j) * Ideal.rsqrt (s (ix2 t 0)) * h (ix2 t j) := by
  pointwise [refGains]

/-- The tokens' gradient is that of the rows. -/
theorem tokens_eq : refTokens x u (refGained g h) (refPull x (refGained g h) (refSpread x)) (refSpread x) = dTokens x g u h := by
  funext i
  obtain ⟨t, j, rfl⟩ : ∃ (t : Fin 4096) (j : Fin 2048), i = ix2 t j := ⟨i 0, i 1, eq_ix2 i⟩
  rw [refTokens_at, refPull_at, refSpread_at]
  simp only [refGained_at]
  rfl

/-- The gain's gradient is the rows' sum. -/
theorem gains_eq : refGains x h (refSpread x) = dGains x h := by
  funext i
  obtain ⟨r, j, rfl⟩ : ∃ (r : Fin 1) (j : Fin 2048), i = ix2 r j := ⟨i 0, i 1, eq_ix2 i⟩
  obtain rfl : r = 0 := Subsingleton.elim _ _
  rw [refGains_at]
  simp only [refSpread_at]
  rfl

end Cert.NormRef

end
-- ==== Proof.NormClaims.lean ====
/-
  The gradient of the root-mean-square norm: the arrays that the grid leaves, the frame of the reference, and that the
  two programs leave the same.
-/
module

public import proofs.«01_k».proof.Defs
public import proofs.«01_k».proof.Proof.NormPoint
public import proofs.«01_k».proof.Proof.NormRef
public import proofs.«01_k».proof.Proof.Sums
public import Idealize.ShloMosaic.Lib.Pipeline.Covers
public import Idealize.ShloMosaic.Adequacy
public import Idealize.ShloMosaic.Init
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.NormGrid

open Cert.Norm Cert.NormLoop Cert.NormPoint Cert.Kernel10Ideal Cert.Kernel10Ideal.Gen
open Finset (range)

variable (m : (ℓ : Loc nD τ sig) → Buf (Elt Ideal) ℓ) (c : Dev nD)

/-- The tokens. -/
abbrev argX : Tokens := m ((c : Thread nD τ).loc main_arg0)
/-- The gain. -/
abbrev argGain : Gain := m ((c : Thread nD τ).loc main_arg1)
/-- The gradient of the tokens that go on by themselves. -/
abbrev argU : Tokens := m ((c : Thread nD τ).loc main_arg2)
/-- The gradient of the normed tokens. -/
abbrev argH : Tokens := m ((c : Thread nD τ).loc main_arg3)

/-- Row `r` of block `j` of the tokens. -/
abbrev tok (j : ℕ) (r : Fin 256) : Fin 4096 := ⟨(j * 256 + r.val) % 4096, Nat.mod_lt _ (by decide)⟩

/-- There are sixteen points. -/
theorem point_lt (t : Fin cfg0.N) : t.val < 16 := lt_of_lt_of_eq t.isLt (show cfg0.N = 16 from N_0)

/-- The blocks that a point's windows are on. -/
theorem index_t : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] :=
  (by decide +kernel : ∀ t : Fin grid0.N, win0_0.index t = ![t.val, 0] ∧ win0_1.index t = ![0, 0] ∧ win0_2.index t = ![t.val, 0] ∧ win0_3.index t = ![t.val, 0]
    ∧ win0_4.index t = ![t.val, 0] ∧ win0_5.index t = ![0, 0])

section blocks

variable (t : Fin cfg0.N) (r : Fin 256)

theorem row_x : row (n := 256) (iblk m c 0 t) r = row (argX m c) (tok t.val r) := by
  have := point_lt t
  have := r.isLt
  funext j
  unfold row
  blk_ext [iblk, V_main_arg0, index_t t]

theorem row_gain : row (n := 1) (iblk m c 1 t) 0 = row (argGain m c) 0 := by
  funext j
  unfold row
  blk_ext [iblk, V_main_arg1, index_t t]

theorem row_u : row (n := 256) (iblk m c 2 t) r = row (argU m c) (tok t.val r) := by
  have := point_lt t
  have := r.isLt
  funext j
  unfold row
  blk_ext [iblk, V_main_arg2, index_t t]

theorem row_h : row (n := 256) (iblk m c 3 t) r = row (argH m c) (tok t.val r) := by
  have := point_lt t
  have := r.isLt
  funext j
  unfold row
  blk_ext [iblk, V_main_arg3, index_t t]

end blocks

/-! ## The tokens' gradient -/

/-- What a point leaves of it. -/
theorem rows_after (t : Fin cfg0.N) (r : Fin 256) (j : Fin 2048) :
    ((outsAt0 m c t.val t.isLt).1 : FVec Ideal S256x2048 .f32) (ix2 r j) = dTokens (argX m c) (argGain m c) (argU m c) (argH m c) (ix2 (tok t.val r) j) := by
  have e : dTokens (argX m c) (argGain m c) (argU m c) (argH m c) (ix2 (tok t.val r) j)
      = dRow (row (n := 256) (iblk m c 0 t) r) (row (n := 1) (iblk m c 1 t) 0) (row (n := 256) (iblk m c 2 t) r) (row (n := 256) (iblk m c 3 t) r) j := by
    rw [row_x, row_gain, row_u, row_h]
    rfl
  rw [e]
  by_cases h : t.val % 16 = 0
  · rw [outsAt0_A m c t h]
    exact rows_A ..
  · rw [outsAt0_B m c t h]
    exact rows_B ..

/-- Every block of it is some point's. -/
theorem covers4 : (cfg0.win 4).Covers :=
  (cfg0.win 4).covers_of_indexMap_surj rfl (by decide) fun β => by
    have h0 : (β (0 : Fin 2)).val < 16 := lt_of_lt_of_eq (β (0 : Fin 2)).isLt (by decide : (cfg0.win 4).nblk (0 : Fin 2) = 16)
    have h1 : (β (1 : Fin 2)).val < 1 := lt_of_lt_of_eq (β (1 : Fin 2)).isLt (by decide : (cfg0.win 4).nblk (1 : Fin 2) = 1)
    refine ⟨fun a => match a with
      | ⟨0, _⟩ => ⟨(β (0 : Fin 2)).val, h0⟩, fun a => ?_⟩
    match a with
    | ⟨0, _⟩ => exact Sums.word_of_lt (lt_trans h0 (by decide))
    | ⟨1, _⟩ => exact (Nat.lt_one_iff.mp h1).symm

/-- The array of it. -/
theorem final_tokens : (dats m 0 c).arrAt 4 cfg0.N = dTokens (argX m c) (argGain m c) (argU m c) (argH m c) := by
  refine (dats m 0 c).arrAt_eq_of_covers 4 _ covers4 fun t hf y => ?_
  rw [after0_4]
  blk_simp
  have hN := point_lt t
  obtain ⟨r, j, rfl⟩ : ∃ (r : Fin 256) (j : Fin 2048), y = ix2 r j := ⟨y 0, y 1, eq_ix2 y⟩
  have hr := r.isLt
  have e : (win0_4.blk t).view.emb (ix2 r j) = ix2 (tok t.val r) j := by
    blk_ext [index_t t]
  rw [e]
  exact rows_after m c t r j

/-! ## The gain's gradient -/

/-- What a block of tokens adds to it. -/
def part (x h : Tokens) (j : Fin 2048) (b : ℕ) : EReal := ∑ r : Fin 256, dGain (row x (tok b r)) (row h (tok b r)) j

/-- The blocks' parts make it up. -/
theorem parts (x h : Tokens) (j : Fin 2048) : ∑ b ∈ range 16, part x h j b = dGains x h (ix2 0 j) := by
  unfold part dGains
  rw [Finset.sum_range, ← Sums.sum_fin_blocks (J := 16) (n := 256) rfl]
  exact Finset.sum_congr rfl fun b _ => Finset.sum_congr rfl fun r _ =>
    congrArg (fun t => dGain (row x t) (row h t) j) (Fin.ext (by dsimp only; omega))

/-- A point's addition. -/
theorem step (t : Fin cfg0.N) (j : Fin 2048) : ∑ s ∈ range 256, gain (iblk m c 0 t) (iblk m c 3 t) j s = part (argX m c) (argH m c) j t.val := by
  rw [Finset.sum_range]
  refine Finset.sum_congr rfl fun r _ => ?_
  unfold gain
  rw [dif_pos r.isLt, row_x, row_h]

/-- What a point leaves: the sum over the blocks so far. -/
theorem gain_after (j : Fin 2048) : ∀ (i : ℕ) (t : Fin cfg0.N), t.val = i →
    ((outsAt0 m c t.val t.isLt).2 : FVec Ideal S1x2048 .f32) (ix2 0 j) = ∑ b ∈ range (i + 1), part (argX m c) (argH m c) j b
  | 0, t, h => by
    rw [outsAt0_A m c t (by omega)]
    dsimp only
    rw [gain_A, step, h, Finset.sum_range_one]
  | i + 1, t, h => by
    have hN := point_lt t
    have ih := gain_after j i ⟨t.val - 1, lt_of_le_of_lt (Nat.sub_le _ _) t.isLt⟩ (by dsimp only; omega)
    rw [outsAt0_B m c t (by omega)]
    dsimp only
    rw [gain_B, step, Finset.sum_range_succ _ (i + 1)]
    exact congrArg₂ (fun u v : EReal => u + v) ih (congrArg (part _ _ j) h)

/-- Its one block is every point's. -/
theorem covers5 : (cfg0.win 5).Covers :=
  (cfg0.win 5).covers_of_indexMap_surj rfl (by decide) fun β => by
    have h0 : (β (0 : Fin 2)).val < 1 := lt_of_lt_of_eq (β (0 : Fin 2)).isLt (by decide : (cfg0.win 5).nblk (0 : Fin 2) = 1)
    have h1 : (β (1 : Fin 2)).val < 1 := lt_of_lt_of_eq (β (1 : Fin 2)).isLt (by decide : (cfg0.win 5).nblk (1 : Fin 2) = 1)
    refine ⟨fun a => match a with
      | ⟨0, _⟩ => ⟨0, (by decide : 0 < 16)⟩, fun a => ?_⟩
    match a with
    | ⟨0, _⟩ => exact (Nat.lt_one_iff.mp h0).symm
    | ⟨1, _⟩ => exact (Nat.lt_one_iff.mp h1).symm

/-- The array of it. -/
theorem final_gain : (dats m 0 c).arrAt 5 cfg0.N = dGains (argX m c) (argH m c) := by
  refine (dats m 0 c).arrAt_eq_of_covers 5 _ covers5 fun t hf y => ?_
  have h1 : t.val % 16 = 15 := (flush0_5 t).mp hf
  have hN := point_lt t
  rw [after0_5]
  obtain ⟨r, j, rfl⟩ : ∃ (r : Fin 1) (j : Fin 2048), y = ix2 r j := ⟨y 0, y 1, eq_ix2 y⟩
  obtain rfl : r = 0 := Subsingleton.elim _ _
  have e : (win0_5.blk t).view.emb (ix2 0 j) = ix2 (0 : Fin 1) j := by
    blk_ext [index_t t]
  blk_simp
  rw [e]
  exact (gain_after m c j 15 t (by omega)).trans (parts _ _ _)

/-! ## The claims -/

/-- The reference terminates without a fault and leaves its arguments unchanged; it has no semaphore. -/
theorem frame_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- The two programs leave the same gradients of the tokens and of the gain. -/
theorem same : Cert.algebraic_Kernel10Ideal_Reference10Ideal := by
  intro m ρ m' ρ' _ hagree
  refine ⟨fun c => dTokens (argX m c) (argGain m c) (argU m c) (argH m c), fun c => dGains (argX m c) (argH m c),
    (θ_run Cert.Kernel10Ideal.defs _ _).mono (fun r h c => ⟨(h c).1.trans (final_tokens m c), (h c).2.1.trans (final_gain m c), (h c).2.2⟩)
      (Cert.Kernel10Ideal.Value.run_blocks (F := Ideal) m ρ),
    (θ_run Cert.Reference10Ideal.defs _ _).mono (fun r h c => ?_) (Cert.Reference10Ideal.Value.run (F := Ideal) m' ρ')⟩
  obtain ⟨h0, h1, h2⟩ := h c
  obtain ⟨eX, eG, eU, eH⟩ := hagree c
  beta_reduce
  rw [show argX m c = _ from eX.symm, show argGain m c = _ from eG.symm, show argU m c = _ from eU.symm, show argH m c = _ from eH.symm]
  exact ⟨h0.trans (NormRef.tokens_eq ..), h1.trans (NormRef.gains_eq ..), h2⟩

end Cert.NormGrid

end
-- ==== Proof.lean ====
/-
  The gradient of stick-breaking attention, the six products of the feed-forward network and the cross-attention into the
  memory with its gradient, and the gradient of the norm before a mixer: the kernels' runs and results.

  `frame_kernel`, `frame_ideal` and `frame_reference` say that the programs terminate without a fault, leave their
  arguments unchanged and every semaphore counter at zero; `same_gradients` that the kernel and the reference leave the
  same three arrays, the gradients of the queries, the keys and the values of every head, for all finite arguments.
  What is said of the products is in `Products.lean`: two forward (`InFwd`, `OutFwd`) and, for each, the gradients of its
  weight (`InDw`, `OutDw`) and of its other factor (`InDx`, `OutDx`), for all arguments. What is said of the
  cross-attention into the memory is in `MemoryClaims.lean`: its result (`MemoryFwd`), and the gradients of its queries,
  keys and values (`MemoryBwd`), for all arguments. What is said of the norm's gradient is in `NormClaims.lean`: the
  gradients of the tokens and of the gain, for all arguments.
-/
module

public import proofs.«01_k».proof.Proof.FiniteArgs
public import proofs.«01_k».proof.Proof.RefValue
public import proofs.«01_k».proof.Proof.Products
public import proofs.«01_k».proof.Proof.MemoryClaims
public import proofs.«01_k».proof.Proof.NormClaims
public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Kernel4.Frame
public import proofs.«01_k».proof.Proof.Gen.Kernel4Ideal.Value
public import proofs.«01_k».proof.Proof.Gen.Kernel5.Frame
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Kernel7.Frame
public import proofs.«01_k».proof.Proof.Gen.Kernel7Ideal.Value
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import Idealize.ShloMosaic.Adequacy
public import Idealize.ShloMosaic.Init

@[expose] public section

noncomputable section

namespace Cert.Proof

open Idealize.ShloMosaic Idealize.SL.Sem

/-- The kernel terminates without a fault and leaves its arguments and every counter as they were. -/
theorem frame_kernel : Cert.quiescent_Kernel := fun m ρ _ => Cert.Kernel.Gen.frame m ρ

/-- So does its ideal program. -/
theorem frame_ideal : Cert.quiescent_KernelIdeal := fun m ρ _ => Cert.KernelIdeal.Gen.frame m ρ

/-- The reference terminates without a fault and leaves its arguments unchanged; it has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The two programs leave the same gradients of the queries, keys and values. -/
theorem same_gradients : Cert.algebraic_KernelIdeal_ReferenceIdeal_pre_finite := by
  intro m ρ m' ρ' hf hagree
  refine ⟨fun c => Cert.Stick.heads fun h => (Cert.Stick.headOf (Cert.Stick.argX m c) (Cert.Stick.argG m c) h).dq,
    fun c => Cert.Stick.heads fun h => (Cert.Stick.headOf (Cert.Stick.argX m c) (Cert.Stick.argG m c) h).dk,
    fun c => Cert.Stick.heads fun h => (Cert.Stick.headOf (Cert.Stick.argX m c) (Cert.Stick.argG m c) h).dv,
    (θ_run Cert.KernelIdeal.defs _ _).mono (fun r h c => ?_) (Cert.KernelIdeal.Value.run_blocks (F := Ideal) m ρ),
    (θ_run Cert.ReferenceIdeal.defs _ _).mono (fun r h c => ?_) (Cert.ReferenceIdeal.Value.run (F := Ideal) m' ρ')⟩
  · have hX := Cert.Stick.finite_argX hf c
    have hG := Cert.Stick.finite_argG hf c
    have hT := Cert.Stick.totals m c hX
    obtain ⟨h0, h1, h2, h3⟩ := h c
    exact ⟨h0.trans (Cert.Stick.final_dq m c hX hG hT), h1.trans (Cert.Stick.final_dk m c hX hG hT), h2.trans (Cert.Stick.final_dv m c hX hG hT), h3⟩
  · have hX := Cert.Stick.finite_argX hf c
    have hG := Cert.Stick.finite_argG hf c
    have eX : Cert.Stick.refX (StableHlo.launchContents m' c) = Cert.Stick.argX m c := (hagree c).1
    have eG : Cert.Stick.refG (StableHlo.launchContents m' c) = Cert.Stick.argG m c := (hagree c).2
    rw [← eX] at hX
    rw [← eG] at hG
    obtain ⟨h0, h1, h2, h3⟩ := h c
    beta_reduce
    rw [← eX, ← eG]
    exact ⟨h0.trans (Cert.Stick.ref_dq hX hG Cert.ReferenceIdeal.Gen.slices_S4096x6144_S4096x2048_0_0), h1.trans (Cert.Stick.ref_dk hX hG Cert.ReferenceIdeal.Gen.slices_S4096x6144_S4096x2048_0_2048), h2.trans (Cert.Stick.ref_dv hX hG Cert.ReferenceIdeal.Gen.slices_S4096x6144_S4096x2048_0_4096), h3⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Stick.finiteFacts,
    frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, Cert.InDw.frame_reference,
    fun m ρ _ => Cert.Kernel3.Gen.frame m ρ, fun m ρ _ => Cert.Kernel3Ideal.Gen.frame m ρ, Cert.OutDw.frame_reference,
    fun m ρ _ => Cert.Kernel4.Gen.frame m ρ, fun m ρ _ => Cert.Kernel4Ideal.Gen.frame m ρ, Cert.OutDx.frame_reference,
    fun m ρ _ => Cert.Kernel5.Gen.frame m ρ, fun m ρ _ => Cert.Kernel5Ideal.Gen.frame m ρ, Cert.InFwd.frame_reference,
    fun m ρ _ => Cert.Kernel6.Gen.frame m ρ, fun m ρ _ => Cert.Kernel6Ideal.Gen.frame m ρ, Cert.InDx.frame_reference,
    fun m ρ _ => Cert.Kernel7.Gen.frame m ρ, fun m ρ _ => Cert.Kernel7Ideal.Gen.frame m ρ, Cert.OutFwd.frame_reference,
    fun m ρ _ => Cert.Kernel8.Gen.frame m ρ, fun m ρ _ => Cert.Kernel8Ideal.Gen.frame m ρ, Cert.MemoryBwd.frame_reference,
    fun m ρ _ => Cert.Kernel9.Gen.frame m ρ, fun m ρ _ => Cert.Kernel9Ideal.Gen.frame m ρ, Cert.MemoryFwd.frame_reference,
    fun m ρ _ => Cert.Kernel10.Gen.frame m ρ, fun m ρ _ => Cert.Kernel10Ideal.Gen.frame m ρ, Cert.NormGrid.frame_reference,
    trivial, same_gradients, trivial, Cert.InDw.same, trivial, Cert.OutDw.same, trivial, Cert.OutDx.same, trivial, Cert.InFwd.same, trivial, Cert.InDx.same, trivial, Cert.OutFwd.same,
    trivial, Cert.MemoryBwd.same, trivial, Cert.MemoryFwd.same, trivial, Cert.NormGrid.same⟩

end Cert.Proof

end
